-- ==== Defs.lean ====
def Pre_Kernel [hPre_goals_in_range : Cert.Pre_goals_in_range.Facts] (m : (ℓ : Loc Cert.Kernel.nD Cert.Kernel.τ Cert.Kernel.sig) → Buf (Elt Bits) ℓ) : Prop :=
  ∀ c : Dev Cert.Kernel.nD,
    (Cert.Pre_goals_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_goals_in_range : Cert.Pre_goals_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_goals_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_goals_in_range : Cert.Pre_goals_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_goals_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_goals_in_range : Cert.Pre_goals_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_goals_in_range : Cert.Pre_goals_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_goals_in_range : Cert.Pre_goals_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_goals_in_range : Cert.Pre_goals_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_goals_in_range : Cert.Pre_goals_in_range.Facts),
    quiescent_Kernel (hKernel := hKernel) (hPre_goals_in_range := hPre_goals_in_range)
    ∧ quiescent_KernelIdeal (hKernelIdeal := hKernelIdeal) (hPre_goals_in_range := hPre_goals_in_range)
    ∧ quiescent_ReferenceIdeal (hReferenceIdeal := hReferenceIdeal) (hPre_goals_in_range := hPre_goals_in_range)
    ∧ preserves_Kernel_KernelIdeal
    ∧ algebraic_KernelIdeal_ReferenceIdeal (hKernelIdeal := hKernelIdeal) (hReferenceIdeal := hReferenceIdeal) (hPre_goals_in_range := hPre_goals_in_range)
-- ==== Pre_goals_in_range.lean ====
abbrev S4096x128 : Shape := ⟨2, ![4096, 128]⟩
abbrev S4096x1 : Shape := ⟨2, ![4096, 1]⟩
abbrev S16x128x128 : Shape := ⟨3, ![16, 128, 128]⟩
abbrev S16x128 : Shape := ⟨2, ![16, 128]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel

variable [Facts]

def fn {F : FTy → Type} [FloatOps F] (main_arg0 : FVec F S4096x128 .f32) (main_arg1 : IVec S4096x1 32) (main_arg2 : FVec F S16x128x128 .f32) (main_arg3 : FVec F S16x128 .f32) (main_arg4 : FVec F S16x128x128 .f32) (main_arg5 : FVec F S16x128 .f32) (main_arg6 : FVec F S16x128x128 .f32) (main_arg7 : FVec F S16x128 .f32) (main_arg8 : FVec F S16x128x128 .f32) (main_arg9 : FVec F S16x128 .f32) : IVec S_ 1 :=
  let main_c : IVec S_ 32 := constantI S_ 32 0#32
  let main_v0 : IVec S4096x1 32 := broadcastInDim S4096x1 ![] bcast_S_S4096x1 main_c
  let main_v1 : IVec S4096x1 1 := cmpi .sge main_arg1 main_v0
  let main_c_0 : IVec S_ 32 := constantI S_ 32 16#32
  let main_v2 : IVec S4096x1 32 := broadcastInDim S4096x1 ![] bcast_S_S4096x1 main_c_0
  let main_v3 : IVec S4096x1 1 := cmpi .slt main_arg1 main_v2
  let main_v4 : IVec S4096x1 1 := andi main_v1 main_v3
  let main_c_1 : IVec S_ 1 := constantI S_ 1 1#1
  let main_v5 : IVec S_ 1 := (fun x v => Host.reduce IntOp.andi x v reducesTo_S4096x1_S_d0_1 h_S_) main_v4 main_c_1
  main_v5
-- ==== Kernel.lean ====
abbrev S4096x128 : Shape := ⟨2, ![4096, 128]⟩
abbrev S4096x1 : Shape := ⟨2, ![4096, 1]⟩
abbrev S16x128x128 : Shape := ⟨3, ![16, 128, 128]⟩
abbrev S16x128 : Shape := ⟨2, ![16, 128]⟩
abbrev S4096 : Shape := ⟨1, ![4096]⟩
abbrev S16 : Shape := ⟨1, ![16]⟩
abbrev S1x128 : Shape := ⟨2, ![1, 128]⟩
abbrev S128x128 : Shape := ⟨2, ![128, 128]⟩
abbrev S_ : Shape := ⟨0, ![]⟩
abbrev S1x16 : Shape := ⟨2, ![1, 16]⟩
abbrev S128 : Shape := ⟨1, ![128]⟩
abbrev S16x1x128 : Shape := ⟨3, ![16, 1, 128]⟩
abbrev S256x128 : Shape := ⟨2, ![256, 128]⟩
abbrev S256x1 : Shape := ⟨2, ![256, 1]⟩
abbrev S1 : Shape := ⟨1, ![1]⟩
abbrev S1x128x128 : Shape := ⟨3, ![1, 128, 128]⟩
abbrev S1x1x128 : Shape := ⟨3, ![1, 1, 128]⟩

abbrev nBuf : Table → Nat
  | .hbm => 22
  | .local .tc .vmem => 14
  | .local .tc .smem => 1
  | .local .scVector .vmem => 9
  | _ => 0

abbrev bufTy : (tb : Table) → Fin (nBuf tb) → BufTy
  | .hbm, ⟨0, _⟩ => ⟨S4096x128, .f32⟩
  | .hbm, ⟨1, _⟩ => ⟨S4096x1, .i32⟩
  | .hbm, ⟨2, _⟩ => ⟨S16x128x128, .f32⟩
  | .hbm, ⟨3, _⟩ => ⟨S16x128, .f32⟩
  | .hbm, ⟨4, _⟩ => ⟨S16x128x128, .f32⟩
  | .hbm, ⟨5, _⟩ => ⟨S16x128, .f32⟩
  | .hbm, ⟨6, _⟩ => ⟨S16x128x128, .f32⟩
  | .hbm, ⟨7, _⟩ => ⟨S16x128, .f32⟩
  | .hbm, ⟨8, _⟩ => ⟨S16x128x128, .f32⟩
  | .hbm, ⟨9, _⟩ => ⟨S16x128, .f32⟩
  | .hbm, ⟨10, _⟩ => ⟨S4096, .i32⟩
  | .hbm, ⟨11, _⟩ => ⟨S4096x128, .f32⟩
  | .hbm, ⟨12, _⟩ => ⟨S4096, .i32⟩
  | .hbm, ⟨13, _⟩ => ⟨S16, .i32⟩
  | .hbm, ⟨14, _⟩ => ⟨S16x1x128, .f32⟩
  | .hbm, ⟨15, _⟩ => ⟨S16x1x128, .f32⟩
  | .hbm, ⟨16, _⟩ => ⟨S16x1x128, .f32⟩
  | .hbm, ⟨17, _⟩ => ⟨S16x1x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .local .tc .vmem, ⟨0, _⟩ => ⟨S256x128, .f32⟩
  | .local .tc .vmem, ⟨1, _⟩ => ⟨S256x128, .f32⟩
  | .local .tc .vmem, ⟨2, _⟩ => ⟨S16x128x128, .f32⟩
  | .local .tc .vmem, ⟨3, _⟩ => ⟨S16x1x128, .f32⟩
  | .local .tc .vmem, ⟨4, _⟩ => ⟨S16x128x128, .f32⟩
  | .local .tc .vmem, ⟨5, _⟩ => ⟨S16x1x128, .f32⟩
  | .local .tc .vmem, ⟨6, _⟩ => ⟨S16x128x128, .f32⟩
  | .local .tc .vmem, ⟨7, _⟩ => ⟨S16x1x128, .f32⟩
  | .local .tc .vmem, ⟨8, _⟩ => ⟨S16x128x128, .f32⟩
  | .local .tc .vmem, ⟨9, _⟩ => ⟨S16x1x128, .f32⟩
  | .local .tc .vmem, ⟨10, _⟩ => ⟨S256x128, .f32⟩
  | .local .tc .vmem, ⟨11, _⟩ => ⟨S256x128, .f32⟩
  | .local .tc .vmem, ⟨12, _⟩ => ⟨S256x128, .f32⟩
  | .local .tc .vmem, ⟨13, _⟩ => ⟨S256x128, .f32⟩
  | .local .tc .smem, ⟨0, _⟩ => ⟨S16, .i32⟩
  | .local .scVector .vmem, ⟨0, _⟩ => ⟨S4096, .i32⟩
  | .local .scVector .vmem, ⟨1, _⟩ => ⟨S16, .i32⟩
  | .local .scVector .vmem, ⟨2, _⟩ => ⟨S16, .i32⟩
  | .local .scVector .vmem, ⟨3, _⟩ => ⟨S16, .i32⟩
  | .local .scVector .vmem, ⟨4, _⟩ => ⟨S1x128, .i32⟩
  | .local .scVector .vmem, ⟨5, _⟩ => ⟨S128x128, .f32⟩
  | .local .scVector .vmem, ⟨6, _⟩ => ⟨S128, .i32⟩
  | .local .scVector .vmem, ⟨7, _⟩ => ⟨S128x128, .f32⟩
  | .local .scVector .vmem, ⟨8, _⟩ => ⟨S128x128, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7_0 : Ref sig .tc := ⟨.hbm, 20, rfl⟩
abbrev main_v7_1 : Ref sig .tc := ⟨.hbm, 21, rfl⟩
abbrev main_v0_scv : Ref sig .scVector := ⟨.hbm, 10, rfl⟩
abbrev main_arg0_scv : Ref sig .scVector := ⟨.hbm, 0, rfl⟩
abbrev main_v1_0_scv : Ref sig .scVector := ⟨.hbm, 11, rfl⟩
abbrev main_v1_1_scv : Ref sig .scVector := ⟨.hbm, 12, rfl⟩
abbrev main_v1_2_scv : Ref sig .scVector := ⟨.hbm, 13, rfl⟩
abbrev main_v6_0_scv : Ref sig .scVector := ⟨.hbm, 18, rfl⟩
abbrev main_v6_1_scv : Ref sig .scVector := ⟨.hbm, 19, rfl⟩
abbrev main_v7_0_scv : Ref sig .scVector := ⟨.hbm, 20, rfl⟩
abbrev main_v7_1_scv : Ref sig .scVector := ⟨.hbm, 21, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg10_1 : Ref sig .tc := ⟨.vmem, 11, rfl⟩
abbrev cc1_stg11_0 : Ref sig .tc := ⟨.vmem, 12, rfl⟩
abbrev cc1_stg11_1 : Ref sig .tc := ⟨.vmem, 13, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18
abbrev cc1_sem11_0 : DmaSem sig := 19
abbrev cc1_sem11_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v8 : IVec S16 32) : Prop :=
  (∀ a x, ((![v8] : Fin 1 → IVec S16 32) a x).toNat < S16.size a)
theorem k0_idx1_inb : ∀ (v8 : IVec S16 32) (k0_hw1 : k0_chk1 v8), ∀ a x, ((![v8] : Fin 1 → IVec S16 32) a x).toNat < S16.size a := fun v8 k0_hw1 => k0_hw1

def k0_chk2 (v9 : IVec S16 32) : Prop :=
  (∀ a x, ((![v9] : Fin 1 → IVec S16 32) a x).toNat < S16.size a)
theorem k0_idx2_inb : ∀ (v9 : IVec S16 32) (k0_hw2 : k0_chk2 v9), ∀ a x, ((![v9] : Fin 1 → IVec S16 32) a x).toNat < S16.size a := fun v9 k0_hw2 => k0_hw2

def k0_chk3 (v10 : IVec S16 32) : Prop :=
  (∀ a x, ((![v10] : Fin 1 → IVec S16 32) a x).toNat < S16.size a)
theorem k0_idx3_inb : ∀ (v10 : IVec S16 32) (k0_hw3 : k0_chk3 v10), ∀ a x, ((![v10] : Fin 1 → IVec S16 32) a x).toNat < S16.size a := fun v10 k0_hw3 => k0_hw3

def k0_chk4 (v11 : IVec S16 32) : Prop :=
  (∀ a x, ((![v11] : Fin 1 → IVec S16 32) a x).toNat < S16.size a)
theorem k0_idx4_inb : ∀ (v11 : IVec S16 32) (k0_hw4 : k0_chk4 v11), ∀ a x, ((![v11] : Fin 1 → IVec S16 32) a x).toNat < S16.size a := fun v11 k0_hw4 => k0_hw4

def k0_chk5 (v12 : IVec S16 32) : Prop :=
  (∀ a x, ((![v12] : Fin 1 → IVec S16 32) a x).toNat < S16.size a)
theorem k0_idx5_inb : ∀ (v12 : IVec S16 32) (k0_hw5 : k0_chk5 v12), ∀ a x, ((![v12] : Fin 1 → IVec S16 32) a x).toNat < S16.size a := fun v12 k0_hw5 => k0_hw5

def k0_chk6 (v13 : IVec S16 32) : Prop :=
  (∀ a x, ((![v13] : Fin 1 → IVec S16 32) a x).toNat < S16.size a)
theorem k0_idx6_inb : ∀ (v13 : IVec S16 32) (k0_hw6 : k0_chk6 v13), ∀ a x, ((![v13] : Fin 1 → IVec S16 32) a x).toNat < S16.size a := fun v13 k0_hw6 => k0_hw6

def k0_chk7 (v14 : IVec S16 32) : Prop :=
  (∀ a x, ((![v14] : Fin 1 → IVec S16 32) a x).toNat < S16.size a)
theorem k0_idx7_inb : ∀ (v14 : IVec S16 32) (k0_hw7 : k0_chk7 v14), ∀ a x, ((![v14] : Fin 1 → IVec S16 32) a x).toNat < S16.size a := fun v14 k0_hw7 => k0_hw7

def k0_chk8 (v15 : IVec S16 32) : Prop :=
  (∀ a x, ((![v15] : Fin 1 → IVec S16 32) a x).toNat < S16.size a)
theorem k0_idx8_inb : ∀ (v15 : IVec S16 32) (k0_hw8 : k0_chk8 v15), ∀ a x, ((![v15] : Fin 1 → IVec S16 32) a x).toNat < S16.size a := fun v15 k0_hw8 => k0_hw8

def k0_chk9 (v26 : IVec S16 32) : Prop :=
  (∀ a x, ((![v26] : Fin 1 → IVec S16 32) a x).toNat < S16.size a)
theorem k0_idx9_inb : ∀ (v26 : IVec S16 32) (k0_hw9 : k0_chk9 v26), ∀ a x, ((![v26] : Fin 1 → IVec S16 32) a x).toNat < S16.size a := fun v26 k0_hw9 => k0_hw9

def k0_chk10 (v27 : IVec S16 32) : Prop :=
  (∀ a x, ((![v27] : Fin 1 → IVec S16 32) a x).toNat < S16.size a)
theorem k0_idx10_inb : ∀ (v27 : IVec S16 32) (k0_hw10 : k0_chk10 v27), ∀ a x, ((![v27] : Fin 1 → IVec S16 32) a x).toNat < S16.size a := fun v27 k0_hw10 => k0_hw10

def k0_chk11 (v28 : IVec S16 32) : Prop :=
  (∀ a x, ((![v28] : Fin 1 → IVec S16 32) a x).toNat < S16.size a)
theorem k0_idx11_inb : ∀ (v28 : IVec S16 32) (k0_hw11 : k0_chk11 v28), ∀ a x, ((![v28] : Fin 1 → IVec S16 32) a x).toNat < S16.size a := fun v28 k0_hw11 => k0_hw11

def k0_chk12 (v29 : IVec S16 32) : Prop :=
  (∀ a x, ((![v29] : Fin 1 → IVec S16 32) a x).toNat < S16.size a)
theorem k0_idx12_inb : ∀ (v29 : IVec S16 32) (k0_hw12 : k0_chk12 v29), ∀ a x, ((![v29] : Fin 1 → IVec S16 32) a x).toNat < S16.size a := fun v29 k0_hw12 => k0_hw12

def k0_chk13 (v30 : IVec S16 32) : Prop :=
  (∀ a x, ((![v30] : Fin 1 → IVec S16 32) a x).toNat < S16.size a)
theorem k0_idx13_inb : ∀ (v30 : IVec S16 32) (k0_hw13 : k0_chk13 v30), ∀ a x, ((![v30] : Fin 1 → IVec S16 32) a x).toNat < S16.size a := fun v30 k0_hw13 => k0_hw13

def k0_chk14 (v31 : IVec S16 32) : Prop :=
  (∀ a x, ((![v31] : Fin 1 → IVec S16 32) a x).toNat < S16.size a)
theorem k0_idx14_inb : ∀ (v31 : IVec S16 32) (k0_hw14 : k0_chk14 v31), ∀ a x, ((![v31] : Fin 1 → IVec S16 32) a x).toNat < S16.size a := fun v31 k0_hw14 => k0_hw14

def k0_chk15 (v32 : IVec S16 32) : Prop :=
  (∀ a x, ((![v32] : Fin 1 → IVec S16 32) a x).toNat < S16.size a)
theorem k0_idx15_inb : ∀ (v32 : IVec S16 32) (k0_hw15 : k0_chk15 v32), ∀ a x, ((![v32] : Fin 1 → IVec S16 32) a x).toNat < S16.size a := fun v32 k0_hw15 => k0_hw15

def k0_chk16 (v33 : IVec S16 32) : Prop :=
  (∀ a x, ((![v33] : Fin 1 → IVec S16 32) a x).toNat < S16.size a)
theorem k0_idx16_inb : ∀ (v33 : IVec S16 32) (k0_hw16 : k0_chk16 v33), ∀ a x, ((![v33] : Fin 1 → IVec S16 32) a x).toNat < S16.size a := fun v33 k0_hw16 => k0_hw16

def k0_chk17 (v44 : IVec S16 32) : Prop :=
  (∀ a x, ((![v44] : Fin 1 → IVec S16 32) a x).toNat < S16.size a)
theorem k0_idx17_inb : ∀ (v44 : IVec S16 32) (k0_hw17 : k0_chk17 v44), ∀ a x, ((![v44] : Fin 1 → IVec S16 32) a x).toNat < S16.size a := fun v44 k0_hw17 => k0_hw17

def k0_chk18 (v45 : IVec S16 32) : Prop :=
  (∀ a x, ((![v45] : Fin 1 → IVec S16 32) a x).toNat < S16.size a)
theorem k0_idx18_inb : ∀ (v45 : IVec S16 32) (k0_hw18 : k0_chk18 v45), ∀ a x, ((![v45] : Fin 1 → IVec S16 32) a x).toNat < S16.size a := fun v45 k0_hw18 => k0_hw18

def k0_chk19 (v46 : IVec S16 32) : Prop :=
  (∀ a x, ((![v46] : Fin 1 → IVec S16 32) a x).toNat < S16.size a)
theorem k0_idx19_inb : ∀ (v46 : IVec S16 32) (k0_hw19 : k0_chk19 v46), ∀ a x, ((![v46] : Fin 1 → IVec S16 32) a x).toNat < S16.size a := fun v46 k0_hw19 => k0_hw19

def k0_chk20 (v47 : IVec S16 32) : Prop :=
  (∀ a x, ((![v47] : Fin 1 → IVec S16 32) a x).toNat < S16.size a)
theorem k0_idx20_inb : ∀ (v47 : IVec S16 32) (k0_hw20 : k0_chk20 v47), ∀ a x, ((![v47] : Fin 1 → IVec S16 32) a x).toNat < S16.size a := fun v47 k0_hw20 => k0_hw20

def k0_chk21 (v48 : IVec S16 32) : Prop :=
  (∀ a x, ((![v48] : Fin 1 → IVec S16 32) a x).toNat < S16.size a)
theorem k0_idx21_inb : ∀ (v48 : IVec S16 32) (k0_hw21 : k0_chk21 v48), ∀ a x, ((![v48] : Fin 1 → IVec S16 32) a x).toNat < S16.size a := fun v48 k0_hw21 => k0_hw21

def k0_chk22 (v49 : IVec S16 32) : Prop :=
  (∀ a x, ((![v49] : Fin 1 → IVec S16 32) a x).toNat < S16.size a)
theorem k0_idx22_inb : ∀ (v49 : IVec S16 32) (k0_hw22 : k0_chk22 v49), ∀ a x, ((![v49] : Fin 1 → IVec S16 32) a x).toNat < S16.size a := fun v49 k0_hw22 => k0_hw22

def k0_chk23 (v50 : IVec S16 32) : Prop :=
  (∀ a x, ((![v50] : Fin 1 → IVec S16 32) a x).toNat < S16.size a)
theorem k0_idx23_inb : ∀ (v50 : IVec S16 32) (k0_hw23 : k0_chk23 v50), ∀ a x, ((![v50] : Fin 1 → IVec S16 32) a x).toNat < S16.size a := fun v50 k0_hw23 => k0_hw23

def k0_chk24 (v51 : IVec S16 32) : Prop :=
  (∀ a x, ((![v51] : Fin 1 → IVec S16 32) a x).toNat < S16.size a)
theorem k0_idx24_inb : ∀ (v51 : IVec S16 32) (k0_hw24 : k0_chk24 v51), ∀ a x, ((![v51] : Fin 1 → IVec S16 32) a x).toNat < S16.size a := fun v51 k0_hw24 => k0_hw24

def k0_chk25 (v62 : IVec S16 32) : Prop :=
  (∀ a x, ((![v62] : Fin 1 → IVec S16 32) a x).toNat < S16.size a)
theorem k0_idx25_inb : ∀ (v62 : IVec S16 32) (k0_hw25 : k0_chk25 v62), ∀ a x, ((![v62] : Fin 1 → IVec S16 32) a x).toNat < S16.size a := fun v62 k0_hw25 => k0_hw25

def k0_chk26 (v63 : IVec S16 32) : Prop :=
  (∀ a x, ((![v63] : Fin 1 → IVec S16 32) a x).toNat < S16.size a)
theorem k0_idx26_inb : ∀ (v63 : IVec S16 32) (k0_hw26 : k0_chk26 v63), ∀ a x, ((![v63] : Fin 1 → IVec S16 32) a x).toNat < S16.size a := fun v63 k0_hw26 => k0_hw26

def k0_chk27 (v64 : IVec S16 32) : Prop :=
  (∀ a x, ((![v64] : Fin 1 → IVec S16 32) a x).toNat < S16.size a)
theorem k0_idx27_inb : ∀ (v64 : IVec S16 32) (k0_hw27 : k0_chk27 v64), ∀ a x, ((![v64] : Fin 1 → IVec S16 32) a x).toNat < S16.size a := fun v64 k0_hw27 => k0_hw27

def k0_chk28 (v65 : IVec S16 32) : Prop :=
  (∀ a x, ((![v65] : Fin 1 → IVec S16 32) a x).toNat < S16.size a)
theorem k0_idx28_inb : ∀ (v65 : IVec S16 32) (k0_hw28 : k0_chk28 v65), ∀ a x, ((![v65] : Fin 1 → IVec S16 32) a x).toNat < S16.size a := fun v65 k0_hw28 => k0_hw28

def k0_chk29 (v66 : IVec S16 32) : Prop :=
  (∀ a x, ((![v66] : Fin 1 → IVec S16 32) a x).toNat < S16.size a)
theorem k0_idx29_inb : ∀ (v66 : IVec S16 32) (k0_hw29 : k0_chk29 v66), ∀ a x, ((![v66] : Fin 1 → IVec S16 32) a x).toNat < S16.size a := fun v66 k0_hw29 => k0_hw29

def k0_chk30 (v67 : IVec S16 32) : Prop :=
  (∀ a x, ((![v67] : Fin 1 → IVec S16 32) a x).toNat < S16.size a)
theorem k0_idx30_inb : ∀ (v67 : IVec S16 32) (k0_hw30 : k0_chk30 v67), ∀ a x, ((![v67] : Fin 1 → IVec S16 32) a x).toNat < S16.size a := fun v67 k0_hw30 => k0_hw30

def k0_chk31 (v68 : IVec S16 32) : Prop :=
  (∀ a x, ((![v68] : Fin 1 → IVec S16 32) a x).toNat < S16.size a)
theorem k0_idx31_inb : ∀ (v68 : IVec S16 32) (k0_hw31 : k0_chk31 v68), ∀ a x, ((![v68] : Fin 1 → IVec S16 32) a x).toNat < S16.size a := fun v68 k0_hw31 => k0_hw31

def k0_chk32 (v69 : IVec S16 32) : Prop :=
  (∀ a x, ((![v69] : Fin 1 → IVec S16 32) a x).toNat < S16.size a)
theorem k0_idx32_inb : ∀ (v69 : IVec S16 32) (k0_hw32 : k0_chk32 v69), ∀ a x, ((![v69] : Fin 1 → IVec S16 32) a x).toNat < S16.size a := fun v69 k0_hw32 => k0_hw32

def k0_chk33 (v80 : IVec S16 32) : Prop :=
  (∀ a x, ((![v80] : Fin 1 → IVec S16 32) a x).toNat < S16.size a)
theorem k0_idx33_inb : ∀ (v80 : IVec S16 32) (k0_hw33 : k0_chk33 v80), ∀ a x, ((![v80] : Fin 1 → IVec S16 32) a x).toNat < S16.size a := fun v80 k0_hw33 => k0_hw33

def k0_chk34 (v81 : IVec S16 32) : Prop :=
  (∀ a x, ((![v81] : Fin 1 → IVec S16 32) a x).toNat < S16.size a)
theorem k0_idx34_inb : ∀ (v81 : IVec S16 32) (k0_hw34 : k0_chk34 v81), ∀ a x, ((![v81] : Fin 1 → IVec S16 32) a x).toNat < S16.size a := fun v81 k0_hw34 => k0_hw34

def k0_chk35 (v82 : IVec S16 32) : Prop :=
  (∀ a x, ((![v82] : Fin 1 → IVec S16 32) a x).toNat < S16.size a)
theorem k0_idx35_inb : ∀ (v82 : IVec S16 32) (k0_hw35 : k0_chk35 v82), ∀ a x, ((![v82] : Fin 1 → IVec S16 32) a x).toNat < S16.size a := fun v82 k0_hw35 => k0_hw35

def k0_chk36 (v83 : IVec S16 32) : Prop :=
  (∀ a x, ((![v83] : Fin 1 → IVec S16 32) a x).toNat < S16.size a)
theorem k0_idx36_inb : ∀ (v83 : IVec S16 32) (k0_hw36 : k0_chk36 v83), ∀ a x, ((![v83] : Fin 1 → IVec S16 32) a x).toNat < S16.size a := fun v83 k0_hw36 => k0_hw36

def k0_chk37 (v84 : IVec S16 32) : Prop :=
  (∀ a x, ((![v84] : Fin 1 → IVec S16 32) a x).toNat < S16.size a)
theorem k0_idx37_inb : ∀ (v84 : IVec S16 32) (k0_hw37 : k0_chk37 v84), ∀ a x, ((![v84] : Fin 1 → IVec S16 32) a x).toNat < S16.size a := fun v84 k0_hw37 => k0_hw37

def k0_chk38 (v85 : IVec S16 32) : Prop :=
  (∀ a x, ((![v85] : Fin 1 → IVec S16 32) a x).toNat < S16.size a)
theorem k0_idx38_inb : ∀ (v85 : IVec S16 32) (k0_hw38 : k0_chk38 v85), ∀ a x, ((![v85] : Fin 1 → IVec S16 32) a x).toNat < S16.size a := fun v85 k0_hw38 => k0_hw38

def k0_chk39 (v86 : IVec S16 32) : Prop :=
  (∀ a x, ((![v86] : Fin 1 → IVec S16 32) a x).toNat < S16.size a)
theorem k0_idx39_inb : ∀ (v86 : IVec S16 32) (k0_hw39 : k0_chk39 v86), ∀ a x, ((![v86] : Fin 1 → IVec S16 32) a x).toNat < S16.size a := fun v86 k0_hw39 => k0_hw39

def k0_chk40 (v87 : IVec S16 32) : Prop :=
  (∀ a x, ((![v87] : Fin 1 → IVec S16 32) a x).toNat < S16.size a)
theorem k0_idx40_inb : ∀ (v87 : IVec S16 32) (k0_hw40 : k0_chk40 v87), ∀ a x, ((![v87] : Fin 1 → IVec S16 32) a x).toNat < S16.size a := fun v87 k0_hw40 => k0_hw40

def k0_chk41 (v98 : IVec S16 32) : Prop :=
  (∀ a x, ((![v98] : Fin 1 → IVec S16 32) a x).toNat < S16.size a)
theorem k0_idx41_inb : ∀ (v98 : IVec S16 32) (k0_hw41 : k0_chk41 v98), ∀ a x, ((![v98] : Fin 1 → IVec S16 32) a x).toNat < S16.size a := fun v98 k0_hw41 => k0_hw41

def k0_chk42 (v99 : IVec S16 32) : Prop :=
  (∀ a x, ((![v99] : Fin 1 → IVec S16 32) a x).toNat < S16.size a)
theorem k0_idx42_inb : ∀ (v99 : IVec S16 32) (k0_hw42 : k0_chk42 v99), ∀ a x, ((![v99] : Fin 1 → IVec S16 32) a x).toNat < S16.size a := fun v99 k0_hw42 => k0_hw42

def k0_chk43 (v100 : IVec S16 32) : Prop :=
  (∀ a x, ((![v100] : Fin 1 → IVec S16 32) a x).toNat < S16.size a)
theorem k0_idx43_inb : ∀ (v100 : IVec S16 32) (k0_hw43 : k0_chk43 v100), ∀ a x, ((![v100] : Fin 1 → IVec S16 32) a x).toNat < S16.size a := fun v100 k0_hw43 => k0_hw43

def k0_chk44 (v101 : IVec S16 32) : Prop :=
  (∀ a x, ((![v101] : Fin 1 → IVec S16 32) a x).toNat < S16.size a)
theorem k0_idx44_inb : ∀ (v101 : IVec S16 32) (k0_hw44 : k0_chk44 v101), ∀ a x, ((![v101] : Fin 1 → IVec S16 32) a x).toNat < S16.size a := fun v101 k0_hw44 => k0_hw44

def k0_chk45 (v102 : IVec S16 32) : Prop :=
  (∀ a x, ((![v102] : Fin 1 → IVec S16 32) a x).toNat < S16.size a)
theorem k0_idx45_inb : ∀ (v102 : IVec S16 32) (k0_hw45 : k0_chk45 v102), ∀ a x, ((![v102] : Fin 1 → IVec S16 32) a x).toNat < S16.size a := fun v102 k0_hw45 => k0_hw45

def k0_chk46 (v103 : IVec S16 32) : Prop :=
  (∀ a x, ((![v103] : Fin 1 → IVec S16 32) a x).toNat < S16.size a)
theorem k0_idx46_inb : ∀ (v103 : IVec S16 32) (k0_hw46 : k0_chk46 v103), ∀ a x, ((![v103] : Fin 1 → IVec S16 32) a x).toNat < S16.size a := fun v103 k0_hw46 => k0_hw46

def k0_chk47 (v104 : IVec S16 32) : Prop :=
  (∀ a x, ((![v104] : Fin 1 → IVec S16 32) a x).toNat < S16.size a)
theorem k0_idx47_inb : ∀ (v104 : IVec S16 32) (k0_hw47 : k0_chk47 v104), ∀ a x, ((![v104] : Fin 1 → IVec S16 32) a x).toNat < S16.size a := fun v104 k0_hw47 => k0_hw47

def k0_chk48 (v105 : IVec S16 32) : Prop :=
  (∀ a x, ((![v105] : Fin 1 → IVec S16 32) a x).toNat < S16.size a)
theorem k0_idx48_inb : ∀ (v105 : IVec S16 32) (k0_hw48 : k0_chk48 v105), ∀ a x, ((![v105] : Fin 1 → IVec S16 32) a x).toNat < S16.size a := fun v105 k0_hw48 => k0_hw48

def k0_chk49 (v116 : IVec S16 32) : Prop :=
  (∀ a x, ((![v116] : Fin 1 → IVec S16 32) a x).toNat < S16.size a)
theorem k0_idx49_inb : ∀ (v116 : IVec S16 32) (k0_hw49 : k0_chk49 v116), ∀ a x, ((![v116] : Fin 1 → IVec S16 32) a x).toNat < S16.size a := fun v116 k0_hw49 => k0_hw49

def k0_chk50 (v117 : IVec S16 32) : Prop :=
  (∀ a x, ((![v117] : Fin 1 → IVec S16 32) a x).toNat < S16.size a)
theorem k0_idx50_inb : ∀ (v117 : IVec S16 32) (k0_hw50 : k0_chk50 v117), ∀ a x, ((![v117] : Fin 1 → IVec S16 32) a x).toNat < S16.size a := fun v117 k0_hw50 => k0_hw50

def k0_chk51 (v118 : IVec S16 32) : Prop :=
  (∀ a x, ((![v118] : Fin 1 → IVec S16 32) a x).toNat < S16.size a)
theorem k0_idx51_inb : ∀ (v118 : IVec S16 32) (k0_hw51 : k0_chk51 v118), ∀ a x, ((![v118] : Fin 1 → IVec S16 32) a x).toNat < S16.size a := fun v118 k0_hw51 => k0_hw51

def k0_chk52 (v119 : IVec S16 32) : Prop :=
  (∀ a x, ((![v119] : Fin 1 → IVec S16 32) a x).toNat < S16.size a)
theorem k0_idx52_inb : ∀ (v119 : IVec S16 32) (k0_hw52 : k0_chk52 v119), ∀ a x, ((![v119] : Fin 1 → IVec S16 32) a x).toNat < S16.size a := fun v119 k0_hw52 => k0_hw52

def k0_chk53 (v120 : IVec S16 32) : Prop :=
  (∀ a x, ((![v120] : Fin 1 → IVec S16 32) a x).toNat < S16.size a)
theorem k0_idx53_inb : ∀ (v120 : IVec S16 32) (k0_hw53 : k0_chk53 v120), ∀ a x, ((![v120] : Fin 1 → IVec S16 32) a x).toNat < S16.size a := fun v120 k0_hw53 => k0_hw53

def k0_chk54 (v121 : IVec S16 32) : Prop :=
  (∀ a x, ((![v121] : Fin 1 → IVec S16 32) a x).toNat < S16.size a)
theorem k0_idx54_inb : ∀ (v121 : IVec S16 32) (k0_hw54 : k0_chk54 v121), ∀ a x, ((![v121] : Fin 1 → IVec S16 32) a x).toNat < S16.size a := fun v121 k0_hw54 => k0_hw54

def k0_chk55 (v122 : IVec S16 32) : Prop :=
  (∀ a x, ((![v122] : Fin 1 → IVec S16 32) a x).toNat < S16.size a)
theorem k0_idx55_inb : ∀ (v122 : IVec S16 32) (k0_hw55 : k0_chk55 v122), ∀ a x, ((![v122] : Fin 1 → IVec S16 32) a x).toNat < S16.size a := fun v122 k0_hw55 => k0_hw55

def k0_chk56 (v123 : IVec S16 32) : Prop :=
  (∀ a x, ((![v123] : Fin 1 → IVec S16 32) a x).toNat < S16.size a)
theorem k0_idx56_inb : ∀ (v123 : IVec S16 32) (k0_hw56 : k0_chk56 v123), ∀ a x, ((![v123] : Fin 1 → IVec S16 32) a x).toNat < S16.size a := fun v123 k0_hw56 => k0_hw56

def k0_chk57 (v134 : IVec S16 32) : Prop :=
  (∀ a x, ((![v134] : Fin 1 → IVec S16 32) a x).toNat < S16.size a)
theorem k0_idx57_inb : ∀ (v134 : IVec S16 32) (k0_hw57 : k0_chk57 v134), ∀ a x, ((![v134] : Fin 1 → IVec S16 32) a x).toNat < S16.size a := fun v134 k0_hw57 => k0_hw57

def k0_chk58 (v135 : IVec S16 32) : Prop :=
  (∀ a x, ((![v135] : Fin 1 → IVec S16 32) a x).toNat < S16.size a)
theorem k0_idx58_inb : ∀ (v135 : IVec S16 32) (k0_hw58 : k0_chk58 v135), ∀ a x, ((![v135] : Fin 1 → IVec S16 32) a x).toNat < S16.size a := fun v135 k0_hw58 => k0_hw58

def k0_chk59 (v136 : IVec S16 32) : Prop :=
  (∀ a x, ((![v136] : Fin 1 → IVec S16 32) a x).toNat < S16.size a)
theorem k0_idx59_inb : ∀ (v136 : IVec S16 32) (k0_hw59 : k0_chk59 v136), ∀ a x, ((![v136] : Fin 1 → IVec S16 32) a x).toNat < S16.size a := fun v136 k0_hw59 => k0_hw59

def k0_chk60 (v137 : IVec S16 32) : Prop :=
  (∀ a x, ((![v137] : Fin 1 → IVec S16 32) a x).toNat < S16.size a)
theorem k0_idx60_inb : ∀ (v137 : IVec S16 32) (k0_hw60 : k0_chk60 v137), ∀ a x, ((![v137] : Fin 1 → IVec S16 32) a x).toNat < S16.size a := fun v137 k0_hw60 => k0_hw60

def k0_chk61 (v138 : IVec S16 32) : Prop :=
  (∀ a x, ((![v138] : Fin 1 → IVec S16 32) a x).toNat < S16.size a)
theorem k0_idx61_inb : ∀ (v138 : IVec S16 32) (k0_hw61 : k0_chk61 v138), ∀ a x, ((![v138] : Fin 1 → IVec S16 32) a x).toNat < S16.size a := fun v138 k0_hw61 => k0_hw61

def k0_chk62 (v139 : IVec S16 32) : Prop :=
  (∀ a x, ((![v139] : Fin 1 → IVec S16 32) a x).toNat < S16.size a)
theorem k0_idx62_inb : ∀ (v139 : IVec S16 32) (k0_hw62 : k0_chk62 v139), ∀ a x, ((![v139] : Fin 1 → IVec S16 32) a x).toNat < S16.size a := fun v139 k0_hw62 => k0_hw62

def k0_chk63 (v140 : IVec S16 32) : Prop :=
  (∀ a x, ((![v140] : Fin 1 → IVec S16 32) a x).toNat < S16.size a)
theorem k0_idx63_inb : ∀ (v140 : IVec S16 32) (k0_hw63 : k0_chk63 v140), ∀ a x, ((![v140] : Fin 1 → IVec S16 32) a x).toNat < S16.size a := fun v140 k0_hw63 => k0_hw63

def k0_chk64 (v141 : IVec S16 32) : Prop :=
  (∀ a x, ((![v141] : Fin 1 → IVec S16 32) a x).toNat < S16.size a)
theorem k0_idx64_inb : ∀ (v141 : IVec S16 32) (k0_hw64 : k0_chk64 v141), ∀ a x, ((![v141] : Fin 1 → IVec S16 32) a x).toNat < S16.size a := fun v141 k0_hw64 => k0_hw64

def k0_chk65 (v152 : IVec S16 32) : Prop :=
  (∀ a x, ((![v152] : Fin 1 → IVec S16 32) a x).toNat < S16.size a)
theorem k0_idx65_inb : ∀ (v152 : IVec S16 32) (k0_hw65 : k0_chk65 v152), ∀ a x, ((![v152] : Fin 1 → IVec S16 32) a x).toNat < S16.size a := fun v152 k0_hw65 => k0_hw65

def k0_chk66 (v153 : IVec S16 32) : Prop :=
  (∀ a x, ((![v153] : Fin 1 → IVec S16 32) a x).toNat < S16.size a)
theorem k0_idx66_inb : ∀ (v153 : IVec S16 32) (k0_hw66 : k0_chk66 v153), ∀ a x, ((![v153] : Fin 1 → IVec S16 32) a x).toNat < S16.size a := fun v153 k0_hw66 => k0_hw66

def k0_chk67 (v154 : IVec S16 32) : Prop :=
  (∀ a x, ((![v154] : Fin 1 → IVec S16 32) a x).toNat < S16.size a)
theorem k0_idx67_inb : ∀ (v154 : IVec S16 32) (k0_hw67 : k0_chk67 v154), ∀ a x, ((![v154] : Fin 1 → IVec S16 32) a x).toNat < S16.size a := fun v154 k0_hw67 => k0_hw67

def k0_chk68 (v155 : IVec S16 32) : Prop :=
  (∀ a x, ((![v155] : Fin 1 → IVec S16 32) a x).toNat < S16.size a)
theorem k0_idx68_inb : ∀ (v155 : IVec S16 32) (k0_hw68 : k0_chk68 v155), ∀ a x, ((![v155] : Fin 1 → IVec S16 32) a x).toNat < S16.size a := fun v155 k0_hw68 => k0_hw68

def k0_chk69 (v156 : IVec S16 32) : Prop :=
  (∀ a x, ((![v156] : Fin 1 → IVec S16 32) a x).toNat < S16.size a)
theorem k0_idx69_inb : ∀ (v156 : IVec S16 32) (k0_hw69 : k0_chk69 v156), ∀ a x, ((![v156] : Fin 1 → IVec S16 32) a x).toNat < S16.size a := fun v156 k0_hw69 => k0_hw69

def k0_chk70 (v157 : IVec S16 32) : Prop :=
  (∀ a x, ((![v157] : Fin 1 → IVec S16 32) a x).toNat < S16.size a)
theorem k0_idx70_inb : ∀ (v157 : IVec S16 32) (k0_hw70 : k0_chk70 v157), ∀ a x, ((![v157] : Fin 1 → IVec S16 32) a x).toNat < S16.size a := fun v157 k0_hw70 => k0_hw70

def k0_chk71 (v158 : IVec S16 32) : Prop :=
  (∀ a x, ((![v158] : Fin 1 → IVec S16 32) a x).toNat < S16.size a)
theorem k0_idx71_inb : ∀ (v158 : IVec S16 32) (k0_hw71 : k0_chk71 v158), ∀ a x, ((![v158] : Fin 1 → IVec S16 32) a x).toNat < S16.size a := fun v158 k0_hw71 => k0_hw71

def k0_chk72 (v159 : IVec S16 32) : Prop :=
  (∀ a x, ((![v159] : Fin 1 → IVec S16 32) a x).toNat < S16.size a)
theorem k0_idx72_inb : ∀ (v159 : IVec S16 32) (k0_hw72 : k0_chk72 v159), ∀ a x, ((![v159] : Fin 1 → IVec S16 32) a x).toNat < S16.size a := fun v159 k0_hw72 => k0_hw72

def k0_chk73 (v170 : IVec S16 32) : Prop :=
  (∀ a x, ((![v170] : Fin 1 → IVec S16 32) a x).toNat < S16.size a)
theorem k0_idx73_inb : ∀ (v170 : IVec S16 32) (k0_hw73 : k0_chk73 v170), ∀ a x, ((![v170] : Fin 1 → IVec S16 32) a x).toNat < S16.size a := fun v170 k0_hw73 => k0_hw73

def k0_chk74 (v171 : IVec S16 32) : Prop :=
  (∀ a x, ((![v171] : Fin 1 → IVec S16 32) a x).toNat < S16.size a)
theorem k0_idx74_inb : ∀ (v171 : IVec S16 32) (k0_hw74 : k0_chk74 v171), ∀ a x, ((![v171] : Fin 1 → IVec S16 32) a x).toNat < S16.size a := fun v171 k0_hw74 => k0_hw74

def k0_chk75 (v172 : IVec S16 32) : Prop :=
  (∀ a x, ((![v172] : Fin 1 → IVec S16 32) a x).toNat < S16.size a)
theorem k0_idx75_inb : ∀ (v172 : IVec S16 32) (k0_hw75 : k0_chk75 v172), ∀ a x, ((![v172] : Fin 1 → IVec S16 32) a x).toNat < S16.size a := fun v172 k0_hw75 => k0_hw75

def k0_chk76 (v173 : IVec S16 32) : Prop :=
  (∀ a x, ((![v173] : Fin 1 → IVec S16 32) a x).toNat < S16.size a)
theorem k0_idx76_inb : ∀ (v173 : IVec S16 32) (k0_hw76 : k0_chk76 v173), ∀ a x, ((![v173] : Fin 1 → IVec S16 32) a x).toNat < S16.size a := fun v173 k0_hw76 => k0_hw76

def k0_chk77 (v174 : IVec S16 32) : Prop :=
  (∀ a x, ((![v174] : Fin 1 → IVec S16 32) a x).toNat < S16.size a)
theorem k0_idx77_inb : ∀ (v174 : IVec S16 32) (k0_hw77 : k0_chk77 v174), ∀ a x, ((![v174] : Fin 1 → IVec S16 32) a x).toNat < S16.size a := fun v174 k0_hw77 => k0_hw77

def k0_chk78 (v175 : IVec S16 32) : Prop :=
  (∀ a x, ((![v175] : Fin 1 → IVec S16 32) a x).toNat < S16.size a)
theorem k0_idx78_inb : ∀ (v175 : IVec S16 32) (k0_hw78 : k0_chk78 v175), ∀ a x, ((![v175] : Fin 1 → IVec S16 32) a x).toNat < S16.size a := fun v175 k0_hw78 => k0_hw78

def k0_chk79 (v176 : IVec S16 32) : Prop :=
  (∀ a x, ((![v176] : Fin 1 → IVec S16 32) a x).toNat < S16.size a)
theorem k0_idx79_inb : ∀ (v176 : IVec S16 32) (k0_hw79 : k0_chk79 v176), ∀ a x, ((![v176] : Fin 1 → IVec S16 32) a x).toNat < S16.size a := fun v176 k0_hw79 => k0_hw79

def k0_chk80 (v177 : IVec S16 32) : Prop :=
  (∀ a x, ((![v177] : Fin 1 → IVec S16 32) a x).toNat < S16.size a)
theorem k0_idx80_inb : ∀ (v177 : IVec S16 32) (k0_hw80 : k0_chk80 v177), ∀ a x, ((![v177] : Fin 1 → IVec S16 32) a x).toNat < S16.size a := fun v177 k0_hw80 => k0_hw80

def k0_chk81 (v188 : IVec S16 32) : Prop :=
  (∀ a x, ((![v188] : Fin 1 → IVec S16 32) a x).toNat < S16.size a)
theorem k0_idx81_inb : ∀ (v188 : IVec S16 32) (k0_hw81 : k0_chk81 v188), ∀ a x, ((![v188] : Fin 1 → IVec S16 32) a x).toNat < S16.size a := fun v188 k0_hw81 => k0_hw81

def k0_chk82 (v189 : IVec S16 32) : Prop :=
  (∀ a x, ((![v189] : Fin 1 → IVec S16 32) a x).toNat < S16.size a)
theorem k0_idx82_inb : ∀ (v189 : IVec S16 32) (k0_hw82 : k0_chk82 v189), ∀ a x, ((![v189] : Fin 1 → IVec S16 32) a x).toNat < S16.size a := fun v189 k0_hw82 => k0_hw82

def k0_chk83 (v190 : IVec S16 32) : Prop :=
  (∀ a x, ((![v190] : Fin 1 → IVec S16 32) a x).toNat < S16.size a)
theorem k0_idx83_inb : ∀ (v190 : IVec S16 32) (k0_hw83 : k0_chk83 v190), ∀ a x, ((![v190] : Fin 1 → IVec S16 32) a x).toNat < S16.size a := fun v190 k0_hw83 => k0_hw83

def k0_chk84 (v191 : IVec S16 32) : Prop :=
  (∀ a x, ((![v191] : Fin 1 → IVec S16 32) a x).toNat < S16.size a)
theorem k0_idx84_inb : ∀ (v191 : IVec S16 32) (k0_hw84 : k0_chk84 v191), ∀ a x, ((![v191] : Fin 1 → IVec S16 32) a x).toNat < S16.size a := fun v191 k0_hw84 => k0_hw84

def k0_chk85 (v192 : IVec S16 32) : Prop :=
  (∀ a x, ((![v192] : Fin 1 → IVec S16 32) a x).toNat < S16.size a)
theorem k0_idx85_inb : ∀ (v192 : IVec S16 32) (k0_hw85 : k0_chk85 v192), ∀ a x, ((![v192] : Fin 1 → IVec S16 32) a x).toNat < S16.size a := fun v192 k0_hw85 => k0_hw85

def k0_chk86 (v193 : IVec S16 32) : Prop :=
  (∀ a x, ((![v193] : Fin 1 → IVec S16 32) a x).toNat < S16.size a)
theorem k0_idx86_inb : ∀ (v193 : IVec S16 32) (k0_hw86 : k0_chk86 v193), ∀ a x, ((![v193] : Fin 1 → IVec S16 32) a x).toNat < S16.size a := fun v193 k0_hw86 => k0_hw86

def k0_chk87 (v194 : IVec S16 32) : Prop :=
  (∀ a x, ((![v194] : Fin 1 → IVec S16 32) a x).toNat < S16.size a)
theorem k0_idx87_inb : ∀ (v194 : IVec S16 32) (k0_hw87 : k0_chk87 v194), ∀ a x, ((![v194] : Fin 1 → IVec S16 32) a x).toNat < S16.size a := fun v194 k0_hw87 => k0_hw87

def k0_chk88 (v195 : IVec S16 32) : Prop :=
  (∀ a x, ((![v195] : Fin 1 → IVec S16 32) a x).toNat < S16.size a)
theorem k0_idx88_inb : ∀ (v195 : IVec S16 32) (k0_hw88 : k0_chk88 v195), ∀ a x, ((![v195] : Fin 1 → IVec S16 32) a x).toNat < S16.size a := fun v195 k0_hw88 => k0_hw88

def k0_chk89 (v206 : IVec S16 32) : Prop :=
  (∀ a x, ((![v206] : Fin 1 → IVec S16 32) a x).toNat < S16.size a)
theorem k0_idx89_inb : ∀ (v206 : IVec S16 32) (k0_hw89 : k0_chk89 v206), ∀ a x, ((![v206] : Fin 1 → IVec S16 32) a x).toNat < S16.size a := fun v206 k0_hw89 => k0_hw89

def k0_chk90 (v207 : IVec S16 32) : Prop :=
  (∀ a x, ((![v207] : Fin 1 → IVec S16 32) a x).toNat < S16.size a)
theorem k0_idx90_inb : ∀ (v207 : IVec S16 32) (k0_hw90 : k0_chk90 v207), ∀ a x, ((![v207] : Fin 1 → IVec S16 32) a x).toNat < S16.size a := fun v207 k0_hw90 => k0_hw90

def k0_chk91 (v208 : IVec S16 32) : Prop :=
  (∀ a x, ((![v208] : Fin 1 → IVec S16 32) a x).toNat < S16.size a)
theorem k0_idx91_inb : ∀ (v208 : IVec S16 32) (k0_hw91 : k0_chk91 v208), ∀ a x, ((![v208] : Fin 1 → IVec S16 32) a x).toNat < S16.size a := fun v208 k0_hw91 => k0_hw91

def k0_chk92 (v209 : IVec S16 32) : Prop :=
  (∀ a x, ((![v209] : Fin 1 → IVec S16 32) a x).toNat < S16.size a)
theorem k0_idx92_inb : ∀ (v209 : IVec S16 32) (k0_hw92 : k0_chk92 v209), ∀ a x, ((![v209] : Fin 1 → IVec S16 32) a x).toNat < S16.size a := fun v209 k0_hw92 => k0_hw92

def k0_chk93 (v210 : IVec S16 32) : Prop :=
  (∀ a x, ((![v210] : Fin 1 → IVec S16 32) a x).toNat < S16.size a)
theorem k0_idx93_inb : ∀ (v210 : IVec S16 32) (k0_hw93 : k0_chk93 v210), ∀ a x, ((![v210] : Fin 1 → IVec S16 32) a x).toNat < S16.size a := fun v210 k0_hw93 => k0_hw93

def k0_chk94 (v211 : IVec S16 32) : Prop :=
  (∀ a x, ((![v211] : Fin 1 → IVec S16 32) a x).toNat < S16.size a)
theorem k0_idx94_inb : ∀ (v211 : IVec S16 32) (k0_hw94 : k0_chk94 v211), ∀ a x, ((![v211] : Fin 1 → IVec S16 32) a x).toNat < S16.size a := fun v211 k0_hw94 => k0_hw94

def k0_chk95 (v212 : IVec S16 32) : Prop :=
  (∀ a x, ((![v212] : Fin 1 → IVec S16 32) a x).toNat < S16.size a)
theorem k0_idx95_inb : ∀ (v212 : IVec S16 32) (k0_hw95 : k0_chk95 v212), ∀ a x, ((![v212] : Fin 1 → IVec S16 32) a x).toNat < S16.size a := fun v212 k0_hw95 => k0_hw95

def k0_chk96 (v213 : IVec S16 32) : Prop :=
  (∀ a x, ((![v213] : Fin 1 → IVec S16 32) a x).toNat < S16.size a)
theorem k0_idx96_inb : ∀ (v213 : IVec S16 32) (k0_hw96 : k0_chk96 v213), ∀ a x, ((![v213] : Fin 1 → IVec S16 32) a x).toNat < S16.size a := fun v213 k0_hw96 => k0_hw96

def k0_chk97 (v224 : IVec S16 32) : Prop :=
  (∀ a x, ((![v224] : Fin 1 → IVec S16 32) a x).toNat < S16.size a)
theorem k0_idx97_inb : ∀ (v224 : IVec S16 32) (k0_hw97 : k0_chk97 v224), ∀ a x, ((![v224] : Fin 1 → IVec S16 32) a x).toNat < S16.size a := fun v224 k0_hw97 => k0_hw97

def k0_chk98 (v225 : IVec S16 32) : Prop :=
  (∀ a x, ((![v225] : Fin 1 → IVec S16 32) a x).toNat < S16.size a)
theorem k0_idx98_inb : ∀ (v225 : IVec S16 32) (k0_hw98 : k0_chk98 v225), ∀ a x, ((![v225] : Fin 1 → IVec S16 32) a x).toNat < S16.size a := fun v225 k0_hw98 => k0_hw98

def k0_chk99 (v226 : IVec S16 32) : Prop :=
  (∀ a x, ((![v226] : Fin 1 → IVec S16 32) a x).toNat < S16.size a)
theorem k0_idx99_inb : ∀ (v226 : IVec S16 32) (k0_hw99 : k0_chk99 v226), ∀ a x, ((![v226] : Fin 1 → IVec S16 32) a x).toNat < S16.size a := fun v226 k0_hw99 => k0_hw99

def k0_chk100 (v227 : IVec S16 32) : Prop :=
  (∀ a x, ((![v227] : Fin 1 → IVec S16 32) a x).toNat < S16.size a)
theorem k0_idx100_inb : ∀ (v227 : IVec S16 32) (k0_hw100 : k0_chk100 v227), ∀ a x, ((![v227] : Fin 1 → IVec S16 32) a x).toNat < S16.size a := fun v227 k0_hw100 => k0_hw100

def k0_chk101 (v228 : IVec S16 32) : Prop :=
  (∀ a x, ((![v228] : Fin 1 → IVec S16 32) a x).toNat < S16.size a)
theorem k0_idx101_inb : ∀ (v228 : IVec S16 32) (k0_hw101 : k0_chk101 v228), ∀ a x, ((![v228] : Fin 1 → IVec S16 32) a x).toNat < S16.size a := fun v228 k0_hw101 => k0_hw101

def k0_chk102 (v229 : IVec S16 32) : Prop :=
  (∀ a x, ((![v229] : Fin 1 → IVec S16 32) a x).toNat < S16.size a)
theorem k0_idx102_inb : ∀ (v229 : IVec S16 32) (k0_hw102 : k0_chk102 v229), ∀ a x, ((![v229] : Fin 1 → IVec S16 32) a x).toNat < S16.size a := fun v229 k0_hw102 => k0_hw102

def k0_chk103 (v230 : IVec S16 32) : Prop :=
  (∀ a x, ((![v230] : Fin 1 → IVec S16 32) a x).toNat < S16.size a)
theorem k0_idx103_inb : ∀ (v230 : IVec S16 32) (k0_hw103 : k0_chk103 v230), ∀ a x, ((![v230] : Fin 1 → IVec S16 32) a x).toNat < S16.size a := fun v230 k0_hw103 => k0_hw103

def k0_chk104 (v231 : IVec S16 32) : Prop :=
  (∀ a x, ((![v231] : Fin 1 → IVec S16 32) a x).toNat < S16.size a)
theorem k0_idx104_inb : ∀ (v231 : IVec S16 32) (k0_hw104 : k0_chk104 v231), ∀ a x, ((![v231] : Fin 1 → IVec S16 32) a x).toNat < S16.size a := fun v231 k0_hw104 => k0_hw104

def k0_chk105 (v242 : IVec S16 32) : Prop :=
  (∀ a x, ((![v242] : Fin 1 → IVec S16 32) a x).toNat < S16.size a)
theorem k0_idx105_inb : ∀ (v242 : IVec S16 32) (k0_hw105 : k0_chk105 v242), ∀ a x, ((![v242] : Fin 1 → IVec S16 32) a x).toNat < S16.size a := fun v242 k0_hw105 => k0_hw105

def k0_chk106 (v243 : IVec S16 32) : Prop :=
  (∀ a x, ((![v243] : Fin 1 → IVec S16 32) a x).toNat < S16.size a)
theorem k0_idx106_inb : ∀ (v243 : IVec S16 32) (k0_hw106 : k0_chk106 v243), ∀ a x, ((![v243] : Fin 1 → IVec S16 32) a x).toNat < S16.size a := fun v243 k0_hw106 => k0_hw106

def k0_chk107 (v244 : IVec S16 32) : Prop :=
  (∀ a x, ((![v244] : Fin 1 → IVec S16 32) a x).toNat < S16.size a)
theorem k0_idx107_inb : ∀ (v244 : IVec S16 32) (k0_hw107 : k0_chk107 v244), ∀ a x, ((![v244] : Fin 1 → IVec S16 32) a x).toNat < S16.size a := fun v244 k0_hw107 => k0_hw107

def k0_chk108 (v245 : IVec S16 32) : Prop :=
  (∀ a x, ((![v245] : Fin 1 → IVec S16 32) a x).toNat < S16.size a)
theorem k0_idx108_inb : ∀ (v245 : IVec S16 32) (k0_hw108 : k0_chk108 v245), ∀ a x, ((![v245] : Fin 1 → IVec S16 32) a x).toNat < S16.size a := fun v245 k0_hw108 => k0_hw108

def k0_chk109 (v246 : IVec S16 32) : Prop :=
  (∀ a x, ((![v246] : Fin 1 → IVec S16 32) a x).toNat < S16.size a)
theorem k0_idx109_inb : ∀ (v246 : IVec S16 32) (k0_hw109 : k0_chk109 v246), ∀ a x, ((![v246] : Fin 1 → IVec S16 32) a x).toNat < S16.size a := fun v246 k0_hw109 => k0_hw109

def k0_chk110 (v247 : IVec S16 32) : Prop :=
  (∀ a x, ((![v247] : Fin 1 → IVec S16 32) a x).toNat < S16.size a)
theorem k0_idx110_inb : ∀ (v247 : IVec S16 32) (k0_hw110 : k0_chk110 v247), ∀ a x, ((![v247] : Fin 1 → IVec S16 32) a x).toNat < S16.size a := fun v247 k0_hw110 => k0_hw110

def k0_chk111 (v248 : IVec S16 32) : Prop :=
  (∀ a x, ((![v248] : Fin 1 → IVec S16 32) a x).toNat < S16.size a)
theorem k0_idx111_inb : ∀ (v248 : IVec S16 32) (k0_hw111 : k0_chk111 v248), ∀ a x, ((![v248] : Fin 1 → IVec S16 32) a x).toNat < S16.size a := fun v248 k0_hw111 => k0_hw111

def k0_chk112 (v249 : IVec S16 32) : Prop :=
  (∀ a x, ((![v249] : Fin 1 → IVec S16 32) a x).toNat < S16.size a)
theorem k0_idx112_inb : ∀ (v249 : IVec S16 32) (k0_hw112 : k0_chk112 v249), ∀ a x, ((![v249] : Fin 1 → IVec S16 32) a x).toNat < S16.size a := fun v249 k0_hw112 => k0_hw112

def k0_chk113 (v260 : IVec S16 32) : Prop :=
  (∀ a x, ((![v260] : Fin 1 → IVec S16 32) a x).toNat < S16.size a)
theorem k0_idx113_inb : ∀ (v260 : IVec S16 32) (k0_hw113 : k0_chk113 v260), ∀ a x, ((![v260] : Fin 1 → IVec S16 32) a x).toNat < S16.size a := fun v260 k0_hw113 => k0_hw113

def k0_chk114 (v261 : IVec S16 32) : Prop :=
  (∀ a x, ((![v261] : Fin 1 → IVec S16 32) a x).toNat < S16.size a)
theorem k0_idx114_inb : ∀ (v261 : IVec S16 32) (k0_hw114 : k0_chk114 v261), ∀ a x, ((![v261] : Fin 1 → IVec S16 32) a x).toNat < S16.size a := fun v261 k0_hw114 => k0_hw114

def k0_chk115 (v262 : IVec S16 32) : Prop :=
  (∀ a x, ((![v262] : Fin 1 → IVec S16 32) a x).toNat < S16.size a)
theorem k0_idx115_inb : ∀ (v262 : IVec S16 32) (k0_hw115 : k0_chk115 v262), ∀ a x, ((![v262] : Fin 1 → IVec S16 32) a x).toNat < S16.size a := fun v262 k0_hw115 => k0_hw115

def k0_chk116 (v263 : IVec S16 32) : Prop :=
  (∀ a x, ((![v263] : Fin 1 → IVec S16 32) a x).toNat < S16.size a)
theorem k0_idx116_inb : ∀ (v263 : IVec S16 32) (k0_hw116 : k0_chk116 v263), ∀ a x, ((![v263] : Fin 1 → IVec S16 32) a x).toNat < S16.size a := fun v263 k0_hw116 => k0_hw116

def k0_chk117 (v264 : IVec S16 32) : Prop :=
  (∀ a x, ((![v264] : Fin 1 → IVec S16 32) a x).toNat < S16.size a)
theorem k0_idx117_inb : ∀ (v264 : IVec S16 32) (k0_hw117 : k0_chk117 v264), ∀ a x, ((![v264] : Fin 1 → IVec S16 32) a x).toNat < S16.size a := fun v264 k0_hw117 => k0_hw117

def k0_chk118 (v265 : IVec S16 32) : Prop :=
  (∀ a x, ((![v265] : Fin 1 → IVec S16 32) a x).toNat < S16.size a)
theorem k0_idx118_inb : ∀ (v265 : IVec S16 32) (k0_hw118 : k0_chk118 v265), ∀ a x, ((![v265] : Fin 1 → IVec S16 32) a x).toNat < S16.size a := fun v265 k0_hw118 => k0_hw118

def k0_chk119 (v266 : IVec S16 32) : Prop :=
  (∀ a x, ((![v266] : Fin 1 → IVec S16 32) a x).toNat < S16.size a)
theorem k0_idx119_inb : ∀ (v266 : IVec S16 32) (k0_hw119 : k0_chk119 v266), ∀ a x, ((![v266] : Fin 1 → IVec S16 32) a x).toNat < S16.size a := fun v266 k0_hw119 => k0_hw119

def k0_chk120 (v267 : IVec S16 32) : Prop :=
  (∀ a x, ((![v267] : Fin 1 → IVec S16 32) a x).toNat < S16.size a)
theorem k0_idx120_inb : ∀ (v267 : IVec S16 32) (k0_hw120 : k0_chk120 v267), ∀ a x, ((![v267] : Fin 1 → IVec S16 32) a x).toNat < S16.size a := fun v267 k0_hw120 => k0_hw120

def k0_chk121 (v278 : IVec S16 32) : Prop :=
  (∀ a x, ((![v278] : Fin 1 → IVec S16 32) a x).toNat < S16.size a)
theorem k0_idx121_inb : ∀ (v278 : IVec S16 32) (k0_hw121 : k0_chk121 v278), ∀ a x, ((![v278] : Fin 1 → IVec S16 32) a x).toNat < S16.size a := fun v278 k0_hw121 => k0_hw121

def k0_chk122 (v279 : IVec S16 32) : Prop :=
  (∀ a x, ((![v279] : Fin 1 → IVec S16 32) a x).toNat < S16.size a)
theorem k0_idx122_inb : ∀ (v279 : IVec S16 32) (k0_hw122 : k0_chk122 v279), ∀ a x, ((![v279] : Fin 1 → IVec S16 32) a x).toNat < S16.size a := fun v279 k0_hw122 => k0_hw122

def k0_chk123 (v280 : IVec S16 32) : Prop :=
  (∀ a x, ((![v280] : Fin 1 → IVec S16 32) a x).toNat < S16.size a)
theorem k0_idx123_inb : ∀ (v280 : IVec S16 32) (k0_hw123 : k0_chk123 v280), ∀ a x, ((![v280] : Fin 1 → IVec S16 32) a x).toNat < S16.size a := fun v280 k0_hw123 => k0_hw123

def k0_chk124 (v281 : IVec S16 32) : Prop :=
  (∀ a x, ((![v281] : Fin 1 → IVec S16 32) a x).toNat < S16.size a)
theorem k0_idx124_inb : ∀ (v281 : IVec S16 32) (k0_hw124 : k0_chk124 v281), ∀ a x, ((![v281] : Fin 1 → IVec S16 32) a x).toNat < S16.size a := fun v281 k0_hw124 => k0_hw124

def k0_chk125 (v282 : IVec S16 32) : Prop :=
  (∀ a x, ((![v282] : Fin 1 → IVec S16 32) a x).toNat < S16.size a)
theorem k0_idx125_inb : ∀ (v282 : IVec S16 32) (k0_hw125 : k0_chk125 v282), ∀ a x, ((![v282] : Fin 1 → IVec S16 32) a x).toNat < S16.size a := fun v282 k0_hw125 => k0_hw125

def k0_chk126 (v283 : IVec S16 32) : Prop :=
  (∀ a x, ((![v283] : Fin 1 → IVec S16 32) a x).toNat < S16.size a)
theorem k0_idx126_inb : ∀ (v283 : IVec S16 32) (k0_hw126 : k0_chk126 v283), ∀ a x, ((![v283] : Fin 1 → IVec S16 32) a x).toNat < S16.size a := fun v283 k0_hw126 => k0_hw126

def k0_chk127 (v284 : IVec S16 32) : Prop :=
  (∀ a x, ((![v284] : Fin 1 → IVec S16 32) a x).toNat < S16.size a)
theorem k0_idx127_inb : ∀ (v284 : IVec S16 32) (k0_hw127 : k0_chk127 v284), ∀ a x, ((![v284] : Fin 1 → IVec S16 32) a x).toNat < S16.size a := fun v284 k0_hw127 => k0_hw127

def k0_chk128 (v285 : IVec S16 32) : Prop :=
  (∀ a x, ((![v285] : Fin 1 → IVec S16 32) a x).toNat < S16.size a)
theorem k0_idx128_inb : ∀ (v285 : IVec S16 32) (k0_hw128 : k0_chk128 v285), ∀ a x, ((![v285] : Fin 1 → IVec S16 32) a x).toNat < S16.size a := fun v285 k0_hw128 => k0_hw128

def k0_chk129 (v296 : IVec S16 32) : Prop :=
  (∀ a x, ((![v296] : Fin 1 → IVec S16 32) a x).toNat < S16.size a)
theorem k0_idx129_inb : ∀ (v296 : IVec S16 32) (k0_hw129 : k0_chk129 v296), ∀ a x, ((![v296] : Fin 1 → IVec S16 32) a x).toNat < S16.size a := fun v296 k0_hw129 => k0_hw129

def k0_chk130 (v297 : IVec S16 32) : Prop :=
  (∀ a x, ((![v297] : Fin 1 → IVec S16 32) a x).toNat < S16.size a)
theorem k0_idx130_inb : ∀ (v297 : IVec S16 32) (k0_hw130 : k0_chk130 v297), ∀ a x, ((![v297] : Fin 1 → IVec S16 32) a x).toNat < S16.size a := fun v297 k0_hw130 => k0_hw130

def k0_chk131 (v298 : IVec S16 32) : Prop :=
  (∀ a x, ((![v298] : Fin 1 → IVec S16 32) a x).toNat < S16.size a)
theorem k0_idx131_inb : ∀ (v298 : IVec S16 32) (k0_hw131 : k0_chk131 v298), ∀ a x, ((![v298] : Fin 1 → IVec S16 32) a x).toNat < S16.size a := fun v298 k0_hw131 => k0_hw131

def k0_chk132 (v299 : IVec S16 32) : Prop :=
  (∀ a x, ((![v299] : Fin 1 → IVec S16 32) a x).toNat < S16.size a)
theorem k0_idx132_inb : ∀ (v299 : IVec S16 32) (k0_hw132 : k0_chk132 v299), ∀ a x, ((![v299] : Fin 1 → IVec S16 32) a x).toNat < S16.size a := fun v299 k0_hw132 => k0_hw132

def k0_chk133 (v300 : IVec S16 32) : Prop :=
  (∀ a x, ((![v300] : Fin 1 → IVec S16 32) a x).toNat < S16.size a)
theorem k0_idx133_inb : ∀ (v300 : IVec S16 32) (k0_hw133 : k0_chk133 v300), ∀ a x, ((![v300] : Fin 1 → IVec S16 32) a x).toNat < S16.size a := fun v300 k0_hw133 => k0_hw133

def k0_chk134 (v301 : IVec S16 32) : Prop :=
  (∀ a x, ((![v301] : Fin 1 → IVec S16 32) a x).toNat < S16.size a)
theorem k0_idx134_inb : ∀ (v301 : IVec S16 32) (k0_hw134 : k0_chk134 v301), ∀ a x, ((![v301] : Fin 1 → IVec S16 32) a x).toNat < S16.size a := fun v301 k0_hw134 => k0_hw134

def k0_chk135 (v302 : IVec S16 32) : Prop :=
  (∀ a x, ((![v302] : Fin 1 → IVec S16 32) a x).toNat < S16.size a)
theorem k0_idx135_inb : ∀ (v302 : IVec S16 32) (k0_hw135 : k0_chk135 v302), ∀ a x, ((![v302] : Fin 1 → IVec S16 32) a x).toNat < S16.size a := fun v302 k0_hw135 => k0_hw135

def k0_chk136 (v303 : IVec S16 32) : Prop :=
  (∀ a x, ((![v303] : Fin 1 → IVec S16 32) a x).toNat < S16.size a)
theorem k0_idx136_inb : ∀ (v303 : IVec S16 32) (k0_hw136 : k0_chk136 v303), ∀ a x, ((![v303] : Fin 1 → IVec S16 32) a x).toNat < S16.size a := fun v303 k0_hw136 => k0_hw136

def k0_chk137 (v314 : IVec S16 32) : Prop :=
  (∀ a x, ((![v314] : Fin 1 → IVec S16 32) a x).toNat < S16.size a)
theorem k0_idx137_inb : ∀ (v314 : IVec S16 32) (k0_hw137 : k0_chk137 v314), ∀ a x, ((![v314] : Fin 1 → IVec S16 32) a x).toNat < S16.size a := fun v314 k0_hw137 => k0_hw137

def k0_chk138 (v315 : IVec S16 32) : Prop :=
  (∀ a x, ((![v315] : Fin 1 → IVec S16 32) a x).toNat < S16.size a)
theorem k0_idx138_inb : ∀ (v315 : IVec S16 32) (k0_hw138 : k0_chk138 v315), ∀ a x, ((![v315] : Fin 1 → IVec S16 32) a x).toNat < S16.size a := fun v315 k0_hw138 => k0_hw138

def k0_chk139 (v316 : IVec S16 32) : Prop :=
  (∀ a x, ((![v316] : Fin 1 → IVec S16 32) a x).toNat < S16.size a)
theorem k0_idx139_inb : ∀ (v316 : IVec S16 32) (k0_hw139 : k0_chk139 v316), ∀ a x, ((![v316] : Fin 1 → IVec S16 32) a x).toNat < S16.size a := fun v316 k0_hw139 => k0_hw139

def k0_chk140 (v317 : IVec S16 32) : Prop :=
  (∀ a x, ((![v317] : Fin 1 → IVec S16 32) a x).toNat < S16.size a)
theorem k0_idx140_inb : ∀ (v317 : IVec S16 32) (k0_hw140 : k0_chk140 v317), ∀ a x, ((![v317] : Fin 1 → IVec S16 32) a x).toNat < S16.size a := fun v317 k0_hw140 => k0_hw140

def k0_chk141 (v318 : IVec S16 32) : Prop :=
  (∀ a x, ((![v318] : Fin 1 → IVec S16 32) a x).toNat < S16.size a)
theorem k0_idx141_inb : ∀ (v318 : IVec S16 32) (k0_hw141 : k0_chk141 v318), ∀ a x, ((![v318] : Fin 1 → IVec S16 32) a x).toNat < S16.size a := fun v318 k0_hw141 => k0_hw141

def k0_chk142 (v319 : IVec S16 32) : Prop :=
  (∀ a x, ((![v319] : Fin 1 → IVec S16 32) a x).toNat < S16.size a)
theorem k0_idx142_inb : ∀ (v319 : IVec S16 32) (k0_hw142 : k0_chk142 v319), ∀ a x, ((![v319] : Fin 1 → IVec S16 32) a x).toNat < S16.size a := fun v319 k0_hw142 => k0_hw142

def k0_chk143 (v320 : IVec S16 32) : Prop :=
  (∀ a x, ((![v320] : Fin 1 → IVec S16 32) a x).toNat < S16.size a)
theorem k0_idx143_inb : ∀ (v320 : IVec S16 32) (k0_hw143 : k0_chk143 v320), ∀ a x, ((![v320] : Fin 1 → IVec S16 32) a x).toNat < S16.size a := fun v320 k0_hw143 => k0_hw143

def k0_chk144 (v321 : IVec S16 32) : Prop :=
  (∀ a x, ((![v321] : Fin 1 → IVec S16 32) a x).toNat < S16.size a)
theorem k0_idx144_inb : ∀ (v321 : IVec S16 32) (k0_hw144 : k0_chk144 v321), ∀ a x, ((![v321] : Fin 1 → IVec S16 32) a x).toNat < S16.size a := fun v321 k0_hw144 => k0_hw144

def k0_chk145 (v332 : IVec S16 32) : Prop :=
  (∀ a x, ((![v332] : Fin 1 → IVec S16 32) a x).toNat < S16.size a)
theorem k0_idx145_inb : ∀ (v332 : IVec S16 32) (k0_hw145 : k0_chk145 v332), ∀ a x, ((![v332] : Fin 1 → IVec S16 32) a x).toNat < S16.size a := fun v332 k0_hw145 => k0_hw145

def k0_chk146 (v333 : IVec S16 32) : Prop :=
  (∀ a x, ((![v333] : Fin 1 → IVec S16 32) a x).toNat < S16.size a)
theorem k0_idx146_inb : ∀ (v333 : IVec S16 32) (k0_hw146 : k0_chk146 v333), ∀ a x, ((![v333] : Fin 1 → IVec S16 32) a x).toNat < S16.size a := fun v333 k0_hw146 => k0_hw146

def k0_chk147 (v334 : IVec S16 32) : Prop :=
  (∀ a x, ((![v334] : Fin 1 → IVec S16 32) a x).toNat < S16.size a)
theorem k0_idx147_inb : ∀ (v334 : IVec S16 32) (k0_hw147 : k0_chk147 v334), ∀ a x, ((![v334] : Fin 1 → IVec S16 32) a x).toNat < S16.size a := fun v334 k0_hw147 => k0_hw147

def k0_chk148 (v335 : IVec S16 32) : Prop :=
  (∀ a x, ((![v335] : Fin 1 → IVec S16 32) a x).toNat < S16.size a)
theorem k0_idx148_inb : ∀ (v335 : IVec S16 32) (k0_hw148 : k0_chk148 v335), ∀ a x, ((![v335] : Fin 1 → IVec S16 32) a x).toNat < S16.size a := fun v335 k0_hw148 => k0_hw148

def k0_chk149 (v336 : IVec S16 32) : Prop :=
  (∀ a x, ((![v336] : Fin 1 → IVec S16 32) a x).toNat < S16.size a)
theorem k0_idx149_inb : ∀ (v336 : IVec S16 32) (k0_hw149 : k0_chk149 v336), ∀ a x, ((![v336] : Fin 1 → IVec S16 32) a x).toNat < S16.size a := fun v336 k0_hw149 => k0_hw149

def k0_chk150 (v337 : IVec S16 32) : Prop :=
  (∀ a x, ((![v337] : Fin 1 → IVec S16 32) a x).toNat < S16.size a)
theorem k0_idx150_inb : ∀ (v337 : IVec S16 32) (k0_hw150 : k0_chk150 v337), ∀ a x, ((![v337] : Fin 1 → IVec S16 32) a x).toNat < S16.size a := fun v337 k0_hw150 => k0_hw150

def k0_chk151 (v338 : IVec S16 32) : Prop :=
  (∀ a x, ((![v338] : Fin 1 → IVec S16 32) a x).toNat < S16.size a)
theorem k0_idx151_inb : ∀ (v338 : IVec S16 32) (k0_hw151 : k0_chk151 v338), ∀ a x, ((![v338] : Fin 1 → IVec S16 32) a x).toNat < S16.size a := fun v338 k0_hw151 => k0_hw151

def k0_chk152 (v339 : IVec S16 32) : Prop :=
  (∀ a x, ((![v339] : Fin 1 → IVec S16 32) a x).toNat < S16.size a)
theorem k0_idx152_inb : ∀ (v339 : IVec S16 32) (k0_hw152 : k0_chk152 v339), ∀ a x, ((![v339] : Fin 1 → IVec S16 32) a x).toNat < S16.size a := fun v339 k0_hw152 => k0_hw152

def k0_chk153 (v350 : IVec S16 32) : Prop :=
  (∀ a x, ((![v350] : Fin 1 → IVec S16 32) a x).toNat < S16.size a)
theorem k0_idx153_inb : ∀ (v350 : IVec S16 32) (k0_hw153 : k0_chk153 v350), ∀ a x, ((![v350] : Fin 1 → IVec S16 32) a x).toNat < S16.size a := fun v350 k0_hw153 => k0_hw153

def k0_chk154 (v351 : IVec S16 32) : Prop :=
  (∀ a x, ((![v351] : Fin 1 → IVec S16 32) a x).toNat < S16.size a)
theorem k0_idx154_inb : ∀ (v351 : IVec S16 32) (k0_hw154 : k0_chk154 v351), ∀ a x, ((![v351] : Fin 1 → IVec S16 32) a x).toNat < S16.size a := fun v351 k0_hw154 => k0_hw154

def k0_chk155 (v352 : IVec S16 32) : Prop :=
  (∀ a x, ((![v352] : Fin 1 → IVec S16 32) a x).toNat < S16.size a)
theorem k0_idx155_inb : ∀ (v352 : IVec S16 32) (k0_hw155 : k0_chk155 v352), ∀ a x, ((![v352] : Fin 1 → IVec S16 32) a x).toNat < S16.size a := fun v352 k0_hw155 => k0_hw155

def k0_chk156 (v353 : IVec S16 32) : Prop :=
  (∀ a x, ((![v353] : Fin 1 → IVec S16 32) a x).toNat < S16.size a)
theorem k0_idx156_inb : ∀ (v353 : IVec S16 32) (k0_hw156 : k0_chk156 v353), ∀ a x, ((![v353] : Fin 1 → IVec S16 32) a x).toNat < S16.size a := fun v353 k0_hw156 => k0_hw156

def k0_chk157 (v354 : IVec S16 32) : Prop :=
  (∀ a x, ((![v354] : Fin 1 → IVec S16 32) a x).toNat < S16.size a)
theorem k0_idx157_inb : ∀ (v354 : IVec S16 32) (k0_hw157 : k0_chk157 v354), ∀ a x, ((![v354] : Fin 1 → IVec S16 32) a x).toNat < S16.size a := fun v354 k0_hw157 => k0_hw157

def k0_chk158 (v355 : IVec S16 32) : Prop :=
  (∀ a x, ((![v355] : Fin 1 → IVec S16 32) a x).toNat < S16.size a)
theorem k0_idx158_inb : ∀ (v355 : IVec S16 32) (k0_hw158 : k0_chk158 v355), ∀ a x, ((![v355] : Fin 1 → IVec S16 32) a x).toNat < S16.size a := fun v355 k0_hw158 => k0_hw158

def k0_chk159 (v356 : IVec S16 32) : Prop :=
  (∀ a x, ((![v356] : Fin 1 → IVec S16 32) a x).toNat < S16.size a)
theorem k0_idx159_inb : ∀ (v356 : IVec S16 32) (k0_hw159 : k0_chk159 v356), ∀ a x, ((![v356] : Fin 1 → IVec S16 32) a x).toNat < S16.size a := fun v356 k0_hw159 => k0_hw159

def k0_chk160 (v357 : IVec S16 32) : Prop :=
  (∀ a x, ((![v357] : Fin 1 → IVec S16 32) a x).toNat < S16.size a)
theorem k0_idx160_inb : ∀ (v357 : IVec S16 32) (k0_hw160 : k0_chk160 v357), ∀ a x, ((![v357] : Fin 1 → IVec S16 32) a x).toNat < S16.size a := fun v357 k0_hw160 => k0_hw160

def k0_chk161 (v368 : IVec S16 32) : Prop :=
  (∀ a x, ((![v368] : Fin 1 → IVec S16 32) a x).toNat < S16.size a)
theorem k0_idx161_inb : ∀ (v368 : IVec S16 32) (k0_hw161 : k0_chk161 v368), ∀ a x, ((![v368] : Fin 1 → IVec S16 32) a x).toNat < S16.size a := fun v368 k0_hw161 => k0_hw161

def k0_chk162 (v369 : IVec S16 32) : Prop :=
  (∀ a x, ((![v369] : Fin 1 → IVec S16 32) a x).toNat < S16.size a)
theorem k0_idx162_inb : ∀ (v369 : IVec S16 32) (k0_hw162 : k0_chk162 v369), ∀ a x, ((![v369] : Fin 1 → IVec S16 32) a x).toNat < S16.size a := fun v369 k0_hw162 => k0_hw162

def k0_chk163 (v370 : IVec S16 32) : Prop :=
  (∀ a x, ((![v370] : Fin 1 → IVec S16 32) a x).toNat < S16.size a)
theorem k0_idx163_inb : ∀ (v370 : IVec S16 32) (k0_hw163 : k0_chk163 v370), ∀ a x, ((![v370] : Fin 1 → IVec S16 32) a x).toNat < S16.size a := fun v370 k0_hw163 => k0_hw163

def k0_chk164 (v371 : IVec S16 32) : Prop :=
  (∀ a x, ((![v371] : Fin 1 → IVec S16 32) a x).toNat < S16.size a)
theorem k0_idx164_inb : ∀ (v371 : IVec S16 32) (k0_hw164 : k0_chk164 v371), ∀ a x, ((![v371] : Fin 1 → IVec S16 32) a x).toNat < S16.size a := fun v371 k0_hw164 => k0_hw164

def k0_chk165 (v372 : IVec S16 32) : Prop :=
  (∀ a x, ((![v372] : Fin 1 → IVec S16 32) a x).toNat < S16.size a)
theorem k0_idx165_inb : ∀ (v372 : IVec S16 32) (k0_hw165 : k0_chk165 v372), ∀ a x, ((![v372] : Fin 1 → IVec S16 32) a x).toNat < S16.size a := fun v372 k0_hw165 => k0_hw165

def k0_chk166 (v373 : IVec S16 32) : Prop :=
  (∀ a x, ((![v373] : Fin 1 → IVec S16 32) a x).toNat < S16.size a)
theorem k0_idx166_inb : ∀ (v373 : IVec S16 32) (k0_hw166 : k0_chk166 v373), ∀ a x, ((![v373] : Fin 1 → IVec S16 32) a x).toNat < S16.size a := fun v373 k0_hw166 => k0_hw166

def k0_chk167 (v374 : IVec S16 32) : Prop :=
  (∀ a x, ((![v374] : Fin 1 → IVec S16 32) a x).toNat < S16.size a)
theorem k0_idx167_inb : ∀ (v374 : IVec S16 32) (k0_hw167 : k0_chk167 v374), ∀ a x, ((![v374] : Fin 1 → IVec S16 32) a x).toNat < S16.size a := fun v374 k0_hw167 => k0_hw167

def k0_chk168 (v375 : IVec S16 32) : Prop :=
  (∀ a x, ((![v375] : Fin 1 → IVec S16 32) a x).toNat < S16.size a)
theorem k0_idx168_inb : ∀ (v375 : IVec S16 32) (k0_hw168 : k0_chk168 v375), ∀ a x, ((![v375] : Fin 1 → IVec S16 32) a x).toNat < S16.size a := fun v375 k0_hw168 => k0_hw168

def k0_chk169 (v386 : IVec S16 32) : Prop :=
  (∀ a x, ((![v386] : Fin 1 → IVec S16 32) a x).toNat < S16.size a)
theorem k0_idx169_inb : ∀ (v386 : IVec S16 32) (k0_hw169 : k0_chk169 v386), ∀ a x, ((![v386] : Fin 1 → IVec S16 32) a x).toNat < S16.size a := fun v386 k0_hw169 => k0_hw169

def k0_chk170 (v387 : IVec S16 32) : Prop :=
  (∀ a x, ((![v387] : Fin 1 → IVec S16 32) a x).toNat < S16.size a)
theorem k0_idx170_inb : ∀ (v387 : IVec S16 32) (k0_hw170 : k0_chk170 v387), ∀ a x, ((![v387] : Fin 1 → IVec S16 32) a x).toNat < S16.size a := fun v387 k0_hw170 => k0_hw170

def k0_chk171 (v388 : IVec S16 32) : Prop :=
  (∀ a x, ((![v388] : Fin 1 → IVec S16 32) a x).toNat < S16.size a)
theorem k0_idx171_inb : ∀ (v388 : IVec S16 32) (k0_hw171 : k0_chk171 v388), ∀ a x, ((![v388] : Fin 1 → IVec S16 32) a x).toNat < S16.size a := fun v388 k0_hw171 => k0_hw171

def k0_chk172 (v389 : IVec S16 32) : Prop :=
  (∀ a x, ((![v389] : Fin 1 → IVec S16 32) a x).toNat < S16.size a)
theorem k0_idx172_inb : ∀ (v389 : IVec S16 32) (k0_hw172 : k0_chk172 v389), ∀ a x, ((![v389] : Fin 1 → IVec S16 32) a x).toNat < S16.size a := fun v389 k0_hw172 => k0_hw172

def k0_chk173 (v390 : IVec S16 32) : Prop :=
  (∀ a x, ((![v390] : Fin 1 → IVec S16 32) a x).toNat < S16.size a)
theorem k0_idx173_inb : ∀ (v390 : IVec S16 32) (k0_hw173 : k0_chk173 v390), ∀ a x, ((![v390] : Fin 1 → IVec S16 32) a x).toNat < S16.size a := fun v390 k0_hw173 => k0_hw173

def k0_chk174 (v391 : IVec S16 32) : Prop :=
  (∀ a x, ((![v391] : Fin 1 → IVec S16 32) a x).toNat < S16.size a)
theorem k0_idx174_inb : ∀ (v391 : IVec S16 32) (k0_hw174 : k0_chk174 v391), ∀ a x, ((![v391] : Fin 1 → IVec S16 32) a x).toNat < S16.size a := fun v391 k0_hw174 => k0_hw174

def k0_chk175 (v392 : IVec S16 32) : Prop :=
  (∀ a x, ((![v392] : Fin 1 → IVec S16 32) a x).toNat < S16.size a)
theorem k0_idx175_inb : ∀ (v392 : IVec S16 32) (k0_hw175 : k0_chk175 v392), ∀ a x, ((![v392] : Fin 1 → IVec S16 32) a x).toNat < S16.size a := fun v392 k0_hw175 => k0_hw175

def k0_chk176 (v393 : IVec S16 32) : Prop :=
  (∀ a x, ((![v393] : Fin 1 → IVec S16 32) a x).toNat < S16.size a)
theorem k0_idx176_inb : ∀ (v393 : IVec S16 32) (k0_hw176 : k0_chk176 v393), ∀ a x, ((![v393] : Fin 1 → IVec S16 32) a x).toNat < S16.size a := fun v393 k0_hw176 => k0_hw176

def k0_chk177 (v404 : IVec S16 32) : Prop :=
  (∀ a x, ((![v404] : Fin 1 → IVec S16 32) a x).toNat < S16.size a)
theorem k0_idx177_inb : ∀ (v404 : IVec S16 32) (k0_hw177 : k0_chk177 v404), ∀ a x, ((![v404] : Fin 1 → IVec S16 32) a x).toNat < S16.size a := fun v404 k0_hw177 => k0_hw177

def k0_chk178 (v405 : IVec S16 32) : Prop :=
  (∀ a x, ((![v405] : Fin 1 → IVec S16 32) a x).toNat < S16.size a)
theorem k0_idx178_inb : ∀ (v405 : IVec S16 32) (k0_hw178 : k0_chk178 v405), ∀ a x, ((![v405] : Fin 1 → IVec S16 32) a x).toNat < S16.size a := fun v405 k0_hw178 => k0_hw178

def k0_chk179 (v406 : IVec S16 32) : Prop :=
  (∀ a x, ((![v406] : Fin 1 → IVec S16 32) a x).toNat < S16.size a)
theorem k0_idx179_inb : ∀ (v406 : IVec S16 32) (k0_hw179 : k0_chk179 v406), ∀ a x, ((![v406] : Fin 1 → IVec S16 32) a x).toNat < S16.size a := fun v406 k0_hw179 => k0_hw179

def k0_chk180 (v407 : IVec S16 32) : Prop :=
  (∀ a x, ((![v407] : Fin 1 → IVec S16 32) a x).toNat < S16.size a)
theorem k0_idx180_inb : ∀ (v407 : IVec S16 32) (k0_hw180 : k0_chk180 v407), ∀ a x, ((![v407] : Fin 1 → IVec S16 32) a x).toNat < S16.size a := fun v407 k0_hw180 => k0_hw180

def k0_chk181 (v408 : IVec S16 32) : Prop :=
  (∀ a x, ((![v408] : Fin 1 → IVec S16 32) a x).toNat < S16.size a)
theorem k0_idx181_inb : ∀ (v408 : IVec S16 32) (k0_hw181 : k0_chk181 v408), ∀ a x, ((![v408] : Fin 1 → IVec S16 32) a x).toNat < S16.size a := fun v408 k0_hw181 => k0_hw181

def k0_chk182 (v409 : IVec S16 32) : Prop :=
  (∀ a x, ((![v409] : Fin 1 → IVec S16 32) a x).toNat < S16.size a)
theorem k0_idx182_inb : ∀ (v409 : IVec S16 32) (k0_hw182 : k0_chk182 v409), ∀ a x, ((![v409] : Fin 1 → IVec S16 32) a x).toNat < S16.size a := fun v409 k0_hw182 => k0_hw182

def k0_chk183 (v410 : IVec S16 32) : Prop :=
  (∀ a x, ((![v410] : Fin 1 → IVec S16 32) a x).toNat < S16.size a)
theorem k0_idx183_inb : ∀ (v410 : IVec S16 32) (k0_hw183 : k0_chk183 v410), ∀ a x, ((![v410] : Fin 1 → IVec S16 32) a x).toNat < S16.size a := fun v410 k0_hw183 => k0_hw183

def k0_chk184 (v411 : IVec S16 32) : Prop :=
  (∀ a x, ((![v411] : Fin 1 → IVec S16 32) a x).toNat < S16.size a)
theorem k0_idx184_inb : ∀ (v411 : IVec S16 32) (k0_hw184 : k0_chk184 v411), ∀ a x, ((![v411] : Fin 1 → IVec S16 32) a x).toNat < S16.size a := fun v411 k0_hw184 => k0_hw184

def k0_chk185 (v422 : IVec S16 32) : Prop :=
  (∀ a x, ((![v422] : Fin 1 → IVec S16 32) a x).toNat < S16.size a)
theorem k0_idx185_inb : ∀ (v422 : IVec S16 32) (k0_hw185 : k0_chk185 v422), ∀ a x, ((![v422] : Fin 1 → IVec S16 32) a x).toNat < S16.size a := fun v422 k0_hw185 => k0_hw185

def k0_chk186 (v423 : IVec S16 32) : Prop :=
  (∀ a x, ((![v423] : Fin 1 → IVec S16 32) a x).toNat < S16.size a)
theorem k0_idx186_inb : ∀ (v423 : IVec S16 32) (k0_hw186 : k0_chk186 v423), ∀ a x, ((![v423] : Fin 1 → IVec S16 32) a x).toNat < S16.size a := fun v423 k0_hw186 => k0_hw186

def k0_chk187 (v424 : IVec S16 32) : Prop :=
  (∀ a x, ((![v424] : Fin 1 → IVec S16 32) a x).toNat < S16.size a)
theorem k0_idx187_inb : ∀ (v424 : IVec S16 32) (k0_hw187 : k0_chk187 v424), ∀ a x, ((![v424] : Fin 1 → IVec S16 32) a x).toNat < S16.size a := fun v424 k0_hw187 => k0_hw187

def k0_chk188 (v425 : IVec S16 32) : Prop :=
  (∀ a x, ((![v425] : Fin 1 → IVec S16 32) a x).toNat < S16.size a)
theorem k0_idx188_inb : ∀ (v425 : IVec S16 32) (k0_hw188 : k0_chk188 v425), ∀ a x, ((![v425] : Fin 1 → IVec S16 32) a x).toNat < S16.size a := fun v425 k0_hw188 => k0_hw188

def k0_chk189 (v426 : IVec S16 32) : Prop :=
  (∀ a x, ((![v426] : Fin 1 → IVec S16 32) a x).toNat < S16.size a)
theorem k0_idx189_inb : ∀ (v426 : IVec S16 32) (k0_hw189 : k0_chk189 v426), ∀ a x, ((![v426] : Fin 1 → IVec S16 32) a x).toNat < S16.size a := fun v426 k0_hw189 => k0_hw189

def k0_chk190 (v427 : IVec S16 32) : Prop :=
  (∀ a x, ((![v427] : Fin 1 → IVec S16 32) a x).toNat < S16.size a)
theorem k0_idx190_inb : ∀ (v427 : IVec S16 32) (k0_hw190 : k0_chk190 v427), ∀ a x, ((![v427] : Fin 1 → IVec S16 32) a x).toNat < S16.size a := fun v427 k0_hw190 => k0_hw190

def k0_chk191 (v428 : IVec S16 32) : Prop :=
  (∀ a x, ((![v428] : Fin 1 → IVec S16 32) a x).toNat < S16.size a)
theorem k0_idx191_inb : ∀ (v428 : IVec S16 32) (k0_hw191 : k0_chk191 v428), ∀ a x, ((![v428] : Fin 1 → IVec S16 32) a x).toNat < S16.size a := fun v428 k0_hw191 => k0_hw191

def k0_chk192 (v429 : IVec S16 32) : Prop :=
  (∀ a x, ((![v429] : Fin 1 → IVec S16 32) a x).toNat < S16.size a)
theorem k0_idx192_inb : ∀ (v429 : IVec S16 32) (k0_hw192 : k0_chk192 v429), ∀ a x, ((![v429] : Fin 1 → IVec S16 32) a x).toNat < S16.size a := fun v429 k0_hw192 => k0_hw192

def k0_chk193 (v440 : IVec S16 32) : Prop :=
  (∀ a x, ((![v440] : Fin 1 → IVec S16 32) a x).toNat < S16.size a)
theorem k0_idx193_inb : ∀ (v440 : IVec S16 32) (k0_hw193 : k0_chk193 v440), ∀ a x, ((![v440] : Fin 1 → IVec S16 32) a x).toNat < S16.size a := fun v440 k0_hw193 => k0_hw193

def k0_chk194 (v441 : IVec S16 32) : Prop :=
  (∀ a x, ((![v441] : Fin 1 → IVec S16 32) a x).toNat < S16.size a)
theorem k0_idx194_inb : ∀ (v441 : IVec S16 32) (k0_hw194 : k0_chk194 v441), ∀ a x, ((![v441] : Fin 1 → IVec S16 32) a x).toNat < S16.size a := fun v441 k0_hw194 => k0_hw194

def k0_chk195 (v442 : IVec S16 32) : Prop :=
  (∀ a x, ((![v442] : Fin 1 → IVec S16 32) a x).toNat < S16.size a)
theorem k0_idx195_inb : ∀ (v442 : IVec S16 32) (k0_hw195 : k0_chk195 v442), ∀ a x, ((![v442] : Fin 1 → IVec S16 32) a x).toNat < S16.size a := fun v442 k0_hw195 => k0_hw195

def k0_chk196 (v443 : IVec S16 32) : Prop :=
  (∀ a x, ((![v443] : Fin 1 → IVec S16 32) a x).toNat < S16.size a)
theorem k0_idx196_inb : ∀ (v443 : IVec S16 32) (k0_hw196 : k0_chk196 v443), ∀ a x, ((![v443] : Fin 1 → IVec S16 32) a x).toNat < S16.size a := fun v443 k0_hw196 => k0_hw196

def k0_chk197 (v444 : IVec S16 32) : Prop :=
  (∀ a x, ((![v444] : Fin 1 → IVec S16 32) a x).toNat < S16.size a)
theorem k0_idx197_inb : ∀ (v444 : IVec S16 32) (k0_hw197 : k0_chk197 v444), ∀ a x, ((![v444] : Fin 1 → IVec S16 32) a x).toNat < S16.size a := fun v444 k0_hw197 => k0_hw197

def k0_chk198 (v445 : IVec S16 32) : Prop :=
  (∀ a x, ((![v445] : Fin 1 → IVec S16 32) a x).toNat < S16.size a)
theorem k0_idx198_inb : ∀ (v445 : IVec S16 32) (k0_hw198 : k0_chk198 v445), ∀ a x, ((![v445] : Fin 1 → IVec S16 32) a x).toNat < S16.size a := fun v445 k0_hw198 => k0_hw198

def k0_chk199 (v446 : IVec S16 32) : Prop :=
  (∀ a x, ((![v446] : Fin 1 → IVec S16 32) a x).toNat < S16.size a)
theorem k0_idx199_inb : ∀ (v446 : IVec S16 32) (k0_hw199 : k0_chk199 v446), ∀ a x, ((![v446] : Fin 1 → IVec S16 32) a x).toNat < S16.size a := fun v446 k0_hw199 => k0_hw199

def k0_chk200 (v447 : IVec S16 32) : Prop :=
  (∀ a x, ((![v447] : Fin 1 → IVec S16 32) a x).toNat < S16.size a)
theorem k0_idx200_inb : ∀ (v447 : IVec S16 32) (k0_hw200 : k0_chk200 v447), ∀ a x, ((![v447] : Fin 1 → IVec S16 32) a x).toNat < S16.size a := fun v447 k0_hw200 => k0_hw200

def k0_chk201 (v458 : IVec S16 32) : Prop :=
  (∀ a x, ((![v458] : Fin 1 → IVec S16 32) a x).toNat < S16.size a)
theorem k0_idx201_inb : ∀ (v458 : IVec S16 32) (k0_hw201 : k0_chk201 v458), ∀ a x, ((![v458] : Fin 1 → IVec S16 32) a x).toNat < S16.size a := fun v458 k0_hw201 => k0_hw201

def k0_chk202 (v459 : IVec S16 32) : Prop :=
  (∀ a x, ((![v459] : Fin 1 → IVec S16 32) a x).toNat < S16.size a)
theorem k0_idx202_inb : ∀ (v459 : IVec S16 32) (k0_hw202 : k0_chk202 v459), ∀ a x, ((![v459] : Fin 1 → IVec S16 32) a x).toNat < S16.size a := fun v459 k0_hw202 => k0_hw202

def k0_chk203 (v460 : IVec S16 32) : Prop :=
  (∀ a x, ((![v460] : Fin 1 → IVec S16 32) a x).toNat < S16.size a)
theorem k0_idx203_inb : ∀ (v460 : IVec S16 32) (k0_hw203 : k0_chk203 v460), ∀ a x, ((![v460] : Fin 1 → IVec S16 32) a x).toNat < S16.size a := fun v460 k0_hw203 => k0_hw203

def k0_chk204 (v461 : IVec S16 32) : Prop :=
  (∀ a x, ((![v461] : Fin 1 → IVec S16 32) a x).toNat < S16.size a)
theorem k0_idx204_inb : ∀ (v461 : IVec S16 32) (k0_hw204 : k0_chk204 v461), ∀ a x, ((![v461] : Fin 1 → IVec S16 32) a x).toNat < S16.size a := fun v461 k0_hw204 => k0_hw204

def k0_chk205 (v462 : IVec S16 32) : Prop :=
  (∀ a x, ((![v462] : Fin 1 → IVec S16 32) a x).toNat < S16.size a)
theorem k0_idx205_inb : ∀ (v462 : IVec S16 32) (k0_hw205 : k0_chk205 v462), ∀ a x, ((![v462] : Fin 1 → IVec S16 32) a x).toNat < S16.size a := fun v462 k0_hw205 => k0_hw205

def k0_chk206 (v463 : IVec S16 32) : Prop :=
  (∀ a x, ((![v463] : Fin 1 → IVec S16 32) a x).toNat < S16.size a)
theorem k0_idx206_inb : ∀ (v463 : IVec S16 32) (k0_hw206 : k0_chk206 v463), ∀ a x, ((![v463] : Fin 1 → IVec S16 32) a x).toNat < S16.size a := fun v463 k0_hw206 => k0_hw206

def k0_chk207 (v464 : IVec S16 32) : Prop :=
  (∀ a x, ((![v464] : Fin 1 → IVec S16 32) a x).toNat < S16.size a)
theorem k0_idx207_inb : ∀ (v464 : IVec S16 32) (k0_hw207 : k0_chk207 v464), ∀ a x, ((![v464] : Fin 1 → IVec S16 32) a x).toNat < S16.size a := fun v464 k0_hw207 => k0_hw207

def k0_chk208 (v465 : IVec S16 32) : Prop :=
  (∀ a x, ((![v465] : Fin 1 → IVec S16 32) a x).toNat < S16.size a)
theorem k0_idx208_inb : ∀ (v465 : IVec S16 32) (k0_hw208 : k0_chk208 v465), ∀ a x, ((![v465] : Fin 1 → IVec S16 32) a x).toNat < S16.size a := fun v465 k0_hw208 => k0_hw208

def k0_chk209 (v476 : IVec S16 32) : Prop :=
  (∀ a x, ((![v476] : Fin 1 → IVec S16 32) a x).toNat < S16.size a)
theorem k0_idx209_inb : ∀ (v476 : IVec S16 32) (k0_hw209 : k0_chk209 v476), ∀ a x, ((![v476] : Fin 1 → IVec S16 32) a x).toNat < S16.size a := fun v476 k0_hw209 => k0_hw209

def k0_chk210 (v477 : IVec S16 32) : Prop :=
  (∀ a x, ((![v477] : Fin 1 → IVec S16 32) a x).toNat < S16.size a)
theorem k0_idx210_inb : ∀ (v477 : IVec S16 32) (k0_hw210 : k0_chk210 v477), ∀ a x, ((![v477] : Fin 1 → IVec S16 32) a x).toNat < S16.size a := fun v477 k0_hw210 => k0_hw210

def k0_chk211 (v478 : IVec S16 32) : Prop :=
  (∀ a x, ((![v478] : Fin 1 → IVec S16 32) a x).toNat < S16.size a)
theorem k0_idx211_inb : ∀ (v478 : IVec S16 32) (k0_hw211 : k0_chk211 v478), ∀ a x, ((![v478] : Fin 1 → IVec S16 32) a x).toNat < S16.size a := fun v478 k0_hw211 => k0_hw211

def k0_chk212 (v479 : IVec S16 32) : Prop :=
  (∀ a x, ((![v479] : Fin 1 → IVec S16 32) a x).toNat < S16.size a)
theorem k0_idx212_inb : ∀ (v479 : IVec S16 32) (k0_hw212 : k0_chk212 v479), ∀ a x, ((![v479] : Fin 1 → IVec S16 32) a x).toNat < S16.size a := fun v479 k0_hw212 => k0_hw212

def k0_chk213 (v480 : IVec S16 32) : Prop :=
  (∀ a x, ((![v480] : Fin 1 → IVec S16 32) a x).toNat < S16.size a)
theorem k0_idx213_inb : ∀ (v480 : IVec S16 32) (k0_hw213 : k0_chk213 v480), ∀ a x, ((![v480] : Fin 1 → IVec S16 32) a x).toNat < S16.size a := fun v480 k0_hw213 => k0_hw213

def k0_chk214 (v481 : IVec S16 32) : Prop :=
  (∀ a x, ((![v481] : Fin 1 → IVec S16 32) a x).toNat < S16.size a)
theorem k0_idx214_inb : ∀ (v481 : IVec S16 32) (k0_hw214 : k0_chk214 v481), ∀ a x, ((![v481] : Fin 1 → IVec S16 32) a x).toNat < S16.size a := fun v481 k0_hw214 => k0_hw214

def k0_chk215 (v482 : IVec S16 32) : Prop :=
  (∀ a x, ((![v482] : Fin 1 → IVec S16 32) a x).toNat < S16.size a)
theorem k0_idx215_inb : ∀ (v482 : IVec S16 32) (k0_hw215 : k0_chk215 v482), ∀ a x, ((![v482] : Fin 1 → IVec S16 32) a x).toNat < S16.size a := fun v482 k0_hw215 => k0_hw215

def k0_chk216 (v483 : IVec S16 32) : Prop :=
  (∀ a x, ((![v483] : Fin 1 → IVec S16 32) a x).toNat < S16.size a)
theorem k0_idx216_inb : ∀ (v483 : IVec S16 32) (k0_hw216 : k0_chk216 v483), ∀ a x, ((![v483] : Fin 1 → IVec S16 32) a x).toNat < S16.size a := fun v483 k0_hw216 => k0_hw216

def k0_chk217 (v494 : IVec S16 32) : Prop :=
  (∀ a x, ((![v494] : Fin 1 → IVec S16 32) a x).toNat < S16.size a)
theorem k0_idx217_inb : ∀ (v494 : IVec S16 32) (k0_hw217 : k0_chk217 v494), ∀ a x, ((![v494] : Fin 1 → IVec S16 32) a x).toNat < S16.size a := fun v494 k0_hw217 => k0_hw217

def k0_chk218 (v495 : IVec S16 32) : Prop :=
  (∀ a x, ((![v495] : Fin 1 → IVec S16 32) a x).toNat < S16.size a)
theorem k0_idx218_inb : ∀ (v495 : IVec S16 32) (k0_hw218 : k0_chk218 v495), ∀ a x, ((![v495] : Fin 1 → IVec S16 32) a x).toNat < S16.size a := fun v495 k0_hw218 => k0_hw218

def k0_chk219 (v496 : IVec S16 32) : Prop :=
  (∀ a x, ((![v496] : Fin 1 → IVec S16 32) a x).toNat < S16.size a)
theorem k0_idx219_inb : ∀ (v496 : IVec S16 32) (k0_hw219 : k0_chk219 v496), ∀ a x, ((![v496] : Fin 1 → IVec S16 32) a x).toNat < S16.size a := fun v496 k0_hw219 => k0_hw219

def k0_chk220 (v497 : IVec S16 32) : Prop :=
  (∀ a x, ((![v497] : Fin 1 → IVec S16 32) a x).toNat < S16.size a)
theorem k0_idx220_inb : ∀ (v497 : IVec S16 32) (k0_hw220 : k0_chk220 v497), ∀ a x, ((![v497] : Fin 1 → IVec S16 32) a x).toNat < S16.size a := fun v497 k0_hw220 => k0_hw220

def k0_chk221 (v498 : IVec S16 32) : Prop :=
  (∀ a x, ((![v498] : Fin 1 → IVec S16 32) a x).toNat < S16.size a)
theorem k0_idx221_inb : ∀ (v498 : IVec S16 32) (k0_hw221 : k0_chk221 v498), ∀ a x, ((![v498] : Fin 1 → IVec S16 32) a x).toNat < S16.size a := fun v498 k0_hw221 => k0_hw221

def k0_chk222 (v499 : IVec S16 32) : Prop :=
  (∀ a x, ((![v499] : Fin 1 → IVec S16 32) a x).toNat < S16.size a)
theorem k0_idx222_inb : ∀ (v499 : IVec S16 32) (k0_hw222 : k0_chk222 v499), ∀ a x, ((![v499] : Fin 1 → IVec S16 32) a x).toNat < S16.size a := fun v499 k0_hw222 => k0_hw222

def k0_chk223 (v500 : IVec S16 32) : Prop :=
  (∀ a x, ((![v500] : Fin 1 → IVec S16 32) a x).toNat < S16.size a)
theorem k0_idx223_inb : ∀ (v500 : IVec S16 32) (k0_hw223 : k0_chk223 v500), ∀ a x, ((![v500] : Fin 1 → IVec S16 32) a x).toNat < S16.size a := fun v500 k0_hw223 => k0_hw223

def k0_chk224 (v501 : IVec S16 32) : Prop :=
  (∀ a x, ((![v501] : Fin 1 → IVec S16 32) a x).toNat < S16.size a)
theorem k0_idx224_inb : ∀ (v501 : IVec S16 32) (k0_hw224 : k0_chk224 v501), ∀ a x, ((![v501] : Fin 1 → IVec S16 32) a x).toNat < S16.size a := fun v501 k0_hw224 => k0_hw224

def k0_chk225 (v512 : IVec S16 32) : Prop :=
  (∀ a x, ((![v512] : Fin 1 → IVec S16 32) a x).toNat < S16.size a)
theorem k0_idx225_inb : ∀ (v512 : IVec S16 32) (k0_hw225 : k0_chk225 v512), ∀ a x, ((![v512] : Fin 1 → IVec S16 32) a x).toNat < S16.size a := fun v512 k0_hw225 => k0_hw225

def k0_chk226 (v513 : IVec S16 32) : Prop :=
  (∀ a x, ((![v513] : Fin 1 → IVec S16 32) a x).toNat < S16.size a)
theorem k0_idx226_inb : ∀ (v513 : IVec S16 32) (k0_hw226 : k0_chk226 v513), ∀ a x, ((![v513] : Fin 1 → IVec S16 32) a x).toNat < S16.size a := fun v513 k0_hw226 => k0_hw226

def k0_chk227 (v514 : IVec S16 32) : Prop :=
  (∀ a x, ((![v514] : Fin 1 → IVec S16 32) a x).toNat < S16.size a)
theorem k0_idx227_inb : ∀ (v514 : IVec S16 32) (k0_hw227 : k0_chk227 v514), ∀ a x, ((![v514] : Fin 1 → IVec S16 32) a x).toNat < S16.size a := fun v514 k0_hw227 => k0_hw227

def k0_chk228 (v515 : IVec S16 32) : Prop :=
  (∀ a x, ((![v515] : Fin 1 → IVec S16 32) a x).toNat < S16.size a)
theorem k0_idx228_inb : ∀ (v515 : IVec S16 32) (k0_hw228 : k0_chk228 v515), ∀ a x, ((![v515] : Fin 1 → IVec S16 32) a x).toNat < S16.size a := fun v515 k0_hw228 => k0_hw228

def k0_chk229 (v516 : IVec S16 32) : Prop :=
  (∀ a x, ((![v516] : Fin 1 → IVec S16 32) a x).toNat < S16.size a)
theorem k0_idx229_inb : ∀ (v516 : IVec S16 32) (k0_hw229 : k0_chk229 v516), ∀ a x, ((![v516] : Fin 1 → IVec S16 32) a x).toNat < S16.size a := fun v516 k0_hw229 => k0_hw229

def k0_chk230 (v517 : IVec S16 32) : Prop :=
  (∀ a x, ((![v517] : Fin 1 → IVec S16 32) a x).toNat < S16.size a)
theorem k0_idx230_inb : ∀ (v517 : IVec S16 32) (k0_hw230 : k0_chk230 v517), ∀ a x, ((![v517] : Fin 1 → IVec S16 32) a x).toNat < S16.size a := fun v517 k0_hw230 => k0_hw230

def k0_chk231 (v518 : IVec S16 32) : Prop :=
  (∀ a x, ((![v518] : Fin 1 → IVec S16 32) a x).toNat < S16.size a)
theorem k0_idx231_inb : ∀ (v518 : IVec S16 32) (k0_hw231 : k0_chk231 v518), ∀ a x, ((![v518] : Fin 1 → IVec S16 32) a x).toNat < S16.size a := fun v518 k0_hw231 => k0_hw231

def k0_chk232 (v519 : IVec S16 32) : Prop :=
  (∀ a x, ((![v519] : Fin 1 → IVec S16 32) a x).toNat < S16.size a)
theorem k0_idx232_inb : ∀ (v519 : IVec S16 32) (k0_hw232 : k0_chk232 v519), ∀ a x, ((![v519] : Fin 1 → IVec S16 32) a x).toNat < S16.size a := fun v519 k0_hw232 => k0_hw232

def k0_chk233 (v530 : IVec S16 32) : Prop :=
  (∀ a x, ((![v530] : Fin 1 → IVec S16 32) a x).toNat < S16.size a)
theorem k0_idx233_inb : ∀ (v530 : IVec S16 32) (k0_hw233 : k0_chk233 v530), ∀ a x, ((![v530] : Fin 1 → IVec S16 32) a x).toNat < S16.size a := fun v530 k0_hw233 => k0_hw233

def k0_chk234 (v531 : IVec S16 32) : Prop :=
  (∀ a x, ((![v531] : Fin 1 → IVec S16 32) a x).toNat < S16.size a)
theorem k0_idx234_inb : ∀ (v531 : IVec S16 32) (k0_hw234 : k0_chk234 v531), ∀ a x, ((![v531] : Fin 1 → IVec S16 32) a x).toNat < S16.size a := fun v531 k0_hw234 => k0_hw234

def k0_chk235 (v532 : IVec S16 32) : Prop :=
  (∀ a x, ((![v532] : Fin 1 → IVec S16 32) a x).toNat < S16.size a)
theorem k0_idx235_inb : ∀ (v532 : IVec S16 32) (k0_hw235 : k0_chk235 v532), ∀ a x, ((![v532] : Fin 1 → IVec S16 32) a x).toNat < S16.size a := fun v532 k0_hw235 => k0_hw235

def k0_chk236 (v533 : IVec S16 32) : Prop :=
  (∀ a x, ((![v533] : Fin 1 → IVec S16 32) a x).toNat < S16.size a)
theorem k0_idx236_inb : ∀ (v533 : IVec S16 32) (k0_hw236 : k0_chk236 v533), ∀ a x, ((![v533] : Fin 1 → IVec S16 32) a x).toNat < S16.size a := fun v533 k0_hw236 => k0_hw236

def k0_chk237 (v534 : IVec S16 32) : Prop :=
  (∀ a x, ((![v534] : Fin 1 → IVec S16 32) a x).toNat < S16.size a)
theorem k0_idx237_inb : ∀ (v534 : IVec S16 32) (k0_hw237 : k0_chk237 v534), ∀ a x, ((![v534] : Fin 1 → IVec S16 32) a x).toNat < S16.size a := fun v534 k0_hw237 => k0_hw237

def k0_chk238 (v535 : IVec S16 32) : Prop :=
  (∀ a x, ((![v535] : Fin 1 → IVec S16 32) a x).toNat < S16.size a)
theorem k0_idx238_inb : ∀ (v535 : IVec S16 32) (k0_hw238 : k0_chk238 v535), ∀ a x, ((![v535] : Fin 1 → IVec S16 32) a x).toNat < S16.size a := fun v535 k0_hw238 => k0_hw238

def k0_chk239 (v536 : IVec S16 32) : Prop :=
  (∀ a x, ((![v536] : Fin 1 → IVec S16 32) a x).toNat < S16.size a)
theorem k0_idx239_inb : ∀ (v536 : IVec S16 32) (k0_hw239 : k0_chk239 v536), ∀ a x, ((![v536] : Fin 1 → IVec S16 32) a x).toNat < S16.size a := fun v536 k0_hw239 => k0_hw239

def k0_chk240 (v537 : IVec S16 32) : Prop :=
  (∀ a x, ((![v537] : Fin 1 → IVec S16 32) a x).toNat < S16.size a)
theorem k0_idx240_inb : ∀ (v537 : IVec S16 32) (k0_hw240 : k0_chk240 v537), ∀ a x, ((![v537] : Fin 1 → IVec S16 32) a x).toNat < S16.size a := fun v537 k0_hw240 => k0_hw240

def k0_chk241 (v548 : IVec S16 32) : Prop :=
  (∀ a x, ((![v548] : Fin 1 → IVec S16 32) a x).toNat < S16.size a)
theorem k0_idx241_inb : ∀ (v548 : IVec S16 32) (k0_hw241 : k0_chk241 v548), ∀ a x, ((![v548] : Fin 1 → IVec S16 32) a x).toNat < S16.size a := fun v548 k0_hw241 => k0_hw241

def k0_chk242 (v549 : IVec S16 32) : Prop :=
  (∀ a x, ((![v549] : Fin 1 → IVec S16 32) a x).toNat < S16.size a)
theorem k0_idx242_inb : ∀ (v549 : IVec S16 32) (k0_hw242 : k0_chk242 v549), ∀ a x, ((![v549] : Fin 1 → IVec S16 32) a x).toNat < S16.size a := fun v549 k0_hw242 => k0_hw242

def k0_chk243 (v550 : IVec S16 32) : Prop :=
  (∀ a x, ((![v550] : Fin 1 → IVec S16 32) a x).toNat < S16.size a)
theorem k0_idx243_inb : ∀ (v550 : IVec S16 32) (k0_hw243 : k0_chk243 v550), ∀ a x, ((![v550] : Fin 1 → IVec S16 32) a x).toNat < S16.size a := fun v550 k0_hw243 => k0_hw243

def k0_chk244 (v551 : IVec S16 32) : Prop :=
  (∀ a x, ((![v551] : Fin 1 → IVec S16 32) a x).toNat < S16.size a)
theorem k0_idx244_inb : ∀ (v551 : IVec S16 32) (k0_hw244 : k0_chk244 v551), ∀ a x, ((![v551] : Fin 1 → IVec S16 32) a x).toNat < S16.size a := fun v551 k0_hw244 => k0_hw244

def k0_chk245 (v552 : IVec S16 32) : Prop :=
  (∀ a x, ((![v552] : Fin 1 → IVec S16 32) a x).toNat < S16.size a)
theorem k0_idx245_inb : ∀ (v552 : IVec S16 32) (k0_hw245 : k0_chk245 v552), ∀ a x, ((![v552] : Fin 1 → IVec S16 32) a x).toNat < S16.size a := fun v552 k0_hw245 => k0_hw245

def k0_chk246 (v553 : IVec S16 32) : Prop :=
  (∀ a x, ((![v553] : Fin 1 → IVec S16 32) a x).toNat < S16.size a)
theorem k0_idx246_inb : ∀ (v553 : IVec S16 32) (k0_hw246 : k0_chk246 v553), ∀ a x, ((![v553] : Fin 1 → IVec S16 32) a x).toNat < S16.size a := fun v553 k0_hw246 => k0_hw246

def k0_chk247 (v554 : IVec S16 32) : Prop :=
  (∀ a x, ((![v554] : Fin 1 → IVec S16 32) a x).toNat < S16.size a)
theorem k0_idx247_inb : ∀ (v554 : IVec S16 32) (k0_hw247 : k0_chk247 v554), ∀ a x, ((![v554] : Fin 1 → IVec S16 32) a x).toNat < S16.size a := fun v554 k0_hw247 => k0_hw247

def k0_chk248 (v555 : IVec S16 32) : Prop :=
  (∀ a x, ((![v555] : Fin 1 → IVec S16 32) a x).toNat < S16.size a)
theorem k0_idx248_inb : ∀ (v555 : IVec S16 32) (k0_hw248 : k0_chk248 v555), ∀ a x, ((![v555] : Fin 1 → IVec S16 32) a x).toNat < S16.size a := fun v555 k0_hw248 => k0_hw248

def k0_chk249 (v566 : IVec S16 32) : Prop :=
  (∀ a x, ((![v566] : Fin 1 → IVec S16 32) a x).toNat < S16.size a)
theorem k0_idx249_inb : ∀ (v566 : IVec S16 32) (k0_hw249 : k0_chk249 v566), ∀ a x, ((![v566] : Fin 1 → IVec S16 32) a x).toNat < S16.size a := fun v566 k0_hw249 => k0_hw249

def k0_chk250 (v567 : IVec S16 32) : Prop :=
  (∀ a x, ((![v567] : Fin 1 → IVec S16 32) a x).toNat < S16.size a)
theorem k0_idx250_inb : ∀ (v567 : IVec S16 32) (k0_hw250 : k0_chk250 v567), ∀ a x, ((![v567] : Fin 1 → IVec S16 32) a x).toNat < S16.size a := fun v567 k0_hw250 => k0_hw250

def k0_chk251 (v568 : IVec S16 32) : Prop :=
  (∀ a x, ((![v568] : Fin 1 → IVec S16 32) a x).toNat < S16.size a)
theorem k0_idx251_inb : ∀ (v568 : IVec S16 32) (k0_hw251 : k0_chk251 v568), ∀ a x, ((![v568] : Fin 1 → IVec S16 32) a x).toNat < S16.size a := fun v568 k0_hw251 => k0_hw251

def k0_chk252 (v569 : IVec S16 32) : Prop :=
  (∀ a x, ((![v569] : Fin 1 → IVec S16 32) a x).toNat < S16.size a)
theorem k0_idx252_inb : ∀ (v569 : IVec S16 32) (k0_hw252 : k0_chk252 v569), ∀ a x, ((![v569] : Fin 1 → IVec S16 32) a x).toNat < S16.size a := fun v569 k0_hw252 => k0_hw252

def k0_chk253 (v570 : IVec S16 32) : Prop :=
  (∀ a x, ((![v570] : Fin 1 → IVec S16 32) a x).toNat < S16.size a)
theorem k0_idx253_inb : ∀ (v570 : IVec S16 32) (k0_hw253 : k0_chk253 v570), ∀ a x, ((![v570] : Fin 1 → IVec S16 32) a x).toNat < S16.size a := fun v570 k0_hw253 => k0_hw253

def k0_chk254 (v571 : IVec S16 32) : Prop :=
  (∀ a x, ((![v571] : Fin 1 → IVec S16 32) a x).toNat < S16.size a)
theorem k0_idx254_inb : ∀ (v571 : IVec S16 32) (k0_hw254 : k0_chk254 v571), ∀ a x, ((![v571] : Fin 1 → IVec S16 32) a x).toNat < S16.size a := fun v571 k0_hw254 => k0_hw254

def k0_chk255 (v572 : IVec S16 32) : Prop :=
  (∀ a x, ((![v572] : Fin 1 → IVec S16 32) a x).toNat < S16.size a)
theorem k0_idx255_inb : ∀ (v572 : IVec S16 32) (k0_hw255 : k0_chk255 v572), ∀ a x, ((![v572] : Fin 1 → IVec S16 32) a x).toNat < S16.size a := fun v572 k0_hw255 => k0_hw255

def k0_chk256 (v573 : IVec S16 32) : Prop :=
  (∀ a x, ((![v573] : Fin 1 → IVec S16 32) a x).toNat < S16.size a)
theorem k0_idx256_inb : ∀ (v573 : IVec S16 32) (k0_hw256 : k0_chk256 v573), ∀ a x, ((![v573] : Fin 1 → IVec S16 32) a x).toNat < S16.size a := fun v573 k0_hw256 => k0_hw256
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_136 : BitVec 32 := 0#32
  let v591 : BitVec 32 := Scalar.addi v2 c0_i32_136
  let v592 : Index := Scalar.indexCast v591
  ![v592.toNat]

def k0_chk257 (v593 : IVec S16 32) : Prop :=
  (∀ a x, ((![v593] : Fin 1 → IVec S16 32) a x).toNat < S16.size a) ∧
  (∀ a x, ((![v593] : Fin 1 → IVec S16 32) a x).toNat < S16.size a)
theorem k0_idx257_inb : ∀ (v593 : IVec S16 32) (k0_hw257 : k0_chk257 v593), ∀ a x, ((![v593] : Fin 1 → IVec S16 32) a x).toNat < S16.size a := fun v593 k0_hw257 => k0_hw257.1
theorem k0_idx258_inb : ∀ (v593 : IVec S16 32) (k0_hw257 : k0_chk257 v593), ∀ a x, ((![v593] : Fin 1 → IVec S16 32) a x).toNat < S16.size a := fun v593 k0_hw257 => k0_hw257.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c16_i32_141 : BitVec 32 := 16#32
  let v601 : BitVec 32 := Scalar.addi v2 c16_i32_141
  let v602 : Index := Scalar.indexCast v601
  ![v602.toNat]

def k0_chk258 (v603 : IVec S16 32) : Prop :=
  (∀ a x, ((![v603] : Fin 1 → IVec S16 32) a x).toNat < S16.size a) ∧
  (∀ a x, ((![v603] : Fin 1 → IVec S16 32) a x).toNat < S16.size a)
theorem k0_idx259_inb : ∀ (v603 : IVec S16 32) (k0_hw258 : k0_chk258 v603), ∀ a x, ((![v603] : Fin 1 → IVec S16 32) a x).toNat < S16.size a := fun v603 k0_hw258 => k0_hw258.1
theorem k0_idx260_inb : ∀ (v603 : IVec S16 32) (k0_hw258 : k0_chk258 v603), ∀ a x, ((![v603] : Fin 1 → IVec S16 32) a x).toNat < S16.size a := fun v603 k0_hw258 => k0_hw258.2
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v611 : BitVec 32 := Scalar.addi v2 c32_i32
  let v612 : Index := Scalar.indexCast v611
  ![v612.toNat]

def k0_chk259 (v613 : IVec S16 32) : Prop :=
  (∀ a x, ((![v613] : Fin 1 → IVec S16 32) a x).toNat < S16.size a) ∧
  (∀ a x, ((![v613] : Fin 1 → IVec S16 32) a x).toNat < S16.size a)
theorem k0_idx261_inb : ∀ (v613 : IVec S16 32) (k0_hw259 : k0_chk259 v613), ∀ a x, ((![v613] : Fin 1 → IVec S16 32) a x).toNat < S16.size a := fun v613 k0_hw259 => k0_hw259.1
theorem k0_idx262_inb : ∀ (v613 : IVec S16 32) (k0_hw259 : k0_chk259 v613), ∀ a x, ((![v613] : Fin 1 → IVec S16 32) a x).toNat < S16.size a := fun v613 k0_hw259 => k0_hw259.2
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c48_i32 : BitVec 32 := 48#32
  let v621 : BitVec 32 := Scalar.addi v2 c48_i32
  let v622 : Index := Scalar.indexCast v621
  ![v622.toNat]

def k0_chk260 (v623 : IVec S16 32) : Prop :=
  (∀ a x, ((![v623] : Fin 1 → IVec S16 32) a x).toNat < S16.size a) ∧
  (∀ a x, ((![v623] : Fin 1 → IVec S16 32) a x).toNat < S16.size a)
theorem k0_idx263_inb : ∀ (v623 : IVec S16 32) (k0_hw260 : k0_chk260 v623), ∀ a x, ((![v623] : Fin 1 → IVec S16 32) a x).toNat < S16.size a := fun v623 k0_hw260 => k0_hw260.1
theorem k0_idx264_inb : ∀ (v623 : IVec S16 32) (k0_hw260 : k0_chk260 v623), ∀ a x, ((![v623] : Fin 1 → IVec S16 32) a x).toNat < S16.size a := fun v623 k0_hw260 => k0_hw260.2
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v631 : BitVec 32 := Scalar.addi v2 c64_i32
  let v632 : Index := Scalar.indexCast v631
  ![v632.toNat]

def k0_chk261 (v633 : IVec S16 32) : Prop :=
  (∀ a x, ((![v633] : Fin 1 → IVec S16 32) a x).toNat < S16.size a) ∧
  (∀ a x, ((![v633] : Fin 1 → IVec S16 32) a x).toNat < S16.size a)
theorem k0_idx265_inb : ∀ (v633 : IVec S16 32) (k0_hw261 : k0_chk261 v633), ∀ a x, ((![v633] : Fin 1 → IVec S16 32) a x).toNat < S16.size a := fun v633 k0_hw261 => k0_hw261.1
theorem k0_idx266_inb : ∀ (v633 : IVec S16 32) (k0_hw261 : k0_chk261 v633), ∀ a x, ((![v633] : Fin 1 → IVec S16 32) a x).toNat < S16.size a := fun v633 k0_hw261 => k0_hw261.2
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c80_i32 : BitVec 32 := 80#32
  let v641 : BitVec 32 := Scalar.addi v2 c80_i32
  let v642 : Index := Scalar.indexCast v641
  ![v642.toNat]

def k0_chk262 (v643 : IVec S16 32) : Prop :=
  (∀ a x, ((![v643] : Fin 1 → IVec S16 32) a x).toNat < S16.size a) ∧
  (∀ a x, ((![v643] : Fin 1 → IVec S16 32) a x).toNat < S16.size a)
theorem k0_idx267_inb : ∀ (v643 : IVec S16 32) (k0_hw262 : k0_chk262 v643), ∀ a x, ((![v643] : Fin 1 → IVec S16 32) a x).toNat < S16.size a := fun v643 k0_hw262 => k0_hw262.1
theorem k0_idx268_inb : ∀ (v643 : IVec S16 32) (k0_hw262 : k0_chk262 v643), ∀ a x, ((![v643] : Fin 1 → IVec S16 32) a x).toNat < S16.size a := fun v643 k0_hw262 => k0_hw262.2
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c96_i32 : BitVec 32 := 96#32
  let v651 : BitVec 32 := Scalar.addi v2 c96_i32
  let v652 : Index := Scalar.indexCast v651
  ![v652.toNat]

def k0_chk263 (v653 : IVec S16 32) : Prop :=
  (∀ a x, ((![v653] : Fin 1 → IVec S16 32) a x).toNat < S16.size a) ∧
  (∀ a x, ((![v653] : Fin 1 → IVec S16 32) a x).toNat < S16.size a)
theorem k0_idx269_inb : ∀ (v653 : IVec S16 32) (k0_hw263 : k0_chk263 v653), ∀ a x, ((![v653] : Fin 1 → IVec S16 32) a x).toNat < S16.size a := fun v653 k0_hw263 => k0_hw263.1
theorem k0_idx270_inb : ∀ (v653 : IVec S16 32) (k0_hw263 : k0_chk263 v653), ∀ a x, ((![v653] : Fin 1 → IVec S16 32) a x).toNat < S16.size a := fun v653 k0_hw263 => k0_hw263.2
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c112_i32 : BitVec 32 := 112#32
  let v661 : BitVec 32 := Scalar.addi v2 c112_i32
  let v662 : Index := Scalar.indexCast v661
  ![v662.toNat]

def k0_chk264 (v663 : IVec S16 32) : Prop :=
  (∀ a x, ((![v663] : Fin 1 → IVec S16 32) a x).toNat < S16.size a) ∧
  (∀ a x, ((![v663] : Fin 1 → IVec S16 32) a x).toNat < S16.size a)
theorem k0_idx271_inb : ∀ (v663 : IVec S16 32) (k0_hw264 : k0_chk264 v663), ∀ a x, ((![v663] : Fin 1 → IVec S16 32) a x).toNat < S16.size a := fun v663 k0_hw264 => k0_hw264.1
theorem k0_idx272_inb : ∀ (v663 : IVec S16 32) (k0_hw264 : k0_chk264 v663), ∀ a x, ((![v663] : Fin 1 → IVec S16 32) a x).toNat < S16.size a := fun v663 k0_hw264 => k0_hw264.2
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_186_r2 : BitVec 32 := 0#32
  ![v2.toNat, 0]
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨1, ![16], ![false]⟩

@[reducible] def k1_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k1_off1 (k1_t1 : Fin k1_t1_loop.trips) : Fin 1 → Nat :=
  let c0_i32 : BitVec 32 := 0#32
  let c1_i32 : BitVec 32 := 1#32
  let arg13 : BitVec 32 := Scf.iv c0_i32 c1_i32 k1_t1
  let v11 : Index := Scalar.indexCast arg13
  ![v11.toNat]
def k1_off2 (k1_t1 : Fin k1_t1_loop.trips) : Fin 1 → Nat :=
  let c0_i32 : BitVec 32 := 0#32
  let c1_i32 : BitVec 32 := 1#32
  let arg13 : BitVec 32 := Scf.iv c0_i32 c1_i32 k1_t1
  let c1_i32_7 : BitVec 32 := 1#32
  let v13 : BitVec 32 := Scalar.addi arg13 c1_i32_7
  let c15_i32 : BitVec 32 := 15#32
  let v14 : BitVec 32 := Scalar.minsi v13 c15_i32
  let v15 : Index := Scalar.indexCast v14
  ![v15.toNat]
def k1_off3 (k1_t1 : Fin k1_t1_loop.trips) : Fin 3 → Nat :=
  let c0_i32 : BitVec 32 := 0#32
  let c1_i32 : BitVec 32 := 1#32
  let arg13 : BitVec 32 := Scf.iv c0_i32 c1_i32 k1_t1
  let v31 : Index := Scalar.indexCast arg13
  let c0_11 : Index := 0#32
  let c0_12 : Index := 0#32
  ![v31.toNat, 0, 0]
def k1_off4 (k1_t1 : Fin k1_t1_loop.trips) : Fin 3 → Nat :=
  let c0_i32 : BitVec 32 := 0#32
  let c1_i32 : BitVec 32 := 1#32
  let arg13 : BitVec 32 := Scf.iv c0_i32 c1_i32 k1_t1
  let v36 : Index := Scalar.indexCast arg13
  let c0_14 : Index := 0#32
  let c0_15 : Index := 0#32
  ![v36.toNat, 0, 0]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_r3 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x128 : Shape := ⟨2, ![4096, 128]⟩
abbrev S4096x1 : Shape := ⟨2, ![4096, 1]⟩
abbrev S16x128x128 : Shape := ⟨3, ![16, 128, 128]⟩
abbrev S16x128 : Shape := ⟨2, ![16, 128]⟩
abbrev S4096 : Shape := ⟨1, ![4096]⟩
abbrev S16x128x4096 : Shape := ⟨3, ![16, 128, 4096]⟩
abbrev S16x4096x128 : Shape := ⟨3, ![16, 4096, 128]⟩
abbrev S16x1x128 : Shape := ⟨3, ![16, 1, 128]⟩
abbrev S_ : Shape := ⟨0, ![]⟩
abbrev S1x4096x1 : Shape := ⟨3, ![1, 4096, 1]⟩
abbrev S16 : Shape := ⟨1, ![16]⟩
abbrev S16x1x1 : Shape := ⟨3, ![16, 1, 1]⟩
abbrev S16x4096x1 : Shape := ⟨3, ![16, 4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x1, .i32⟩
  | .hbm, ⟨2, _⟩ => ⟨S16x128x128, .f32⟩
  | .hbm, ⟨3, _⟩ => ⟨S16x128, .f32⟩
  | .hbm, ⟨4, _⟩ => ⟨S16x128x128, .f32⟩
  | .hbm, ⟨5, _⟩ => ⟨S16x128, .f32⟩
  | .hbm, ⟨6, _⟩ => ⟨S16x128x128, .f32⟩
  | .hbm, ⟨7, _⟩ => ⟨S16x128, .f32⟩
  | .hbm, ⟨8, _⟩ => ⟨S16x128x128, .f32⟩
  | .hbm, ⟨9, _⟩ => ⟨S16x128, .f32⟩
  | .hbm, ⟨10, _⟩ => ⟨S4096, .i32⟩
  | .hbm, ⟨11, _⟩ => ⟨S16x128x4096, .f32⟩
  | .hbm, ⟨12, _⟩ => ⟨S16x4096x128, .f32⟩
  | .hbm, ⟨13, _⟩ => ⟨S16x1x128, .f32⟩
  | .hbm, ⟨14, _⟩ => ⟨S16x4096x128, .f32⟩
  | .hbm, ⟨15, _⟩ => ⟨S16x4096x128, .f32⟩
  | .hbm, ⟨16, _⟩ => ⟨S_, .f32⟩
  | .hbm, ⟨17, _⟩ => ⟨S16x4096x128, .f32⟩
  | .hbm, ⟨18, _⟩ => ⟨S16x4096x128, .f32⟩
  | .hbm, ⟨19, _⟩ => ⟨S16x4096x128, .f32⟩
  | .hbm, ⟨20, _⟩ => ⟨S16x1x128, .f32⟩
  | .hbm, ⟨21, _⟩ => ⟨S16x4096x128, .f32⟩
  | .hbm, ⟨22, _⟩ => ⟨S16x4096x128, .f32⟩
  | .hbm, ⟨23, _⟩ => ⟨S_, .f32⟩
  | .hbm, ⟨24, _⟩ => ⟨S16x4096x128, .f32⟩
  | .hbm, ⟨25, _⟩ => ⟨S16x4096x128, .f32⟩
  | .hbm, ⟨26, _⟩ => ⟨S1x4096x1, .i32⟩
  | .hbm, ⟨27, _⟩ => ⟨S16, .i32⟩
  | .hbm, ⟨28, _⟩ => ⟨S16x1x1, .i32⟩
  | .hbm, ⟨29, _⟩ => ⟨S16x4096x1, .i32⟩
  | .hbm, ⟨30, _⟩ => ⟨S16x4096x1, .i32⟩
  | .hbm, ⟨31, _⟩ => ⟨S16x4096x1, .i1⟩
  | .hbm, ⟨32, _⟩ => ⟨S_, .f32⟩
  | .hbm, ⟨33, _⟩ => ⟨S_, .f32⟩
  | .hbm, ⟨34, _⟩ => ⟨S16x4096x128, .i1⟩
  | .hbm, ⟨35, _⟩ => ⟨S16x4096x128, .f32⟩
  | .hbm, ⟨36, _⟩ => ⟨S16x4096x128, .f32⟩
  | .hbm, ⟨37, _⟩ => ⟨S_, .f32⟩
  | .hbm, ⟨38, _⟩ => ⟨S4096x128, .f32⟩
  | .hbm, ⟨39, _⟩ => ⟨S16x128x4096, .f32⟩
  | .hbm, ⟨40, _⟩ => ⟨S16x4096x128, .f32⟩
  | .hbm, ⟨41, _⟩ => ⟨S16x1x128, .f32⟩
  | .hbm, ⟨42, _⟩ => ⟨S16x4096x128, .f32⟩
  | .hbm, ⟨43, _⟩ => ⟨S16x4096x128, .f32⟩
  | .hbm, ⟨44, _⟩ => ⟨S_, .f32⟩
  | .hbm, ⟨45, _⟩ => ⟨S16x4096x128, .f32⟩
  | .hbm, ⟨46, _⟩ => ⟨S16x4096x128, .f32⟩
  | .hbm, ⟨47, _⟩ => ⟨S16x4096x128, .f32⟩
  | .hbm, ⟨48, _⟩ => ⟨S16x1x128, .f32⟩
  | .hbm, ⟨49, _⟩ => ⟨S16x4096x128, .f32⟩
  | .hbm, ⟨50, _⟩ => ⟨S16x4096x128, .f32⟩
  | .hbm, ⟨51, _⟩ => ⟨S_, .f32⟩
  | .hbm, ⟨52, _⟩ => ⟨S16x4096x128, .f32⟩
  | .hbm, ⟨53, _⟩ => ⟨S16x4096x128, .f32⟩
  | .hbm, ⟨54, _⟩ => ⟨S1x4096x1, .i32⟩
  | .hbm, ⟨55, _⟩ => ⟨S16, .i32⟩
  | .hbm, ⟨56, _⟩ => ⟨S16x1x1, .i32⟩
  | .hbm, ⟨57, _⟩ => ⟨S16x4096x1, .i32⟩
  | .hbm, ⟨58, _⟩ => ⟨S16x4096x1, .i32⟩
  | .hbm, ⟨59, _⟩ => ⟨S16x4096x1, .i1⟩
  | .hbm, ⟨60, _⟩ => ⟨S_, .f32⟩
  | .hbm, ⟨61, _⟩ => ⟨S_, .f32⟩
  | .hbm, ⟨62, _⟩ => ⟨S16x4096x128, .i1⟩
  | .hbm, ⟨63, _⟩ => ⟨S16x4096x128, .f32⟩
  | .hbm, ⟨64, _⟩ => ⟨S16x4096x128, .f32⟩
  | .hbm, ⟨65, _⟩ => ⟨S_, .f32⟩
  | .hbm, ⟨66, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call3_cst : Ref sig .tc := ⟨.hbm, 44, rfl⟩
abbrev main_call3_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call4_cst : Ref sig .tc := ⟨.hbm, 51, rfl⟩
abbrev main_call4_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_1 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Proof.Counting.lean ====
/-
  The counting sort as plain arithmetic on natural numbers: how many tokens of a range carry a goal, where a goal's
  tokens start once the tokens are sorted by goal, and the position each token gets. Nothing here mentions the kernel.
-/
module

public import Idealize.ShloMosaic.Lib.SparseCore.Ops

@[expose] public section

namespace Cert.Proof.Counting

variable (g : ℕ → ℕ)

/-- How many of the tokens `lo, …, hi - 1` have goal `v`. -/
def cnt (lo hi v : ℕ) : ℕ := ((Finset.Ico lo hi).filter fun i => g i = v).card

/-- An empty range has no token. -/
theorem cnt_self (lo v : ℕ) : cnt g lo lo v = 0 := by simp [cnt]

/-- Counts of adjoining ranges add up. -/
theorem cnt_add {lo mid hi : ℕ} (h₁ : lo ≤ mid) (h₂ : mid ≤ hi) (v : ℕ) :
    cnt g lo mid v + cnt g mid hi v = cnt g lo hi v := by
  unfold cnt
  rw [← Finset.card_union_of_disjoint, ← Finset.filter_union, Finset.Ico_union_Ico_eq_Ico h₁ h₂]
  exact Finset.disjoint_filter_filter (Finset.Ico_disjoint_Ico_consecutive lo mid hi)

/-- One more token: counted if its goal is `v`. -/
theorem cnt_succ {lo hi : ℕ} (h : lo ≤ hi) (v : ℕ) :
    cnt g lo (hi + 1) v = cnt g lo hi v + if g hi = v then 1 else 0 := by
  rw [← cnt_add g h (Nat.le_succ hi)]
  congr 1
  unfold cnt
  rw [show Finset.Ico hi (Nat.succ hi) = {hi} from by ext i; simp, Finset.filter_singleton]
  split <;> simp

/-- A longer range counts no fewer. -/
theorem cnt_mono {lo hi hi' : ℕ} (h : hi ≤ hi') (v : ℕ) : cnt g lo hi v ≤ cnt g lo hi' v :=
  Finset.card_le_card (Finset.filter_subset_filter _ (Finset.Ico_subset_Ico_right h))

/-- How many of the first `n` tokens have a goal below `v`: where goal `v`'s tokens start in the sorted order. -/
def start (n v : ℕ) : ℕ := ((Finset.range n).filter fun i => g i < v).card

/-- No value is smaller than zero. -/
theorem start_zero (n : ℕ) : start g n 0 = 0 := by simp [start]

/-- Goal `v + 1` starts where goal `v` ends. -/
theorem start_succ (n v : ℕ) : start g n (v + 1) = start g n v + cnt g 0 n v := by
  unfold start cnt
  rw [← Finset.range_eq_Ico, ← Finset.card_union_of_disjoint, ← Finset.filter_or]
  · congr 1; ext i; simp; omega
  · exact Finset.disjoint_filter.2 fun i _ h => by omega

/-- Starts grow with the value. -/
theorem start_mono (n : ℕ) {v w : ℕ} (h : v ≤ w) : start g n v ≤ start g n w :=
  Finset.card_le_card fun i hi => by
    simp only [Finset.mem_filter] at hi ⊢; exact ⟨hi.1, by omega⟩

/-- Every start is at most the number of tokens. -/
theorem start_le (n v : ℕ) : start g n v ≤ n :=
  (Finset.card_filter_le _ _).trans (Finset.card_range n).le

/-- Past every goal, all tokens are counted. -/
theorem start_all {n V : ℕ} (h : ∀ i < n, g i < V) : start g n V = n := by
  unfold start
  rw [Finset.filter_true_of_mem fun i hi => h i (Finset.mem_range.1 hi), Finset.card_range]

/-- Token `i`'s position in the sorted order: after every token of a lower goal and every earlier token of its own. -/
def pos (n i : ℕ) : ℕ := start g n (g i) + cnt g 0 i (g i)

/-- A position is not before its value's start. -/
theorem start_le_pos (n i : ℕ) : start g n (g i) ≤ pos g n i := Nat.le_add_right _ _

/-- A token lies before the start of the next goal. -/
theorem pos_lt_start_succ {n i : ℕ} (h : i < n) : pos g n i < start g n (g i + 1) := by
  rw [start_succ, pos]
  have h1 : cnt g 0 (i + 1) (g i) ≤ cnt g 0 n (g i) := cnt_mono g h _
  rw [cnt_succ g (Nat.zero_le i), if_pos rfl] at h1
  omega

/-- A position is one of the `n`. -/
theorem pos_lt {n i : ℕ} (h : i < n) : pos g n i < n :=
  (pos_lt_start_succ g h).trans_le (start_le g n _)

/-- Two tokens of one position are one token. -/
theorem pos_inj {n i j : ℕ} (hi : i < n) (hj : j < n) (h : pos g n i = pos g n j) : i = j := by
  have key : ∀ {a b : ℕ}, a < n → b < n → pos g n a = pos g n b → g a ≤ g b := fun {a b} ha hb hab => by
    by_contra hlt
    have h1 := start_mono g n (show g b + 1 ≤ g a by omega)
    have h2 := pos_lt_start_succ g hb
    have h3 := start_le_pos g n a
    omega
  have hg : g i = g j := le_antisymm (key hi hj h) (key hj hi h.symm)
  have step : ∀ {a b : ℕ}, g a = g b → pos g n a = pos g n b → ¬a < b := fun {a b} hab hp hlt => by
    unfold pos at hp
    rw [hab] at hp
    have h1 := cnt_mono g (lo := 0) (show a + 1 ≤ b from hlt) (g b)
    rw [cnt_succ g (Nat.zero_le a), if_pos hab] at h1
    omega
  have := step hg h
  have := step hg.symm h.symm
  omega

/-- Every position is some token's. -/
theorem pos_surj {n p : ℕ} (h : p < n) : ∃ i, i < n ∧ pos g n i = p := by
  have hs : Function.Surjective fun i : Fin n => (⟨pos g n i, pos_lt g i.isLt⟩ : Fin n) :=
    Finite.surjective_of_injective fun a b hab => Fin.ext (pos_inj g a.isLt b.isLt (Fin.mk.inj hab))
  obtain ⟨i, hi⟩ := hs ⟨p, h⟩
  exact ⟨i, i.isLt, Fin.mk.inj hi⟩

open Classical in
/-- The token at a position of the sorted order. -/
noncomputable def tok (n p : ℕ) : ℕ := if h : p < n then (pos_surj g h).choose else 0

/-- The item at a position is one of the `n`. -/
theorem tok_lt {n p : ℕ} (h : p < n) : tok g n p < n := by
  rw [tok, dif_pos h]; exact (pos_surj g h).choose_spec.1

/-- The item at a position has that position. -/
theorem pos_tok {n p : ℕ} (h : p < n) : pos g n (tok g n p) = p := by
  rw [tok, dif_pos h]; exact (pos_surj g h).choose_spec.2

/-- The item at an item's position is the item. -/
theorem tok_pos {n i : ℕ} (h : i < n) : tok g n (pos g n i) = i :=
  pos_inj g (tok_lt g (pos_lt g h)) h (pos_tok g (pos_lt g h))

/-- A position between the start of goal `v` and the next goal's start holds a token of goal `v`, and only then. -/
theorem goal_tok_iff {n p v : ℕ} (h : p < n) : g (tok g n p) = v ↔ start g n v ≤ p ∧ p < start g n (v + 1) := by
  constructor
  · rintro rfl
    have h1 := start_le_pos g n (tok g n p)
    have h2 := pos_lt_start_succ g (tok_lt g h)
    rw [pos_tok g h] at h1 h2
    exact ⟨h1, h2⟩
  · rintro ⟨h1, h2⟩
    have h3 := start_le_pos g n (tok g n p)
    have h4 := pos_lt_start_succ g (tok_lt g h)
    rw [pos_tok g h] at h3 h4
    rcases lt_trichotomy (g (tok g n p)) v with hlt | heq | hgt
    · have := start_mono g n (show g (tok g n p) + 1 ≤ v by omega); omega
    · exact heq
    · have := start_mono g n (show v + 1 ≤ g (tok g n p) by omega); omega

end Cert.Proof.Counting

end
-- ==== Proof.Setup.lean ====
/-
  What every module about the kernel's run shares: the program as the launch theorem sees it, the resource algebra, the
  memrefs the vector-subcore tasks name, the goals read as natural numbers.
-/
module

public import proofs.«01_k».proof.Defs
public import proofs.«01_k».proof.Proof.Counting
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the staging windows' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
/-- The staging windows' rounds, in the middle component. -/
def EP : Emb UP (MT nD τ sig (HIx 2) (Elt F) ℕ UU ℕ) := (Emb.inl : Emb UP (UP × Counters)).trans embR

instance EP_landsIn : (EP : Emb UP 𝕄).LandsIn (upEmb : UEmb _ 𝕄) := by unfold EP; infer_instance

/-- What the launch hands of the user component is the handshakes' part beside the staging windows'. -/
theorem ownU_parts (a : UH) (b : UP) :
    (ownU ((a, (b, 1)) : UU) : sProp 𝕄) ⊢ iprop(BI.own (EH a) ∗ BI.own (EP b)) := by
  refine (ownU_pair (A := UH) (B := UP × Counters) a (b, 1)).trans ?_
  exact .rfl

abbrev 𝒱₀ : Variants := Variants.none

/-! ## The memrefs of the first call's task -/

abbrev goalH : Memref sig .scVector .hbm S4096 .i32 := Memref.whole main_v0_scv
abbrev featH : Memref sig .scVector .hbm S4096x128 .f32 := Memref.whole main_arg0_scv
abbrev sortH : Memref sig .scVector .hbm S4096x128 .f32 := Memref.whole main_v1_0_scv
abbrev posH : Memref sig .scVector .hbm S4096 .i32 := Memref.whole main_v1_1_scv
abbrev segH : Memref sig .scVector .hbm S16 .i32 := Memref.whole main_v1_2_scv
abbrev goalV : Memref sig .scVector .vmem S4096 .i32 := Memref.whole cc0_scratch0
abbrev runV : Memref sig .scVector .vmem S16 .i32 := Memref.whole cc0_scratch1
abbrev tmpV : Memref sig .scVector .vmem S16 .i32 := Memref.whole cc0_scratch2
abbrev segV : Memref sig .scVector .vmem S16 .i32 := Memref.whole cc0_scratch3
abbrev posV : Memref sig .scVector .vmem S1x128 .i32 := Memref.whole cc0_scratch4
abbrev rowsV : Memref sig .scVector .vmem S128x128 .f32 := Memref.whole cc0_scratch5

abbrev cV (L : grid0.Coords) : Fin τ.nSC := (L 0).castLE hcore0
abbrev jV (L : grid0.Coords) : Fin τ.nSub := (L 1).castLE hsub0

/-- The worker number of a task: twice its subcore plus its core. -/
def wid (L : grid0.Coords) : ℕ := 2 * (L 1).val + (L 0).val

/-- There are thirty-two tasks. -/
theorem wid_lt (L : grid0.Coords) : wid L < 32 := by
  have h0 : (L 0).val < 2 := (L 0).isLt
  have h1 : (L 1).val < 16 := (L 1).isLt
  unfold wid; omega

/-- The word a task computes for its worker number. -/
abbrev widW (L : grid0.Coords) : BitVec 32 :=
  Scalar.addi (Scalar.muli (BitVec.ofNat 32 (L 1).val) 2#32) (BitVec.ofNat 32 (L 0).val)

/-- A task's number as a word. -/
theorem widW_toNat (L : grid0.Coords) : (widW L).toNat = wid L := by
  have h0 : (L 0).val < 2 := (L 0).isLt
  have h1 : (L 1).val < 16 := (L 1).isLt
  simp only [widW, Scalar.addi, Scalar.muli, IntOp.addi, IntOp.muli, BitVec.toNat_add, BitVec.toNat_mul, BitVec.toNat_ofNat, wid]
  omega

/-! ## The goals as natural numbers -/

/-- Index `n` of the flat list of tokens (taken modulo its length, so that it is one for every `n`). -/
def tokIx (n : ℕ) : S4096.Idx := fun a => ⟨n % 4096, by fin_cases a; exact Nat.mod_lt _ (by decide)⟩

/-- An index of the tokens is its number's. -/
theorem tokIx_val (x : S4096.Idx) : tokIx (x 0).val = x := by
  have h : (x 0).val < 4096 := (x 0).isLt
  funext a; fin_cases a; exact Fin.ext (Nat.mod_eq_of_lt h)

/-- The goal of token `n`, of the flat list of goal words `G`. -/
def goalOf (G : S4096.Idx → BitVec 32) (n : ℕ) : ℕ := (G (tokIx n)).toNat

/-- Every goal word names one of the sixteen goals. -/
def GoalsOk (G : S4096.Idx → BitVec 32) : Prop := ∀ x, (G x).toNat < 16

/-- Goals in range are less than sixteen. -/
theorem GoalsOk.lt {G : S4096.Idx → BitVec 32} (h : GoalsOk G) (n : ℕ) : goalOf G n < 16 := h _

end Cert.Proof

end
-- ==== Proof.Words.lean ====
/-
  The counting sort's intermediate values as words, and what each of the kernel's vector operations makes of them: a
  scatter-add of ones counts sixteen more tokens, an add joins two counts, a running sum less its own term is where each
  goal starts, a gather plus the running count of equal lanes is a token's position.
-/
module

public import proofs.«01_k».proof.Proof.Setup

@[expose] public section

noncomputable section

namespace Cert.Proof

open Cert.KernelIdeal Cert.KernelIdeal.Gen
open Idealize.ShloMosaic
open Idealize.SL.Sem

variable {F : FTy → Type} [FloatOps F]

open Counting

/-- Per goal, the number of tokens of `lo, …, hi - 1` that carry it, as a word. -/
def cntW (G : S4096.Idx → BitVec 32) (lo hi : ℕ) : IVec S16 32 := fun v => BitVec.ofNat 32 (cnt (goalOf G) lo hi (v 0).val)

/-- The same count of the tokens before `hi` that lie in earlier tasks' chunks than worker `w`'s. -/
def befW (G : S4096.Idx → BitVec 32) (w hi : ℕ) : IVec S16 32 := cntW G 0 (min hi (128 * w))

/-- Per goal, where it starts in the sorted order, as a word. -/
def startW (G : S4096.Idx → BitVec 32) : IVec S16 32 := fun v => BitVec.ofNat 32 (start (goalOf G) 4096 (v 0).val)

/-- Per goal, where the next token of it goes, once the tokens before `hi` are placed. -/
def runW (G : S4096.Idx → BitVec 32) (hi : ℕ) : IVec S16 32 :=
  fun v => BitVec.ofNat 32 (start (goalOf G) 4096 (v 0).val + cnt (goalOf G) 0 hi (v 0).val)

/-- The sixteen goal words from token `o` on. -/
def goalsAt (G : S4096.Idx → BitVec 32) (o : ℕ) : IVec S16 32 := fun x => G (tokIx (o + (x 0).val))

/-- The positions of the sixteen tokens from `o` on, as words. -/
def posAt (G : S4096.Idx → BitVec 32) (o : ℕ) : IVec S16 32 := fun x => BitVec.ofNat 32 (pos (goalOf G) 4096 (o + (x 0).val))

variable {G : S4096.Idx → BitVec 32}

/-- No token counted yet: the zero vector. -/
theorem cntW_self (lo : ℕ) : cntW G lo lo = fun _ => 0#32 := by
  funext v; simp [cntW, cnt_self]

/-- A left fold over all lanes, each taking one step of a sequence, arrives at its end. -/
theorem foldl_finRange {α : Type} (n : ℕ) (step : Fin n → α → α) (h : ℕ → α) (hs : ∀ k : Fin n, step k (h k.val) = h (k.val + 1)) :
    (List.finRange n).foldl (fun a k => step k a) (h 0) = h n := by
  induction n with
  | zero => rfl
  | succ n ih =>
    rw [List.finRange_succ_last, List.foldl_append, List.foldl_map, List.foldl_cons, List.foldl_nil,
      ih (fun k => step k.castSucc) (fun k => hs k.castSucc)]
    exact hs (Fin.last n)

/-- One scatter-add of ones at sixteen tokens' goals adds those tokens' counts. -/
theorem storeIdx_add {lo o : ℕ} (B : IVec S16 32) (hlo : lo ≤ o) (ones : IVec S16 32) (h1 : ones = fun _ => 1#32)
    (h : ∀ a x, ((![goalsAt G o] : Fin 1 → IVec S16 32) a x).toNat < S16.size a) :
    (storeIdx (F := F) (s := S16) (e := .i32) (addi B (cntW G lo o)) ![goalsAt G o] ones (fun _ => 1#1) true h : IVec S16 32)
      = addi B (cntW G lo (o + 16)) := by
  subst h1
  have key := foldl_finRange 16 (fun (k : Fin 16) (g : IVec S16 32) =>
      fun j : S16.Idx => if (j 0).val = (G (tokIx (o + k.val))).toNat then g j + 1#32 else g j)
    (fun n => addi B (cntW G lo (o + n))) (fun k => by
      funext j
      show (if (j 0).val = goalOf G (o + k.val) then B j + cntW G lo (o + k.val) j + 1#32 else B j + cntW G lo (o + k.val) j)
        = B j + cntW G lo (o + (k.val + 1)) j
      unfold cntW
      rw [show o + (k.val + 1) = o + k.val + 1 from rfl, cnt_succ _ (by omega)]
      by_cases hj : (j 0).val = goalOf G (o + k.val)
      · rw [if_pos hj, if_pos hj.symm, BitVec.ofNat_add, BitVec.add_assoc]
      · rw [if_neg hj, if_neg (fun e => hj e.symm), Nat.add_zero])
  refine Eq.trans ?_ key
  unfold storeIdx
  congr 1
  funext g k
  have e1 : ∀ (A B : IVec S16 32), (if (1#1 : BitVec 1) = 1 then A else B) = A := fun A B => if_pos rfl
  refine (e1 _ _).trans ?_
  funext j
  by_cases hj : (j 0).val = (G (tokIx (o + k.val))).toNat
  · have hi : idxAt (s := S16) ![goalsAt G o] h (Shape.ofLane k) = j := by
      funext a; fin_cases a; exact Fin.ext hj.symm
    refine (if_pos fun a => ?_).trans (Eq.trans ?_ (if_pos hj).symm)
    · exact (congrArg (fun i : S16.Idx => (i a).val) hi).symm
    · show g (idxAt (s := S16) ![goalsAt G o] h (Shape.ofLane k)) + 1#32 = _
      rw [hi]
  · exact (if_neg fun hh => hj (hh 0)).trans (if_neg hj).symm

/-- Adding to nothing. -/
theorem addi_zero_left (A : IVec S16 32) : addi (fun _ => 0#32) A = A := by
  funext v; exact BitVec.zero_add _

/-- One scatter-add of ones at sixteen tokens' goals counts those tokens. -/
theorem storeIdx_ones {lo o : ℕ} (hlo : lo ≤ o) (ones : IVec S16 32) (h1 : ones = fun _ => 1#32)
    (h : ∀ a x, ((![goalsAt G o] : Fin 1 → IVec S16 32) a x).toNat < S16.size a) :
    (storeIdx (F := F) (s := S16) (e := .i32) (cntW G lo o) ![goalsAt G o] ones (fun _ => 1#1) true h : IVec S16 32) = cntW G lo (o + 16) := by
  have e := storeIdx_add (F := F) (fun _ => 0#32) hlo ones h1 h
  rwa [addi_zero_left, addi_zero_left] at e

/-- The next positions are the starts and the counts so far. -/
theorem runW_eq (o : ℕ) : runW G o = addi (startW G) (cntW G 0 o) := by
  funext v; exact BitVec.ofNat_add _ _

/-- One scatter-add of ones at sixteen tokens' goals moves the next positions past those tokens. -/
theorem storeIdx_run {o : ℕ} (ones : IVec S16 32) (h1 : ones = fun _ => 1#32)
    (h : ∀ a x, ((![goalsAt G o] : Fin 1 → IVec S16 32) a x).toNat < S16.size a) :
    (storeIdx (F := F) (s := S16) (e := .i32) (runW G o) ![goalsAt G o] ones (fun _ => 1#1) true h : IVec S16 32) = runW G (o + 16) := by
  have e := storeIdx_add (F := F) (startW G) (Nat.zero_le o) ones h1 h
  rwa [← runW_eq, ← runW_eq] at e

/-- Counts of adjoining ranges add up, as words. -/
theorem addi_cntW {lo mid hi : ℕ} (h₁ : lo ≤ mid) (h₂ : mid ≤ hi) : addi (cntW G lo mid) (cntW G mid hi) = cntW G lo hi := by
  funext v
  show BitVec.ofNat 32 _ + BitVec.ofNat 32 _ = BitVec.ofNat 32 _
  rw [← BitVec.ofNat_add, cnt_add _ h₁ h₂]

/-- Adding chunk `c`'s counts to the counts before the task, if the chunk is an earlier task's. -/
theorem addi_befW {L : grid0.Coords} (c : ℕ) (hc : c < 32) {lo hi : ℕ} (hlo : lo = 128 * c) (hhi : hi = 128 * (c + 1)) :
    addi (befW G (wid L) lo)
        (select (cmpi .slt (broadcast S16 (BitVec.ofNat 32 c)) (broadcast S16 (widW L))) (cntW G lo hi) (broadcast S16 0#32))
      = befW G (wid L) hi := by
  subst hlo hhi
  have hw := wid_lt L
  have hcmp : IntOp.cmpi .slt (BitVec.ofNat 32 c) (widW L) = if c < wid L then 1#1 else 0#1 := by
    have h1 : (BitVec.ofNat 32 c).toInt = (c : ℤ) := by
      rw [BitVec.toInt_eq_toNat_of_lt] <;> simp [BitVec.toNat_ofNat] <;> omega
    have h2 : (widW L).toInt = (wid L : ℤ) := by
      rw [BitVec.toInt_eq_toNat_of_lt, widW_toNat]; rw [widW_toNat]; omega
    unfold IntOp.cmpi
    simp only [BitVec.slt, h1, h2]
    by_cases h : c < wid L <;> simp [h]
  funext v
  show befW G (wid L) (128 * c) v + Scalar.select (IntOp.cmpi .slt (BitVec.ofNat 32 c) (widW L)) (cntW G (128 * c) (128 * (c + 1)) v) 0#32 = _
  rw [hcmp]
  unfold befW
  by_cases h : c < wid L
  · rw [if_pos h, Nat.min_eq_left (by omega), Nat.min_eq_left (by omega)]
    exact congrFun (addi_cntW (G := G) (Nat.zero_le _) (by omega)) v
  · rw [if_neg h, Nat.min_eq_right (by omega), Nat.min_eq_right (by omega)]
    show _ + 0#32 = _
    exact BitVec.add_zero _

/-- The running sums of the totals, each less its own, are the starts. -/
theorem scan_totals : subi (scan .sum (cntW G 0 4096)) (cntW G 0 4096) = startW G := by
  funext i
  have hi : (i 0).val < 16 := (i 0).isLt
  have key := foldl_finRange 16 (fun (k : Fin 16) (r : BitVec 32) =>
      if 0 < k.val ∧ k.val ≤ (i 0).val then r + BitVec.ofNat 32 (cnt (goalOf G) 0 4096 k.val) else r)
    (fun n => BitVec.ofNat 32 (start (goalOf G) 4096 (min (max n 1) ((i 0).val + 1)))) (fun k => by
      show (if _ then _ else _) = _
      by_cases h0 : k.val = 0
      · rw [if_neg (by omega)]; congr 2; omega
      by_cases h1 : k.val ≤ (i 0).val
      · rw [if_pos ⟨by omega, h1⟩, ← BitVec.ofNat_add, show min (max k.val 1) ((i 0).val + 1) = k.val by omega,
          show min (max (k.val + 1) 1) ((i 0).val + 1) = k.val + 1 by omega, start_succ]
      · rw [if_neg (by omega)]; congr 2; omega)
  have e : scan .sum (cntW G 0 4096) i = BitVec.ofNat 32 (start (goalOf G) 4096 ((i 0).val + 1)) := by
    refine Eq.trans ?_ (key.trans (by congr 2; omega))
    unfold scan
    refine (List.foldl_filter (f := fun (r : BitVec 32) (k : Fin 16) => ScanKind.step .sum r (cntW G 0 4096 (Shape.ofLane k)))).trans ?_
    have h0 : cntW G 0 4096 (Shape.ofLane (d := ![16]) (0 : Fin 16)) = BitVec.ofNat 32 (start (goalOf G) 4096 (min (max 0 1) ((i 0).val + 1))) := by
      rw [show min (max 0 1) ((i 0).val + 1) = 0 + 1 by omega, start_succ, start_zero, Nat.zero_add]; rfl
    refine (congrArg (fun z => List.foldl _ z _) h0).trans ?_
    congr 1
    funext r k
    by_cases h : 0 < k.val ∧ k.val ≤ (i 0).val
    · refine (if_pos ?_).trans (if_pos h).symm
      exact decide_eq_true h
    · refine (if_neg ?_).trans (if_neg h).symm
      exact fun hh => h (of_decide_eq_true hh)
  show scan .sum (cntW G 0 4096) i - cntW G 0 4096 i = _
  rw [e, start_succ, BitVec.ofNat_add]
  exact BitVec.add_sub_cancel _ _

/-- Where the task's own tokens go next: the starts, and what the earlier tasks' tokens take. -/
theorem addi_start_bef {w : ℕ} (hw : w < 32) : addi (startW G) (befW G w 4096) = runW G (128 * w) := by
  rw [befW, Nat.min_eq_right (by omega), ← runW_eq]

/-- Among sixteen tokens, the number up to lane `x` with lane `x`'s goal. -/
theorem count_lanes {o : ℕ} (ho : o + 16 ≤ 4096) (x : S16.Idx) :
    (Finset.univ.filter fun j : S16.Idx => (j 0).val ≤ (x 0).val ∧ goalsAt G o j = goalsAt G o x).card
      = cnt (goalOf G) o (o + (x 0).val + 1) (goalOf G (o + (x 0).val)) := by
  unfold cnt
  have hx : (x 0).val < 16 := (x 0).isLt
  refine Finset.card_bij (fun j _ => o + (j 0).val) (fun j hj => ?_) (fun j _ j' _ h => ?_) (fun n hn => ?_)
  · rw [Finset.mem_filter] at hj ⊢
    rw [Finset.mem_Ico]
    refine ⟨⟨by omega, by omega⟩, congrArg BitVec.toNat hj.2.2⟩
  · funext a; fin_cases a; exact Fin.ext (Nat.add_left_cancel (show o + (j 0).val = o + (j' 0).val from h))
  · rw [Finset.mem_filter, Finset.mem_Ico] at hn
    refine ⟨fun a => ⟨n - o, by fin_cases a; show n - o < 16; omega⟩, ?_, by show o + (n - o) = n; omega⟩
    rw [Finset.mem_filter]
    refine ⟨Finset.mem_univ _, by show n - o ≤ _; omega, BitVec.eq_of_toNat_eq ?_⟩
    show goalOf G (o + (n - o)) = _
    rw [show o + (n - o) = n by omega]
    exact hn.2

/-- A token's position: where its goal's next token went before these sixteen, and its rank among them. -/
theorem run_count {o : ℕ} (ho : o + 16 ≤ 4096) (mask : IVec S16 1) (hm : mask = fun _ => 1#1)
    (h : ∀ a x, ((![goalsAt G o] : Fin 1 → IVec S16 32) a x).toNat < S16.size a) :
    subi (addi (loadIdx (F := F) (s := S16) (e := .i32) (runW G o) ![goalsAt G o] h) (scanCount mask (goalsAt G o)).2) (broadcast S16 1#32)
      = posAt G o := by
  subst hm
  funext x
  have e : (scanCount (fun _ => 1#1 : IVec S16 1) (goalsAt G o)).2 x
      = BitVec.ofNat 32 (cnt (goalOf G) o (o + (x 0).val) (goalOf G (o + (x 0).val)) + 1) := by
    unfold scanCount
    refine (if_pos (e := (1 : BitVec 32)) (show (1#1 : BitVec 1) = 1 from rfl)).trans (congrArg (BitVec.ofNat 32) ?_)
    have h2 : cnt (goalOf G) o (o + (x 0).val + 1) (goalOf G (o + (x 0).val)) = cnt (goalOf G) o (o + (x 0).val) (goalOf G (o + (x 0).val)) + 1 := by
      rw [cnt_succ _ (by omega), if_pos rfl]
    rw [← h2, ← count_lanes ho x]
    congr 1
    refine Finset.filter_congr fun j _ => ?_
    show (S16.rowMajor j).val ≤ (S16.rowMajor x).val ∧ (1#1 : BitVec 1) = 1 ∧ goalsAt G o j = goalsAt G o x ↔ _
    rw [show (S16.rowMajor j).val = (j 0).val from Shape.rowMajor_val_one j, show (S16.rowMajor x).val = (x 0).val from Shape.rowMajor_val_one x]
    exact ⟨fun hh => ⟨hh.1, hh.2.2⟩, fun hh => ⟨hh.1, rfl, hh.2⟩⟩
  show BitVec.ofNat 32 (start (goalOf G) 4096 (goalOf G (o + (x 0).val)) + cnt (goalOf G) 0 o (goalOf G (o + (x 0).val)))
    + (scanCount (fun _ => 1#1 : IVec S16 1) (goalsAt G o)).2 x - 1#32 = BitVec.ofNat 32 (pos (goalOf G) 4096 (o + (x 0).val))
  rw [e, ← BitVec.ofNat_add, ← Nat.add_assoc, BitVec.ofNat_add _ 1, pos,
    ← cnt_add (goalOf G) (Nat.zero_le o) (Nat.le_add_right o (x 0).val), Nat.add_assoc]
  exact BitVec.add_sub_cancel _ _

end Cert.Proof

end
-- ==== Proof.Steps.lean ====
/-
  The first call's task, one statement at a time: what each load, check, store, indexed load and indexed store of the
  kernel does to the task's five word scratches, as steps `pre ⊢ wp (statement; rest) Q` from `pre' ⊢ wp rest Q`.
-/
module

public import proofs.«01_k».proof.Proof.Words

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A task's word scratches: the goals, the counts in progress, the next positions, the starts, the positions. -/
def TS (d : Dev nD) (L : grid0.Coords) (G : S4096.Idx → BitVec 32) (T R S : IVec S16 32) (P : IVec S1x128 32) : sProp 𝕄 :=
  iprop(((V d (cV L) (jV L)).loc cc0_scratch0 ↦{fullShare} (G : Buf (Elt F) ((V d (cV L) (jV L)).loc cc0_scratch0)))
    ∗ ((V d (cV L) (jV L)).loc cc0_scratch2 ↦{fullShare} (T : Buf (Elt F) ((V d (cV L) (jV L)).loc cc0_scratch2)))
    ∗ ((V d (cV L) (jV L)).loc cc0_scratch1 ↦{fullShare} (R : Buf (Elt F) ((V d (cV L) (jV L)).loc cc0_scratch1)))
    ∗ ((V d (cV L) (jV L)).loc cc0_scratch3 ↦{fullShare} (S : Buf (Elt F) ((V d (cV L) (jV L)).loc cc0_scratch3)))
    ∗ ((V d (cV L) (jV L)).loc cc0_scratch4 ↦{fullShare} (P : Buf (Elt F) ((V d (cV L) (jV L)).loc cc0_scratch4))))

variable {d : Dev nD} {L : grid0.Coords} {G : S4096.Idx → BitVec 32} {T R S : IVec S16 32} {P : IVec S1x128 32}
variable {α : Type} {Q : α → sProp (MT nD τ sig (HIx 2) (Elt F) ℕ UU ℕ)}

/-- The program of a task on its vector subcore. -/
abbrev TProg (F : FTy → Type) (L : grid0.Coords) (α : Type) : Type 1 :=
  Prog (TpuEff nD τ sig (Elt F) Λ₀ (.scVector ((L 0).castLE hcore0) ((L 1).castLE hsub0))) α

/-- A task's program run on its vector subcore. -/
abbrev tileWp (d : Dev nD) (L : grid0.Coords) (p : TProg F L α) (Q : α → sProp (MT nD τ sig (HIx 2) (Elt F) ℕ UU ℕ)) :
    sProp (MT nD τ sig (HIx 2) (Elt F) ℕ UU ℕ) :=
  wp frame (wpE (defs₀ (F := F)) 𝒱₀ (V d (cV L) (jV L)) none) Set.univ p Q

/-- A program that returns meets its post there. -/
theorem ret_step {A : sProp 𝕄} {r : α} (h : A ⊢ Q r) : A ⊢ tileWp d L (Pure.pure r) Q := by
  refine h.trans ?_
  show Q r ⊢ iprop(|={Set.univ}[frame]=> Q r)
  exact fupd_intro

/-- What a load of sixteen goals from token `o` on reads. -/
theorem read_goals (o : ℕ) (inb : ∀ a, (![o] : Fin 1 → Nat) a + S16.size a ≤ S4096.size a) :
    ((goalV.access (Rect.unit (s := S4096) ![o] S16.size inb)).read (Elt F) G : IVec S16 32) = goalsAt G o := by
  funext x
  refine (View.read_apply _ _).trans ((cast_eq _ _).trans ?_)
  have h := inb 0
  have hx : (x 0).val < 16 := (x 0).isLt
  have h' : o + 16 ≤ 4096 := h
  show G _ = G _
  congr 1
  funext a; fin_cases a
  exact Fin.ext ((show o + 1 * (x 0).val = (o + (x 0).val) % 4096 from by rw [Nat.mod_eq_of_lt (by omega)]; omega))

/-- Loading sixteen goals. -/
theorem load_goals {off : Fin 1 → ℕ} {o : ℕ} (ho : off = ![o]) {inb : ∀ a, off a + S16.size a ≤ S4096.size a} {hl}
    {k : Vec F S16 .i32 → TProg F L α} (h : TS d L G T R S P ⊢ tileWp d L (k (goalsAt G o)) Q) :
    TS d L G T R S P ⊢ tileWp d L
      (Prog.lift (.load goalV (Rect.unit (s := S4096) off S16.size inb).toLoadRect hl) >>= k) Q := by
  subst ho
  unfold TS at h ⊢
  iintro ⟨HG, HT, HR, HS, HP⟩
  iapply (wp_load_rect (defs := defs₀ (F := F)) 𝒱₀ (V d (cV L) (jV L)) none Set.univ (m := goalV)
    (r := Rect.unit (s := S4096) ![o] S16.size inb) (k := k) (hl := hl) (q := fullShare) (f := G) (Finset.subset_univ _)) $$ HG
  iintro HG
  rw [read_goals]
  iapply h
  isplitl [HG]; · iexact HG
  isplitl [HT]; · iexact HT
  isplitl [HR]; · iexact HR
  isplitl [HS]; · iexact HS
  iexact HP

/-- A check that holds is passed. -/
theorem assume_step {A : sProp 𝕄} {p : Prop} {dec : Decidable p} (hp : p) {k : PLift p → TProg F L α} (h : A ⊢ tileWp d L (k ⟨hp⟩) Q) :
    A ⊢ tileWp d L (Prog.lift (TpuEff.assume p dec) >>= k) Q :=
  h.trans (wp_assume (defs := defs₀ (F := F)) 𝒱₀ (V d (cV L) (jV L)) none Set.univ (k := k) (d := dec) hp)

/-- Goal words in range index a sixteen-word scratch. -/
theorem inb_goals (hG : GoalsOk G) (o : ℕ) : ∀ a x, ((![goalsAt G o] : Fin 1 → IVec S16 32) a x).toNat < S16.size a := by
  intro a x; fin_cases a; exact hG _

/-- The whole of a scratch, as the rectangle an indexed access goes through. -/
theorem pointsTo_access_whole (t : Thread nD τ) (b : Ref sig t.2.kind) (f : Buf (Elt F) (t.loc b)) :
    ((t.loc b ↦{fullShare} f : sProp 𝕄) ⊢ (((Memref.whole b).access (Rect.whole _)).loc t ↦[((Memref.whole b).access (Rect.whole _)).set]{fullShare} f))
    ∧ ((((Memref.whole b).access (Rect.whole _)).loc t ↦[((Memref.whole b).access (Rect.whole _)).set]{fullShare} f : sProp 𝕄) ⊢ (t.loc b ↦{fullShare} f)) := by
  rw [Memref.set_access_whole]; exact ⟨.rfl, .rfl⟩

/-- A single zero is the zero offset. -/
theorem zero_off : (![0] : Fin 1 → ℕ) = fun _ => 0 := by funext a; fin_cases a; rfl

/-- Reading the counts in progress. -/
theorem load_tmp {hl} {k : Vec F S16 .i32 → TProg F L α} (h : TS d L G T R S P ⊢ tileWp d L (k T) Q) :
    TS d L G T R S P ⊢ tileWp d L
      (Prog.lift (.load tmpV (Rect.unit (s := S16) ![0] S16.size inb_S16_S16_0).toLoadRect hl) >>= k) Q := by
  unfold TS at h ⊢
  iintro ⟨HG, HT, HR, HS, HP⟩
  iapply (wp_load_rect (defs := defs₀ (F := F)) 𝒱₀ (V d (cV L) (jV L)) none Set.univ (m := tmpV)
    (r := Rect.unit (s := S16) ![0] S16.size inb_S16_S16_0) (k := k) (hl := hl) (q := fullShare) (f := T) (Finset.subset_univ _)) $$ HT
  iintro HT
  rw [show ((tmpV.access (Rect.unit (s := S16) ![0] S16.size inb_S16_S16_0)).read (Elt F) T) = T from
    Memref.read_access_unit_zero (Elt F) cc0_scratch2 zero_off _ _]
  iapply h
  isplitl [HG]; · iexact HG
  isplitl [HT]; · iexact HT
  isplitl [HR]; · iexact HR
  isplitl [HS]; · iexact HS
  iexact HP

/-- Reading the next positions. -/
theorem load_run {hl} {k : Vec F S16 .i32 → TProg F L α} (h : TS d L G T R S P ⊢ tileWp d L (k R) Q) :
    TS d L G T R S P ⊢ tileWp d L
      (Prog.lift (.load runV (Rect.unit (s := S16) ![0] S16.size inb_S16_S16_0).toLoadRect hl) >>= k) Q := by
  unfold TS at h ⊢
  iintro ⟨HG, HT, HR, HS, HP⟩
  iapply (wp_load_rect (defs := defs₀ (F := F)) 𝒱₀ (V d (cV L) (jV L)) none Set.univ (m := runV)
    (r := Rect.unit (s := S16) ![0] S16.size inb_S16_S16_0) (k := k) (hl := hl) (q := fullShare) (f := R) (Finset.subset_univ _)) $$ HR
  iintro HR
  rw [show ((runV.access (Rect.unit (s := S16) ![0] S16.size inb_S16_S16_0)).read (Elt F) R) = R from
    Memref.read_access_unit_zero (Elt F) cc0_scratch1 zero_off _ _]
  iapply h
  isplitl [HG]; · iexact HG
  isplitl [HT]; · iexact HT
  isplitl [HR]; · iexact HR
  isplitl [HS]; · iexact HS
  iexact HP

/-- Reading the starts. -/
theorem load_seg {hl} {k : Vec F S16 .i32 → TProg F L α} (h : TS d L G T R S P ⊢ tileWp d L (k S) Q) :
    TS d L G T R S P ⊢ tileWp d L
      (Prog.lift (.load segV (Rect.unit (s := S16) ![0] S16.size inb_S16_S16_0).toLoadRect hl) >>= k) Q := by
  unfold TS at h ⊢
  iintro ⟨HG, HT, HR, HS, HP⟩
  iapply (wp_load_rect (defs := defs₀ (F := F)) 𝒱₀ (V d (cV L) (jV L)) none Set.univ (m := segV)
    (r := Rect.unit (s := S16) ![0] S16.size inb_S16_S16_0) (k := k) (hl := hl) (q := fullShare) (f := S) (Finset.subset_univ _)) $$ HS
  iintro HS
  rw [show ((segV.access (Rect.unit (s := S16) ![0] S16.size inb_S16_S16_0)).read (Elt F) S) = S from
    Memref.read_access_unit_zero (Elt F) cc0_scratch3 zero_off _ _]
  iapply h
  isplitl [HG]; · iexact HG
  isplitl [HT]; · iexact HT
  isplitl [HR]; · iexact HR
  isplitl [HS]; · iexact HS
  iexact HP

/-- Overwriting the counts in progress. -/
theorem store_tmp {w : IVec S16 32} {hx hm} {k : PUnit → TProg F L α} (h : TS d L G w R S P ⊢ tileWp d L (k ⟨⟩) Q) :
    TS d L G T R S P ⊢ tileWp d L
      (Prog.lift (.store tmpV (Rect.unit (s := S16) ![0] S16.size inb_S16_S16_0) w Finset.univ hx hm) >>= k) Q := by
  unfold TS at h ⊢
  iintro ⟨HG, HT, HR, HS, HP⟩
  iapply (wp_store (defs := defs₀ (F := F)) 𝒱₀ (V d (cV L) (jV L)) none Set.univ (m := tmpV)
    (r := Rect.unit (s := S16) ![0] S16.size inb_S16_S16_0) (w := w) (Mk := Finset.univ) (hx := hx) (hm := hm) (k := k) (f := T)
    (Finset.subset_univ _)) $$ HT
  rw [show ((tmpV.access (Rect.unit (s := S16) ![0] S16.size inb_S16_S16_0)).write (Elt F) T w Finset.univ) = w from
    Memref.write_access_unit_zero_univ (Elt F) cc0_scratch2 zero_off _ _ _]
  iintro HT
  iapply h
  isplitl [HG]; · iexact HG
  isplitl [HT]; · iexact HT
  isplitl [HR]; · iexact HR
  isplitl [HS]; · iexact HS
  iexact HP

/-- Overwriting the next positions. -/
theorem store_run {w : IVec S16 32} {hx hm} {k : PUnit → TProg F L α} (h : TS d L G T w S P ⊢ tileWp d L (k ⟨⟩) Q) :
    TS d L G T R S P ⊢ tileWp d L
      (Prog.lift (.store runV (Rect.unit (s := S16) ![0] S16.size inb_S16_S16_0) w Finset.univ hx hm) >>= k) Q := by
  unfold TS at h ⊢
  iintro ⟨HG, HT, HR, HS, HP⟩
  iapply (wp_store (defs := defs₀ (F := F)) 𝒱₀ (V d (cV L) (jV L)) none Set.univ (m := runV)
    (r := Rect.unit (s := S16) ![0] S16.size inb_S16_S16_0) (w := w) (Mk := Finset.univ) (hx := hx) (hm := hm) (k := k) (f := R)
    (Finset.subset_univ _)) $$ HR
  rw [show ((runV.access (Rect.unit (s := S16) ![0] S16.size inb_S16_S16_0)).write (Elt F) R w Finset.univ) = w from
    Memref.write_access_unit_zero_univ (Elt F) cc0_scratch1 zero_off _ _ _]
  iintro HR
  iapply h
  isplitl [HG]; · iexact HG
  isplitl [HT]; · iexact HT
  isplitl [HR]; · iexact HR
  isplitl [HS]; · iexact HS
  iexact HP

/-- Overwriting the starts. -/
theorem store_seg {w : IVec S16 32} {hx hm} {k : PUnit → TProg F L α} (h : TS d L G T R w P ⊢ tileWp d L (k ⟨⟩) Q) :
    TS d L G T R S P ⊢ tileWp d L
      (Prog.lift (.store segV (Rect.unit (s := S16) ![0] S16.size inb_S16_S16_0) w Finset.univ hx hm) >>= k) Q := by
  unfold TS at h ⊢
  iintro ⟨HG, HT, HR, HS, HP⟩
  iapply (wp_store (defs := defs₀ (F := F)) 𝒱₀ (V d (cV L) (jV L)) none Set.univ (m := segV)
    (r := Rect.unit (s := S16) ![0] S16.size inb_S16_S16_0) (w := w) (Mk := Finset.univ) (hx := hx) (hm := hm) (k := k) (f := S)
    (Finset.subset_univ _)) $$ HS
  rw [show ((segV.access (Rect.unit (s := S16) ![0] S16.size inb_S16_S16_0)).write (Elt F) S w Finset.univ) = w from
    Memref.write_access_unit_zero_univ (Elt F) cc0_scratch3 zero_off _ _ _]
  iintro HS
  iapply h
  isplitl [HG]; · iexact HG
  isplitl [HT]; · iexact HT
  isplitl [HR]; · iexact HR
  isplitl [HS]; · iexact HS
  iexact HP

/-- An indexed add into the counts in progress. -/
theorem scatter_tmp {v ones : IVec S16 32} {hi hs} {k : PUnit → TProg F L α}
    (h : TS d L G (storeIdx (F := F) (s := S16) (e := .i32) T ![v] ones (fun _ => 1#1) true hi) R S P ⊢ tileWp d L (k ⟨⟩) Q) :
    TS d L G T R S P ⊢ tileWp d L (SparseCore.vectorStoreIdx tmpV ![v] ones (fun _ => 1#1) true hi hs >>= k) Q := by
  unfold TS at h ⊢
  iintro ⟨HG, HT, HR, HS, HP⟩
  ihave HT := (pointsTo_access_whole (F := F) (V d (cV L) (jV L)) cc0_scratch2 T).1 $$ HT
  iapply (SparseCore.wp_vectorStoreIdx (defs := defs₀ (F := F)) 𝒱₀ (V d (cV L) (jV L)) none Set.univ (base := tmpV) (k := k) (hs := hs)
    (h := hi) (f := T)) $$ HT
  rw [show ((tmpV.access (Rect.whole S16)).read (Elt F) T) = T from Memref.read_access_whole (Elt F) cc0_scratch2 T,
    show ∀ w, ((tmpV.access (Rect.whole S16)).write (Elt F) T w Finset.univ) = w from Memref.write_access_whole_univ (Elt F) cc0_scratch2 T]
  iintro HT
  ihave HT := (pointsTo_access_whole (F := F) (V d (cV L) (jV L)) cc0_scratch2 _).2 $$ HT
  iapply h
  isplitl [HG]; · iexact HG
  isplitl [HT]; · iexact HT
  isplitl [HR]; · iexact HR
  isplitl [HS]; · iexact HS
  iexact HP

/-- An indexed add into the next positions. -/
theorem scatter_run {v ones : IVec S16 32} {hi hs} {k : PUnit → TProg F L α}
    (h : TS d L G T (storeIdx (F := F) (s := S16) (e := .i32) R ![v] ones (fun _ => 1#1) true hi) S P ⊢ tileWp d L (k ⟨⟩) Q) :
    TS d L G T R S P ⊢ tileWp d L (SparseCore.vectorStoreIdx runV ![v] ones (fun _ => 1#1) true hi hs >>= k) Q := by
  unfold TS at h ⊢
  iintro ⟨HG, HT, HR, HS, HP⟩
  ihave HR := (pointsTo_access_whole (F := F) (V d (cV L) (jV L)) cc0_scratch1 R).1 $$ HR
  iapply (SparseCore.wp_vectorStoreIdx (defs := defs₀ (F := F)) 𝒱₀ (V d (cV L) (jV L)) none Set.univ (base := runV) (k := k) (hs := hs)
    (h := hi) (f := R)) $$ HR
  rw [show ((runV.access (Rect.whole S16)).read (Elt F) R) = R from Memref.read_access_whole (Elt F) cc0_scratch1 R,
    show ∀ w, ((runV.access (Rect.whole S16)).write (Elt F) R w Finset.univ) = w from Memref.write_access_whole_univ (Elt F) cc0_scratch1 R]
  iintro HR
  ihave HR := (pointsTo_access_whole (F := F) (V d (cV L) (jV L)) cc0_scratch1 _).2 $$ HR
  iapply h
  isplitl [HG]; · iexact HG
  isplitl [HT]; · iexact HT
  isplitl [HR]; · iexact HR
  isplitl [HS]; · iexact HS
  iexact HP

/-- An indexed load from the next positions. -/
theorem gather_run {v : IVec S16 32} {hi hl} {k : Vec F S16 .i32 → TProg F L α}
    (h : TS d L G T R S P ⊢ tileWp d L (k (loadIdx (F := F) (s := S16) (e := .i32) R ![v] hi)) Q) :
    TS d L G T R S P ⊢ tileWp d L (SparseCore.vectorLoadIdx runV ![v] hi hl >>= k) Q := by
  unfold TS at h ⊢
  iintro ⟨HG, HT, HR, HS, HP⟩
  iapply (SparseCore.wp_vectorLoadIdx (defs := defs₀ (F := F)) 𝒱₀ (V d (cV L) (jV L)) none Set.univ (base := runV) (k := k) (hl := hl)
    (h := hi) (q := fullShare) (f := R) (Finset.subset_univ _)) $$ HR
  rw [show ((runV.access (Rect.whole S16)).read (Elt F) R) = R from Memref.read_access_whole (Elt F) cc0_scratch1 R]
  iintro HR
  iapply h
  isplitl [HG]; · iexact HG
  isplitl [HT]; · iexact HT
  isplitl [HR]; · iexact HR
  isplitl [HS]; · iexact HS
  iexact HP

end Cert.Proof

end
-- ==== Proof.Histogram.lean ====
/-
  The counting half of the first call's task: thirty-two chunks of 128 tokens, each counted by eight scatter-adds of
  ones into one scratch; the totals of the chunks so far, and of the chunks before the task's own, kept as the kernel
  goes. The kernel's text cuts the sequence of statements into parts; each theorem below is one part, from the counts it
  finds to the counts it leaves.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable {d : Dev nD} {L : grid0.Coords} {G : S4096.Idx → BitVec 32} {T R S : IVec S16 32} {P : IVec S1x128 32}
variable {α : Type} {Q : α → sProp (MT nD τ sig (HIx 2) (Elt F) ℕ UU ℕ)}

/-- A part of the kernel, at the memrefs and semaphores the call passes it. -/
abbrev atArgs {β : grid0.Coords → Type 1} (L : grid0.Coords)
    (p : (i : grid0.Coords) → (arg2 : Memref sig .scVector .hbm S4096 .i32) → arg2.IsWhole → (arg3 : Memref sig .scVector .hbm S4096x128 .f32) → arg3.IsWhole
      → (arg4 : Memref sig .scVector .hbm S4096x128 .f32) → arg4.IsWhole → (arg5 : Memref sig .scVector .hbm S4096 .i32) → arg5.IsWhole
      → (arg6 : Memref sig .scVector .hbm S16 .i32) → arg6.IsWhole → (arg7 : Memref sig .scVector .vmem S4096 .i32) → arg7.IsWhole
      → (arg8 : Memref sig .scVector .vmem S16 .i32) → arg8.IsWhole → (arg9 : Memref sig .scVector .vmem S16 .i32) → arg9.IsWhole
      → (arg10 : Memref sig .scVector .vmem S16 .i32) → arg10.IsWhole → (arg11 : Memref sig .scVector .vmem S1x128 .i32) → arg11.IsWhole
      → (arg12 : Memref sig .scVector .vmem S128x128 .f32) → arg12.IsWhole → (arg13 : DmaSems sig S_) → (r0 : DmaSems sig S_) → (r1 : DmaSems sig S_)
      → (r2 : DmaSems sig S_) → (r3 : DmaSems sig S_) → (r4 : DmaSems sig S_) → β i) : β L :=
  p L goalH (Memref.isWhole_whole _) featH (Memref.isWhole_whole _) sortH (Memref.isWhole_whole _) posH (Memref.isWhole_whole _)
    segH (Memref.isWhole_whole _) goalV (Memref.isWhole_whole _) runV (Memref.isWhole_whole _) tmpV (Memref.isWhole_whole _)
    segV (Memref.isWhole_whole _) posV (Memref.isWhole_whole _) rowsV (Memref.isWhole_whole _) cc0_scratch6
    cc0_scoped0 cc0_scoped1 cc0_scoped2 cc0_scoped3 cc0_scoped4

/-- Sixteen more tokens counted: their goals loaded, checked, and one added at each. -/
theorem count16 (hG : GoalsOk G) {lo o : ℕ} (hlo : lo ≤ o) {inb : ∀ a, (![o] : Fin 1 → ℕ) a + S16.size a ≤ S4096.size a} {hl}
    {chk : IVec S16 32 → Prop} {dec : ∀ v, Decidable (chk v)}
    {hi : ∀ v, chk v → ∀ a x, ((![v] : Fin 1 → IVec S16 32) a x).toNat < S16.size a} {hs} {k : PUnit → TProg F L α}
    (hchk : ∀ v, (∀ a x, ((![v] : Fin 1 → IVec S16 32) a x).toNat < S16.size a) → chk v)
    (h : TS d L G (cntW G lo (o + 16)) R S P ⊢ tileWp d L (k ⟨⟩) Q) :
    TS d L G (cntW G lo o) R S P ⊢ tileWp d L
      (Prog.lift (.load goalV (Rect.unit (s := S4096) ![o] S16.size inb).toLoadRect hl) >>= fun v : Vec F S16 .i32 =>
        Prog.lift (TpuEff.assume (chk v) (dec v)) >>= fun w =>
          SparseCore.vectorStoreIdx tmpV ![v] k0_pay1 (fun _ => 1#1) true (hi v w.down) hs >>= k) Q := by
  refine load_goals rfl (assume_step (hchk _ (inb_goals hG o)) (scatter_tmp ?_))
  rw [storeIdx_ones hlo k0_pay1 rfl]
  exact h

/-- The scratch read, then cleared for the next chunk. -/
theorem clear_tmp (lo : ℕ) {hl hx hm} {z : IVec S16 32} {k : PUnit → TProg F L α} (hz : z = fun _ => 0#32)
    (h : TS d L G (cntW G lo lo) R S P ⊢ tileWp d L (k ⟨⟩) Q) :
    TS d L G T R S P ⊢ tileWp d L
      (Prog.lift (.load tmpV (Rect.unit (s := S16) ![0] S16.size inb_S16_S16_0).toLoadRect hl) >>= fun _ : Vec F S16 .i32 =>
        Prog.lift (.store tmpV (Rect.unit (s := S16) ![0] S16.size inb_S16_S16_0) z Finset.univ hx hm) >>= k) Q := by
  refine load_tmp (store_tmp ?_)
  rw [hz, ← cntW_self (G := G) lo]
  exact h

/-- A part that returns the two running totals. -/
theorem ret_two {A : sProp 𝕄} {a a' b b' : IVec S16 32} (ha : a = a') (hb : b = b') :
    A ⊢ tileWp d L (Pure.pure (⟨a, b⟩ : Σ' (_ : IVec S16 32), IVec S16 32)) fun r => iprop(⌜r = ⟨a', b'⟩⌝ ∗ A) := by
  subst ha hb
  exact ret_step (by iintro H; isplit; · ipureintro; rfl
                     iexact H)

/-- A part that returns the totals before the chunk just counted, that chunk's counts and the test it is added under. -/
theorem ret_five {A : sProp 𝕄} {a a' b e e' : IVec S16 32} {t t' : IVec S16 1} (ha : a = a') (he : e = e') (ht : t = t') :
    A ⊢ tileWp d L (Pure.pure (⟨a, b, e, t, 0#32⟩ : Σ' (_ : IVec S16 32) (_ : IVec S16 32) (_ : IVec S16 32) (_ : IVec S16 1), BitVec 32))
      fun r => iprop(⌜r = ⟨a', b, e', t', 0#32⟩⌝ ∗ A) := by
  subst ha he ht
  exact ret_step (by iintro H; isplit; · ipureintro; rfl
                     iexact H)

/-- The first two chunks' counts, each if an earlier task's. -/
theorem befW_two (L : grid0.Coords) (G : S4096.Idx → BitVec 32) :
    addi (addi (broadcast S16 0#32) (select (cmpi .slt (broadcast S16 0#32) (broadcast S16 (widW L))) (cntW G 0 128) (broadcast S16 0#32)))
        (select (cmpi .slt (broadcast S16 1#32) (broadcast S16 (widW L))) (cntW G 128 256) (broadcast S16 0#32))
      = befW G (wid L) 256 := by
  have h0 : (broadcast S16 0#32 : IVec S16 32) = befW G (wid L) 0 := by
    unfold befW; rw [Nat.zero_min, cntW_self]; rfl
  have h1 := addi_befW (G := G) (L := L) 0 (by decide) rfl (hi := 128) rfl
  rw [← h0] at h1
  exact (congrArg (addi · _) h1).trans (addi_befW 1 (by decide) rfl rfl)

/-- Part 2: tokens counted up to 272. -/
theorem part2 (hG : GoalsOk G) :
    TS d L G (cntW G 0 128) R S P ⊢ tileWp d L (atArgs L (k0_part2 (F := F)) (widW L) k0_pay1 k0_pay2 (cntW G 0 128) (cntW G 0 128) (k0_pay5 L) 0#32)
      fun r => iprop(⌜r = ⟨cntW G 0 256, befW G (wid L) 256⟩⌝ ∗ TS d L G (cntW G 256 272) R S P) := by
  rw [k0_part2_eq_skeleton]
  refine clear_tmp 128 rfl ?_
  iterate 8 refine count16 hG (by decide) (fun _ h => h) ?_
  refine load_tmp (clear_tmp 256 rfl (count16 hG (by decide) (fun _ h => h) ?_))
  refine ret_two (addi_cntW (by decide) (by decide)) (befW_two _ _)

/-- Part 3: tokens counted up to 448. -/
theorem part3 (hG : GoalsOk G) :
    TS d L G (cntW G 256 272) R S P ⊢ tileWp d L (atArgs L (k0_part3 (F := F)) (widW L) k0_pay1 (cntW G 0 256) (befW G (wid L) 256))
      fun r => iprop(⌜r = ⟨cntW G 0 384, befW G (wid L) 384⟩⌝ ∗ TS d L G (cntW G 384 448) R S P) := by
  rw [k0_part3_eq_skeleton]
  iterate 7 refine count16 hG (by decide) (fun _ h => h) ?_
  refine load_tmp (clear_tmp 384 rfl ?_)
  iterate 4 refine count16 hG (by decide) (fun _ h => h) ?_
  refine ret_two (addi_cntW (by decide) (by decide)) (addi_befW 2 (by decide) rfl rfl)

/-- Part 4: tokens counted up to 624. -/
theorem part4 (hG : GoalsOk G) :
    TS d L G (cntW G 384 448) R S P ⊢ tileWp d L (atArgs L (k0_part4 (F := F)) (widW L) k0_pay1 (cntW G 0 384) (befW G (wid L) 384))
      fun r => iprop(⌜r = ⟨cntW G 0 512, befW G (wid L) 512⟩⌝ ∗ TS d L G (cntW G 512 624) R S P) := by
  rw [k0_part4_eq_skeleton]
  iterate 4 refine count16 hG (by decide) (fun _ h => h) ?_
  refine load_tmp (clear_tmp 512 rfl ?_)
  iterate 7 refine count16 hG (by decide) (fun _ h => h) ?_
  refine ret_two (addi_cntW (by decide) (by decide)) (addi_befW 3 (by decide) rfl rfl)

/-- Part 5: tokens counted up to 768. -/
theorem part5 (hG : GoalsOk G) :
    TS d L G (cntW G 512 624) R S P ⊢ tileWp d L (atArgs L (k0_part5 (F := F)) (widW L) k0_pay1 (cntW G 0 512) (befW G (wid L) 512))
      fun r => iprop(⌜r = ⟨befW G (wid L) 640, cntW G 640 768, cntW G 0 768, cmpi .slt (broadcast S16 5#32) (broadcast S16 (widW L)), 0#32⟩⌝ ∗ TS d L G (cntW G 640 768) R S P) := by
  rw [k0_part5_eq_skeleton]
  refine count16 hG (by decide) (fun _ h => h) ?_
  refine load_tmp (clear_tmp 640 rfl ?_)
  iterate 8 refine count16 hG (by decide) (fun _ h => h) ?_
  refine load_tmp ?_
  refine ret_five (addi_befW 4 (by decide) rfl rfl)
    ((congrArg (addi · _) (addi_cntW (by decide) (by decide))).trans (addi_cntW (by decide) (by decide))) rfl

/-- Part 6: tokens counted up to 912. -/
theorem part6 (hG : GoalsOk G) :
    TS d L G (cntW G 640 768) R S P ⊢ tileWp d L (atArgs L (k0_part6 (F := F)) (widW L) k0_pay1 (befW G (wid L) 640) (cntW G 640 768) (cntW G 0 768) (cmpi .slt (broadcast S16 5#32) (broadcast S16 (widW L))) 0#32)
      fun r => iprop(⌜r = ⟨cntW G 0 896, befW G (wid L) 896⟩⌝ ∗ TS d L G (cntW G 896 912) R S P) := by
  rw [k0_part6_eq_skeleton]
  refine clear_tmp 768 rfl ?_
  iterate 8 refine count16 hG (by decide) (fun _ h => h) ?_
  refine load_tmp (clear_tmp 896 rfl (count16 hG (by decide) (fun _ h => h) ?_))
  refine ret_two (addi_cntW (by decide) (by decide)) ((congrArg (addi · _) (addi_befW 5 (by decide) rfl rfl)).trans (addi_befW 6 (by decide) rfl rfl))

/-- Part 7: tokens counted up to 1088. -/
theorem part7 (hG : GoalsOk G) :
    TS d L G (cntW G 896 912) R S P ⊢ tileWp d L (atArgs L (k0_part7 (F := F)) (widW L) k0_pay1 (cntW G 0 896) (befW G (wid L) 896))
      fun r => iprop(⌜r = ⟨cntW G 0 1024, befW G (wid L) 1024⟩⌝ ∗ TS d L G (cntW G 1024 1088) R S P) := by
  rw [k0_part7_eq_skeleton]
  iterate 7 refine count16 hG (by decide) (fun _ h => h) ?_
  refine load_tmp (clear_tmp 1024 rfl ?_)
  iterate 4 refine count16 hG (by decide) (fun _ h => h) ?_
  refine ret_two (addi_cntW (by decide) (by decide)) (addi_befW 7 (by decide) rfl rfl)

/-- Part 8: tokens counted up to 1264. -/
theorem part8 (hG : GoalsOk G) :
    TS d L G (cntW G 1024 1088) R S P ⊢ tileWp d L (atArgs L (k0_part8 (F := F)) (widW L) k0_pay1 (cntW G 0 1024) (befW G (wid L) 1024))
      fun r => iprop(⌜r = ⟨cntW G 0 1152, befW G (wid L) 1152⟩⌝ ∗ TS d L G (cntW G 1152 1264) R S P) := by
  rw [k0_part8_eq_skeleton]
  iterate 4 refine count16 hG (by decide) (fun _ h => h) ?_
  refine load_tmp (clear_tmp 1152 rfl ?_)
  iterate 7 refine count16 hG (by decide) (fun _ h => h) ?_
  refine ret_two (addi_cntW (by decide) (by decide)) (addi_befW 8 (by decide) rfl rfl)

/-- Part 9: tokens counted up to 1408. -/
theorem part9 (hG : GoalsOk G) :
    TS d L G (cntW G 1152 1264) R S P ⊢ tileWp d L (atArgs L (k0_part9 (F := F)) (widW L) k0_pay1 (cntW G 0 1152) (befW G (wid L) 1152))
      fun r => iprop(⌜r = ⟨befW G (wid L) 1280, cntW G 1280 1408, cntW G 0 1408, cmpi .slt (broadcast S16 10#32) (broadcast S16 (widW L)), 0#32⟩⌝ ∗ TS d L G (cntW G 1280 1408) R S P) := by
  rw [k0_part9_eq_skeleton]
  refine count16 hG (by decide) (fun _ h => h) ?_
  refine load_tmp (clear_tmp 1280 rfl ?_)
  iterate 8 refine count16 hG (by decide) (fun _ h => h) ?_
  refine load_tmp ?_
  refine ret_five (addi_befW 9 (by decide) rfl rfl)
    ((congrArg (addi · _) (addi_cntW (by decide) (by decide))).trans (addi_cntW (by decide) (by decide))) rfl

/-- Part 10: tokens counted up to 1552. -/
theorem part10 (hG : GoalsOk G) :
    TS d L G (cntW G 1280 1408) R S P ⊢ tileWp d L (atArgs L (k0_part10 (F := F)) (widW L) k0_pay1 (befW G (wid L) 1280) (cntW G 1280 1408) (cntW G 0 1408) (cmpi .slt (broadcast S16 10#32) (broadcast S16 (widW L))) 0#32)
      fun r => iprop(⌜r = ⟨cntW G 0 1536, befW G (wid L) 1536⟩⌝ ∗ TS d L G (cntW G 1536 1552) R S P) := by
  rw [k0_part10_eq_skeleton]
  refine clear_tmp 1408 rfl ?_
  iterate 8 refine count16 hG (by decide) (fun _ h => h) ?_
  refine load_tmp (clear_tmp 1536 rfl (count16 hG (by decide) (fun _ h => h) ?_))
  refine ret_two (addi_cntW (by decide) (by decide)) ((congrArg (addi · _) (addi_befW 10 (by decide) rfl rfl)).trans (addi_befW 11 (by decide) rfl rfl))

/-- Part 11: tokens counted up to 1728. -/
theorem part11 (hG : GoalsOk G) :
    TS d L G (cntW G 1536 1552) R S P ⊢ tileWp d L (atArgs L (k0_part11 (F := F)) (widW L) k0_pay1 (cntW G 0 1536) (befW G (wid L) 1536))
      fun r => iprop(⌜r = ⟨cntW G 0 1664, befW G (wid L) 1664⟩⌝ ∗ TS d L G (cntW G 1664 1728) R S P) := by
  rw [k0_part11_eq_skeleton]
  iterate 7 refine count16 hG (by decide) (fun _ h => h) ?_
  refine load_tmp (clear_tmp 1664 rfl ?_)
  iterate 4 refine count16 hG (by decide) (fun _ h => h) ?_
  refine ret_two (addi_cntW (by decide) (by decide)) (addi_befW 12 (by decide) rfl rfl)

/-- Part 12: tokens counted up to 1904. -/
theorem part12 (hG : GoalsOk G) :
    TS d L G (cntW G 1664 1728) R S P ⊢ tileWp d L (atArgs L (k0_part12 (F := F)) (widW L) k0_pay1 (cntW G 0 1664) (befW G (wid L) 1664))
      fun r => iprop(⌜r = ⟨cntW G 0 1792, befW G (wid L) 1792⟩⌝ ∗ TS d L G (cntW G 1792 1904) R S P) := by
  rw [k0_part12_eq_skeleton]
  iterate 4 refine count16 hG (by decide) (fun _ h => h) ?_
  refine load_tmp (clear_tmp 1792 rfl ?_)
  iterate 7 refine count16 hG (by decide) (fun _ h => h) ?_
  refine ret_two (addi_cntW (by decide) (by decide)) (addi_befW 13 (by decide) rfl rfl)

/-- Part 13: tokens counted up to 2048. -/
theorem part13 (hG : GoalsOk G) :
    TS d L G (cntW G 1792 1904) R S P ⊢ tileWp d L (atArgs L (k0_part13 (F := F)) (widW L) k0_pay1 (cntW G 0 1792) (befW G (wid L) 1792))
      fun r => iprop(⌜r = ⟨befW G (wid L) 1920, cntW G 1920 2048, cntW G 0 2048, cmpi .slt (broadcast S16 15#32) (broadcast S16 (widW L)), 0#32⟩⌝ ∗ TS d L G (cntW G 1920 2048) R S P) := by
  rw [k0_part13_eq_skeleton]
  refine count16 hG (by decide) (fun _ h => h) ?_
  refine load_tmp (clear_tmp 1920 rfl ?_)
  iterate 8 refine count16 hG (by decide) (fun _ h => h) ?_
  refine load_tmp ?_
  refine ret_five (addi_befW 14 (by decide) rfl rfl)
    ((congrArg (addi · _) (addi_cntW (by decide) (by decide))).trans (addi_cntW (by decide) (by decide))) rfl

/-- Part 14: tokens counted up to 2192. -/
theorem part14 (hG : GoalsOk G) :
    TS d L G (cntW G 1920 2048) R S P ⊢ tileWp d L (atArgs L (k0_part14 (F := F)) (widW L) k0_pay1 (befW G (wid L) 1920) (cntW G 1920 2048) (cntW G 0 2048) (cmpi .slt (broadcast S16 15#32) (broadcast S16 (widW L))) 0#32)
      fun r => iprop(⌜r = ⟨cntW G 0 2176, befW G (wid L) 2176⟩⌝ ∗ TS d L G (cntW G 2176 2192) R S P) := by
  rw [k0_part14_eq_skeleton]
  refine clear_tmp 2048 rfl ?_
  iterate 8 refine count16 hG (by decide) (fun _ h => h) ?_
  refine load_tmp (clear_tmp 2176 rfl (count16 hG (by decide) (fun _ h => h) ?_))
  refine ret_two (addi_cntW (by decide) (by decide)) ((congrArg (addi · _) (addi_befW 15 (by decide) rfl rfl)).trans (addi_befW 16 (by decide) rfl rfl))

/-- Part 15: tokens counted up to 2368. -/
theorem part15 (hG : GoalsOk G) :
    TS d L G (cntW G 2176 2192) R S P ⊢ tileWp d L (atArgs L (k0_part15 (F := F)) (widW L) k0_pay1 (cntW G 0 2176) (befW G (wid L) 2176))
      fun r => iprop(⌜r = ⟨cntW G 0 2304, befW G (wid L) 2304⟩⌝ ∗ TS d L G (cntW G 2304 2368) R S P) := by
  rw [k0_part15_eq_skeleton]
  iterate 7 refine count16 hG (by decide) (fun _ h => h) ?_
  refine load_tmp (clear_tmp 2304 rfl ?_)
  iterate 4 refine count16 hG (by decide) (fun _ h => h) ?_
  refine ret_two (addi_cntW (by decide) (by decide)) (addi_befW 17 (by decide) rfl rfl)

/-- Part 16: tokens counted up to 2544. -/
theorem part16 (hG : GoalsOk G) :
    TS d L G (cntW G 2304 2368) R S P ⊢ tileWp d L (atArgs L (k0_part16 (F := F)) (widW L) k0_pay1 (cntW G 0 2304) (befW G (wid L) 2304))
      fun r => iprop(⌜r = ⟨cntW G 0 2432, befW G (wid L) 2432⟩⌝ ∗ TS d L G (cntW G 2432 2544) R S P) := by
  rw [k0_part16_eq_skeleton]
  iterate 4 refine count16 hG (by decide) (fun _ h => h) ?_
  refine load_tmp (clear_tmp 2432 rfl ?_)
  iterate 7 refine count16 hG (by decide) (fun _ h => h) ?_
  refine ret_two (addi_cntW (by decide) (by decide)) (addi_befW 18 (by decide) rfl rfl)

/-- Part 17: tokens counted up to 2688. -/
theorem part17 (hG : GoalsOk G) :
    TS d L G (cntW G 2432 2544) R S P ⊢ tileWp d L (atArgs L (k0_part17 (F := F)) (widW L) k0_pay1 (cntW G 0 2432) (befW G (wid L) 2432))
      fun r => iprop(⌜r = ⟨befW G (wid L) 2560, cntW G 2560 2688, cntW G 0 2688, cmpi .slt (broadcast S16 20#32) (broadcast S16 (widW L)), 0#32⟩⌝ ∗ TS d L G (cntW G 2560 2688) R S P) := by
  rw [k0_part17_eq_skeleton]
  refine count16 hG (by decide) (fun _ h => h) ?_
  refine load_tmp (clear_tmp 2560 rfl ?_)
  iterate 8 refine count16 hG (by decide) (fun _ h => h) ?_
  refine load_tmp ?_
  refine ret_five (addi_befW 19 (by decide) rfl rfl)
    ((congrArg (addi · _) (addi_cntW (by decide) (by decide))).trans (addi_cntW (by decide) (by decide))) rfl

/-- Part 18: tokens counted up to 2832. -/
theorem part18 (hG : GoalsOk G) :
    TS d L G (cntW G 2560 2688) R S P ⊢ tileWp d L (atArgs L (k0_part18 (F := F)) (widW L) k0_pay1 (befW G (wid L) 2560) (cntW G 2560 2688) (cntW G 0 2688) (cmpi .slt (broadcast S16 20#32) (broadcast S16 (widW L))) 0#32)
      fun r => iprop(⌜r = ⟨cntW G 0 2816, befW G (wid L) 2816⟩⌝ ∗ TS d L G (cntW G 2816 2832) R S P) := by
  rw [k0_part18_eq_skeleton]
  refine clear_tmp 2688 rfl ?_
  iterate 8 refine count16 hG (by decide) (fun _ h => h) ?_
  refine load_tmp (clear_tmp 2816 rfl (count16 hG (by decide) (fun _ h => h) ?_))
  refine ret_two (addi_cntW (by decide) (by decide)) ((congrArg (addi · _) (addi_befW 20 (by decide) rfl rfl)).trans (addi_befW 21 (by decide) rfl rfl))

/-- Part 19: tokens counted up to 3008. -/
theorem part19 (hG : GoalsOk G) :
    TS d L G (cntW G 2816 2832) R S P ⊢ tileWp d L (atArgs L (k0_part19 (F := F)) (widW L) k0_pay1 (cntW G 0 2816) (befW G (wid L) 2816))
      fun r => iprop(⌜r = ⟨cntW G 0 2944, befW G (wid L) 2944⟩⌝ ∗ TS d L G (cntW G 2944 3008) R S P) := by
  rw [k0_part19_eq_skeleton]
  iterate 7 refine count16 hG (by decide) (fun _ h => h) ?_
  refine load_tmp (clear_tmp 2944 rfl ?_)
  iterate 4 refine count16 hG (by decide) (fun _ h => h) ?_
  refine ret_two (addi_cntW (by decide) (by decide)) (addi_befW 22 (by decide) rfl rfl)

/-- Part 20: tokens counted up to 3184. -/
theorem part20 (hG : GoalsOk G) :
    TS d L G (cntW G 2944 3008) R S P ⊢ tileWp d L (atArgs L (k0_part20 (F := F)) (widW L) k0_pay1 (cntW G 0 2944) (befW G (wid L) 2944))
      fun r => iprop(⌜r = ⟨cntW G 0 3072, befW G (wid L) 3072⟩⌝ ∗ TS d L G (cntW G 3072 3184) R S P) := by
  rw [k0_part20_eq_skeleton]
  iterate 4 refine count16 hG (by decide) (fun _ h => h) ?_
  refine load_tmp (clear_tmp 3072 rfl ?_)
  iterate 7 refine count16 hG (by decide) (fun _ h => h) ?_
  refine ret_two (addi_cntW (by decide) (by decide)) (addi_befW 23 (by decide) rfl rfl)

/-- Part 21: tokens counted up to 3328. -/
theorem part21 (hG : GoalsOk G) :
    TS d L G (cntW G 3072 3184) R S P ⊢ tileWp d L (atArgs L (k0_part21 (F := F)) (widW L) k0_pay1 (cntW G 0 3072) (befW G (wid L) 3072))
      fun r => iprop(⌜r = ⟨befW G (wid L) 3200, cntW G 3200 3328, cntW G 0 3328, cmpi .slt (broadcast S16 25#32) (broadcast S16 (widW L)), 0#32⟩⌝ ∗ TS d L G (cntW G 3200 3328) R S P) := by
  rw [k0_part21_eq_skeleton]
  refine count16 hG (by decide) (fun _ h => h) ?_
  refine load_tmp (clear_tmp 3200 rfl ?_)
  iterate 8 refine count16 hG (by decide) (fun _ h => h) ?_
  refine load_tmp ?_
  refine ret_five (addi_befW 24 (by decide) rfl rfl)
    ((congrArg (addi · _) (addi_cntW (by decide) (by decide))).trans (addi_cntW (by decide) (by decide))) rfl

/-- Part 22: tokens counted up to 3472. -/
theorem part22 (hG : GoalsOk G) :
    TS d L G (cntW G 3200 3328) R S P ⊢ tileWp d L (atArgs L (k0_part22 (F := F)) (widW L) k0_pay1 (befW G (wid L) 3200) (cntW G 3200 3328) (cntW G 0 3328) (cmpi .slt (broadcast S16 25#32) (broadcast S16 (widW L))) 0#32)
      fun r => iprop(⌜r = ⟨cntW G 0 3456, befW G (wid L) 3456⟩⌝ ∗ TS d L G (cntW G 3456 3472) R S P) := by
  rw [k0_part22_eq_skeleton]
  refine clear_tmp 3328 rfl ?_
  iterate 8 refine count16 hG (by decide) (fun _ h => h) ?_
  refine load_tmp (clear_tmp 3456 rfl (count16 hG (by decide) (fun _ h => h) ?_))
  refine ret_two (addi_cntW (by decide) (by decide)) ((congrArg (addi · _) (addi_befW 25 (by decide) rfl rfl)).trans (addi_befW 26 (by decide) rfl rfl))

/-- Part 23: tokens counted up to 3648. -/
theorem part23 (hG : GoalsOk G) :
    TS d L G (cntW G 3456 3472) R S P ⊢ tileWp d L (atArgs L (k0_part23 (F := F)) (widW L) k0_pay1 (cntW G 0 3456) (befW G (wid L) 3456))
      fun r => iprop(⌜r = ⟨cntW G 0 3584, befW G (wid L) 3584⟩⌝ ∗ TS d L G (cntW G 3584 3648) R S P) := by
  rw [k0_part23_eq_skeleton]
  iterate 7 refine count16 hG (by decide) (fun _ h => h) ?_
  refine load_tmp (clear_tmp 3584 rfl ?_)
  iterate 4 refine count16 hG (by decide) (fun _ h => h) ?_
  refine ret_two (addi_cntW (by decide) (by decide)) (addi_befW 27 (by decide) rfl rfl)

/-- Part 24: tokens counted up to 3824. -/
theorem part24 (hG : GoalsOk G) :
    TS d L G (cntW G 3584 3648) R S P ⊢ tileWp d L (atArgs L (k0_part24 (F := F)) (widW L) k0_pay1 (cntW G 0 3584) (befW G (wid L) 3584))
      fun r => iprop(⌜r = ⟨cntW G 0 3712, befW G (wid L) 3712⟩⌝ ∗ TS d L G (cntW G 3712 3824) R S P) := by
  rw [k0_part24_eq_skeleton]
  iterate 4 refine count16 hG (by decide) (fun _ h => h) ?_
  refine load_tmp (clear_tmp 3712 rfl ?_)
  iterate 7 refine count16 hG (by decide) (fun _ h => h) ?_
  refine ret_two (addi_cntW (by decide) (by decide)) (addi_befW 28 (by decide) rfl rfl)

/-- Part 25: tokens counted up to 3968. -/
theorem part25 (hG : GoalsOk G) :
    TS d L G (cntW G 3712 3824) R S P ⊢ tileWp d L (atArgs L (k0_part25 (F := F)) (widW L) k0_pay1 (cntW G 0 3712) (befW G (wid L) 3712))
      fun r => iprop(⌜r = ⟨befW G (wid L) 3840, cntW G 3840 3968, cntW G 0 3968, cmpi .slt (broadcast S16 30#32) (broadcast S16 (widW L)), 0#32⟩⌝ ∗ TS d L G (cntW G 3840 3968) R S P) := by
  rw [k0_part25_eq_skeleton]
  refine count16 hG (by decide) (fun _ h => h) ?_
  refine load_tmp (clear_tmp 3840 rfl ?_)
  iterate 8 refine count16 hG (by decide) (fun _ h => h) ?_
  refine load_tmp ?_
  refine ret_five (addi_befW 29 (by decide) rfl rfl)
    ((congrArg (addi · _) (addi_cntW (by decide) (by decide))).trans (addi_cntW (by decide) (by decide))) rfl

/-- Part 26: the last chunk counted; the starts stored; where the task's own tokens go next returned. -/
theorem part26 (hG : GoalsOk G) :
    TS d L G (cntW G 3840 3968) R S P ⊢ tileWp d L (atArgs L (k0_part26 (F := F)) (widW L) k0_pay1 (befW G (wid L) 3840) (cntW G 3840 3968)
        (cntW G 0 3968) (cmpi .slt (broadcast S16 30#32) (broadcast S16 (widW L))) 0#32)
      fun r => iprop(⌜r = runW G (128 * wid L)⌝ ∗ TS d L G (cntW G 3968 4096) R (startW G) P) := by
  have e : k0_pay91 (F := F) (cntW G 0 3968) (cntW G 3968 4096) = startW G := by
    unfold k0_pay91
    simp only [addi_cntW (G := G) (show 0 ≤ 3968 by decide) (show 3968 ≤ 4096 by decide)]
    exact scan_totals
  rw [k0_part26_eq_skeleton]
  refine clear_tmp 3968 rfl ?_
  iterate 8 refine count16 hG (by decide) (fun _ h => h) ?_
  refine load_tmp (load_seg (store_seg ?_))
  rw [show k0_pay91 (F := F) (cntW G 0 3968) (cntW G 3968 (3968 + 16 + 16 + 16 + 16 + 16 + 16 + 16 + 16)) = startW G from e]
  refine ret_step ?_
  iintro H
  isplit
  · ipureintro
    unfold k0_pay92
    refine (congrArg (addi · _) e).trans (Eq.trans (congrArg (addi _) ?_) (addi_start_bef (wid_lt L)))
    exact (congrArg (addi · _) (addi_befW 30 (by decide) rfl rfl)).trans (addi_befW 31 (by decide) rfl rfl)
  · iexact H

end Cert.Proof

end
-- ==== Proof.Copies.lean ====
/-
  A task's transfers, each issued and at once waited for, as steps `pre ⊢ wp (issue; wait; rest) Q` from
  `pre' ⊢ wp rest Q`: a plain copy, a gather of rows by a list, a scatter of rows by a list.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- What a task owes while it runs: `O` throughout, under which it may wait on any cell of its own, its waits so far
    the ones it began with and some of its own. -/
def Owe (t : Thread nD τ) (O : CellTallies nD τ sig (HIx 2)) (W : Waits sig (HIx 2)) : sProp 𝕄 :=
  iprop(Transfers.MayWaits t (default : HIx 2) O ∗ ∃ W', ⌜∀ p ∈ W', p ∈ W ∨ p.2 = none⌝ ∗ owes t O W')

section

variable {d : Dev nD} {c : Fin τ.nSC} {j : Fin τ.nSub} {O : CellTallies nD τ sig (HIx 2)} {W : Waits sig (HIx 2)}
variable {α : Type} {Q : α → sProp (MT nD τ sig (HIx 2) (Elt F) ℕ UU ℕ)} {Fr : sProp (MT nD τ sig (HIx 2) (Elt F) ℕ UU ℕ)}
variable {sp sp' : Space} {s s₀ si : Shape} {e : EltTy} {sem : DmaSem sig}
variable {k : PUnit → Prog (TpuEff nD τ sig (Elt F) Λ₀ (.scVector c j)) α}

/-- One wait more. -/
theorem waits_insert {W W' : Waits sig (HIx 2)} (h : ∀ p ∈ W', p ∈ W ∨ p.2 = none) (sl : SemLoc sig) :
    ∀ p ∈ insert (sl, (default : HIx 2)) W', p ∈ W ∨ p.2 = none := by
  intro p hp
  rcases Finset.mem_insert.mp hp with hp | hp
  · exact .inr (hp ▸ rfl)
  · exact h p hp

/-- The wait on a transfer in flight: what it delivers, and its cell at zero. -/
theorem wait_step {D : sProp 𝕄} {N : ℕ} {s' : Shape} {e' : EltTy} {srcw : Memref sig .scVector sp s' e'} {dstw : Memref sig .scVector sp' s e}
    {h1 h2} (hN : dstw.view.dmaCredit = N)
    (h : iprop(Owe (V d c j) O W ∗ D ∗ semVal (V d c j, SemLoc.dma sem) 0 ∗ Fr) ⊢ wp frame (wpE (defs₀ (F := F)) 𝒱₀ (V d c j) none) Set.univ (k ⟨⟩) Q) :
    iprop(Owe (V d c j) O W ∗ Transfers.Flight countersEmb (V d c j) (.dma sem) (default : HIx 2) N D ∗ Fr)
      ⊢ wp frame (wpE (defs₀ (F := F)) 𝒱₀ (V d c j) none) Set.univ (Prog.lift (.waitDma2 sem srcw dstw h1 h2) >>= k) Q := by
  unfold Owe at h ⊢
  iintro ⟨⟨#Hmw, %W', %hW', HO⟩, Hfl, HF⟩
  iapply (Transfers.wp_waitLocalO countersEmb 𝒱₀ (V d c j) none (default : HIx 2) hN) $$ [Hfl HO]
  · isplitl [Hfl]; · iexact Hfl
    isplitl [HO]; · iexact HO
    iapply (Transfers.MayWaits.elim (SemLoc.dma sem)) $$ Hmw
  iintro ⟨HD, Hv, HO⟩
  iapply h
  isplitl [HO]
  · isplitr; · iexact Hmw
    iexists (insert (SemLoc.dma sem, (default : HIx 2)) W'); isplitr
    · ipureintro; exact waits_insert hW' (SemLoc.dma sem)
    · iexact HO
  isplitl [HD]; · iexact HD
  isplitl [Hv]; · iexact Hv
  iexact HF

/-- A copy, issued and waited for: the destination holds what the source reads as. -/
theorem copy_step {src : Memref sig .scVector sp s e} {dst : Memref sig .scVector sp' s e} {sp₁ sp₂ : Space} {s' : Shape} {e' : EltTy}
    {srcw : Memref sig .scVector sp₁ s' e'} {dstw : Memref sig .scVector sp₂ s e} {h1 h2 h3 h4 h5} {q : PosShare TreeShare}
    {fs : Buf (Elt F) (src.view.loc (V d c j))} {fd : Buf (Elt F) (dst.view.loc (V d c j))}
    (hN : dstw.view.dmaCredit = dst.view.dmaCredit) (hN0 : 0 < dst.view.dmaCredit)
    (h : iprop(Owe (V d c j) O W
        ∗ ((dst.view.loc (V d c j) ↦[dst.view.set]{fullShare} (dst.view.write (Elt F) fd (src.view.read (Elt F) fs) Finset.univ))
          ∗ (src.view.loc (V d c j) ↦[src.view.set]{q} fs))
        ∗ semVal (V d c j, SemLoc.dma sem) 0 ∗ Fr) ⊢ wp frame (wpE (defs₀ (F := F)) 𝒱₀ (V d c j) none) Set.univ (k ⟨⟩) Q) :
    iprop(Owe (V d c j) O W
        ∗ ((dst.view.loc (V d c j) ↦[dst.view.set]{fullShare} fd) ∗ (src.view.loc (V d c j) ↦[src.view.set]{q} fs))
        ∗ semVal (V d c j, SemLoc.dma sem) 0 ∗ Fr)
      ⊢ wp frame (wpE (defs₀ (F := F)) 𝒱₀ (V d c j) none) Set.univ
          (Prog.lift (.enqueueDma src (.here dst) (.dma sem) h1 h2 h3) >>= fun _ => Prog.lift (.waitDma2 sem srcw dstw h4 h5) >>= k) Q := by
  iintro ⟨HO, ⟨Hd, Hs⟩, Hv, HF⟩
  iapply (Transfers.wp_dmaLocal countersEmb 𝒱₀ (V d c j) none (default : HIx 2) dst.view.dmaCredit rfl hN0 (Finset.Subset.refl _)) $$ [Hd Hs Hv]
  · isplitl [Hs]; · iexact Hs
    isplitl [Hd]; · iexact Hd
    iexact Hv
  iintro Hfl
  iapply (wait_step hN h)
  isplitl [HO]; · iexact HO
  isplitl [Hfl]; · iexact Hfl
  iexact HF

/-- A copy, with the destination's new contents named. -/
theorem copy_to {src : Memref sig .scVector sp s e} {dst : Memref sig .scVector sp' s e} {sp₁ sp₂ : Space} {s' : Shape} {e' : EltTy}
    {srcw : Memref sig .scVector sp₁ s' e'} {dstw : Memref sig .scVector sp₂ s e} {h1 h2 h3 h4 h5} {q : PosShare TreeShare}
    {fs : Buf (Elt F) (src.view.loc (V d c j))} {fd : Buf (Elt F) (dst.view.loc (V d c j))}
    (hN : dstw.view.dmaCredit = dst.view.dmaCredit) (hN0 : 0 < dst.view.dmaCredit)
    {Sd : Finset (dst.view.loc (V d c j)).ty.shape.Idx} {Ss : Finset (src.view.loc (V d c j)).ty.shape.Idx}
    (hSd : dst.view.set = Sd) (hSs : src.view.set = Ss) (fd' : Buf (Elt F) (dst.view.loc (V d c j)))
    (hfd : ∀ i ∈ Sd, dst.view.write (Elt F) fd (src.view.read (Elt F) fs) Finset.univ i = fd' i)
    (h : iprop(Owe (V d c j) O W
        ∗ ((dst.view.loc (V d c j) ↦[Sd]{fullShare} fd') ∗ (src.view.loc (V d c j) ↦[Ss]{q} fs))
        ∗ semVal (V d c j, SemLoc.dma sem) 0 ∗ Fr) ⊢ wp frame (wpE (defs₀ (F := F)) 𝒱₀ (V d c j) none) Set.univ (k ⟨⟩) Q) :
    iprop(Owe (V d c j) O W
        ∗ ((dst.view.loc (V d c j) ↦[Sd]{fullShare} fd) ∗ (src.view.loc (V d c j) ↦[Ss]{q} fs))
        ∗ semVal (V d c j, SemLoc.dma sem) 0 ∗ Fr)
      ⊢ wp frame (wpE (defs₀ (F := F)) 𝒱₀ (V d c j) none) Set.univ
          (Prog.lift (.enqueueDma src (.here dst) (.dma sem) h1 h2 h3) >>= fun _ => Prog.lift (.waitDma2 sem srcw dstw h4 h5) >>= k) Q := by
  subst hSd hSs
  refine copy_step hN hN0 ?_
  rw [show (dst.view.loc (V d c j) ↦[dst.view.set]{fullShare} (dst.view.write (Elt F) fd (src.view.read (Elt F) fs) Finset.univ) : sProp 𝕄)
    = (dst.view.loc (V d c j) ↦[dst.view.set]{fullShare} fd') from pointsTo_congr hfd]
  exact h

/-- A gather of rows, issued and waited for: row `x` of the destination is the source's row the list's word `x` names. -/
theorem gather_step {a : ℕ} {src : Memref sig .scVector sp s₀ e} {dst : Memref sig .scVector .vmem s e} {hg : s₀.Gathers a s}
    {offs : Memref sig .scVector .vmem si .i32} {hn : si.numel = s.size hg.axis'} {sp₁ : Space} {s' : Shape} {e' : EltTy}
    {srcw : Memref sig .scVector sp₁ s' e'} {hp hsrc he hsp hr h4 h5} {q qo : PosShare TreeShare}
    {fs : Buf (Elt F) (src.view.loc (V d c j))} {fd : Buf (Elt F) (dst.view.loc (V d c j))} {fo : Buf (Elt F) (offs.view.loc (V d c j))}
    (hN : ∑ x, (dst.slice (s.rowRect hg.axis' x) (s.stride_rowRect hg.axis' x)).view.dmaCredit = dst.view.dmaCredit) (hs : 0 < s.numel)
    (hin : ∀ x, (offs.view.read (Elt F) fo x).toNat < s₀.size hg.axis)
    (h : iprop(Owe (V d c j) O W
        ∗ ((dst.view.loc (V d c j) ↦[dst.view.set]{fullShare} (dst.view.write (Elt F) fd
              (SparseCore.gatherPayload hg (src.view.read (Elt F) fs) (SparseCore.rows (offs.view.read (Elt F) fo) hn hin)) Finset.univ))
          ∗ (src.view.loc (V d c j) ↦[src.view.set]{q} fs) ∗ (offs.view.loc (V d c j) ↦[offs.view.set]{qo} fo))
        ∗ semVal (V d c j, SemLoc.dma sem) 0 ∗ Fr) ⊢ wp frame (wpE (defs₀ (F := F)) 𝒱₀ (V d c j) none) Set.univ (k ⟨⟩) Q) :
    iprop(Owe (V d c j) O W
        ∗ ((dst.view.loc (V d c j) ↦[dst.view.set]{fullShare} fd)
          ∗ (src.view.loc (V d c j) ↦[src.view.set]{q} fs) ∗ (offs.view.loc (V d c j) ↦[offs.view.set]{qo} fo))
        ∗ semVal (V d c j, SemLoc.dma sem) 0 ∗ Fr)
      ⊢ wp frame (wpE (defs₀ (F := F)) 𝒱₀ (V d c j) none) Set.univ
          (SparseCore.enqueueIndirectGather hp src dst hg offs hn sem hsrc he hsp hr >>= fun _ =>
            SparseCore.waitIndirectGather sem srcw dst h4 h5 >>= k) Q := by
  iintro ⟨HO, ⟨Hd, Hs, Ho⟩, Hv, HF⟩
  iapply (SparseCore.wp_indirectGatherLocal countersEmb 𝒱₀ (V d c j) none (hg := hg) (default : HIx 2) dst.view.dmaCredit hN hs hin) $$ [Hd Hs Ho Hv]
  · isplitl [Hs]; · iexact Hs
    isplitl [Hd]; · iexact Hd
    isplitl [Ho]; · iexact Ho
    iexact Hv
  iintro Hfl
  iapply (wait_step (srcw := srcw) (dstw := dst) (h1 := h4) (h2 := h5) rfl h)
  isplitl [HO]; · iexact HO
  isplitl [Hfl]; · iexact Hfl
  iexact HF

/-- A scatter of rows, issued and waited for: the row of the target each word of the list names is the source's row. -/
theorem scatter_step {a : ℕ} {src : Memref sig .scVector .vmem s e} {dst : Memref sig .scVector sp s₀ e} {hg : s₀.Gathers a s}
    {offs : Memref sig .scVector .vmem si .i32} {hn : si.numel = s.size hg.axis'} {sp₁ : Space} {s' : Shape} {e' : EltTy}
    {dstw : Memref sig .scVector sp₁ s' e'} {hp he hsp hr h4 h5} {q qo : PosShare TreeShare}
    {fs : Buf (Elt F) (src.view.loc (V d c j))} {fd : Buf (Elt F) (dst.view.loc (V d c j))} {fo : Buf (Elt F) (offs.view.loc (V d c j))}
    (hs : 0 < s.numel) (hin : ∀ x, (offs.view.read (Elt F) fo x).toNat < s₀.size hg.axis)
    (hinj : Function.Injective (SparseCore.rows (offs.view.read (Elt F) fo) hn hin))
    (hN : ∑ x, (dst.slice (s₀.rowRect hg.axis (SparseCore.rows (offs.view.read (Elt F) fo) hn hin x)) (s₀.stride_rowRect hg.axis _)).view.dmaCredit
      = src.view.dmaCredit)
    (h : iprop(Owe (V d c j) O W
        ∗ ((dst.view.loc (V d c j) ↦[SparseCore.namedRows (V d c j) dst.view hg.axis (SparseCore.rows (offs.view.read (Elt F) fo) hn hin)]{fullShare}
              (SparseCore.scatterBuf (V d c j) dst.view hg.axis (SparseCore.rows (offs.view.read (Elt F) fo) hn hin)
                (SparseCore.scatterRowPayload (V d c j) src hg fs) fd))
          ∗ (src.view.loc (V d c j) ↦[src.view.set]{q} fs) ∗ (offs.view.loc (V d c j) ↦[offs.view.set]{qo} fo))
        ∗ semVal (V d c j, SemLoc.dma sem) 0 ∗ Fr) ⊢ wp frame (wpE (defs₀ (F := F)) 𝒱₀ (V d c j) none) Set.univ (k ⟨⟩) Q) :
    iprop(Owe (V d c j) O W
        ∗ ((dst.view.loc (V d c j) ↦[SparseCore.namedRows (V d c j) dst.view hg.axis (SparseCore.rows (offs.view.read (Elt F) fo) hn hin)]{fullShare} fd)
          ∗ (src.view.loc (V d c j) ↦[src.view.set]{q} fs) ∗ (offs.view.loc (V d c j) ↦[offs.view.set]{qo} fo))
        ∗ semVal (V d c j, SemLoc.dma sem) 0 ∗ Fr)
      ⊢ wp frame (wpE (defs₀ (F := F)) 𝒱₀ (V d c j) none) Set.univ
          (SparseCore.enqueueIndirectScatter hp src dst hg offs hn sem he hsp hr >>= fun _ =>
            SparseCore.waitIndirectScatter sem src dstw h4 h5 >>= k) Q := by
  iintro ⟨HO, ⟨Hd, Hs, Ho⟩, Hv, HF⟩
  iapply (SparseCore.wp_indirectScatterLocal countersEmb 𝒱₀ (V d c j) none (hg := hg) (default : HIx 2) src.view.dmaCredit hs hin hinj hN)
    $$ [Hd Hs Ho Hv]
  · isplitl [Hs]; · iexact Hs
    isplitl [Hd]; · iexact Hd
    isplitl [Ho]; · iexact Ho
    iexact Hv
  iintro Hfl
  iapply (wait_step (srcw := dstw) (dstw := src) (h1 := h5) (h2 := h4) rfl h)
  isplitl [HO]; · iexact HO
  isplitl [Hfl]; · iexact Hfl
  iexact HF

/-- A scatter of rows, with the rows of the target it writes and their new contents named, the source and the list held whole. -/
theorem scatter_to {a : ℕ} {src : Memref sig .scVector .vmem s e} {dst : Memref sig .scVector sp s₀ e} {hg : s₀.Gathers a s}
    {offs : Memref sig .scVector .vmem si .i32} {hn : si.numel = s.size hg.axis'} {sp₁ : Space} {s' : Shape} {e' : EltTy}
    {dstw : Memref sig .scVector sp₁ s' e'} {hp he hsp hr h4 h5} {q qo : PosShare TreeShare}
    {fs : Buf (Elt F) (src.view.loc (V d c j))} {fd : Buf (Elt F) (dst.view.loc (V d c j))} {fo : Buf (Elt F) (offs.view.loc (V d c j))}
    (hs : 0 < s.numel) (hin : ∀ x, (offs.view.read (Elt F) fo x).toNat < s₀.size hg.axis)
    (hinj : Function.Injective (SparseCore.rows (offs.view.read (Elt F) fo) hn hin))
    (hN : ∑ x, (dst.slice (s₀.rowRect hg.axis (SparseCore.rows (offs.view.read (Elt F) fo) hn hin x)) (s₀.stride_rowRect hg.axis _)).view.dmaCredit
      = src.view.dmaCredit)
    {Sd : Finset (dst.view.loc (V d c j)).ty.shape.Idx} {Ss : Finset (src.view.loc (V d c j)).ty.shape.Idx}
    {So : Finset (offs.view.loc (V d c j)).ty.shape.Idx}
    (hSd : SparseCore.namedRows (V d c j) dst.view hg.axis (SparseCore.rows (offs.view.read (Elt F) fo) hn hin) = Sd)
    (hSs : src.view.set = Ss) (hSo : offs.view.set = So) (fd' : Buf (Elt F) (dst.view.loc (V d c j)))
    (hfd : ∀ i ∈ Sd, SparseCore.scatterBuf (V d c j) dst.view hg.axis (SparseCore.rows (offs.view.read (Elt F) fo) hn hin)
      (SparseCore.scatterRowPayload (V d c j) src hg fs) fd i = fd' i)
    (h : iprop(Owe (V d c j) O W
        ∗ ((dst.view.loc (V d c j) ↦[Sd]{fullShare} fd') ∗ (src.view.loc (V d c j) ↦[Ss]{q} fs) ∗ (offs.view.loc (V d c j) ↦[So]{qo} fo))
        ∗ semVal (V d c j, SemLoc.dma sem) 0 ∗ Fr) ⊢ wp frame (wpE (defs₀ (F := F)) 𝒱₀ (V d c j) none) Set.univ (k ⟨⟩) Q) :
    iprop(Owe (V d c j) O W
        ∗ ((dst.view.loc (V d c j) ↦[Sd]{fullShare} fd) ∗ (src.view.loc (V d c j) ↦[Ss]{q} fs) ∗ (offs.view.loc (V d c j) ↦[So]{qo} fo))
        ∗ semVal (V d c j, SemLoc.dma sem) 0 ∗ Fr)
      ⊢ wp frame (wpE (defs₀ (F := F)) 𝒱₀ (V d c j) none) Set.univ
          (SparseCore.enqueueIndirectScatter hp src dst hg offs hn sem he hsp hr >>= fun _ =>
            SparseCore.waitIndirectScatter sem src dstw h4 h5 >>= k) Q := by
  subst hSd hSs hSo
  refine scatter_step hs hin hinj hN ?_
  rw [show (dst.view.loc (V d c j) ↦[SparseCore.namedRows (V d c j) dst.view hg.axis (SparseCore.rows (offs.view.read (Elt F) fo) hn hin)]{fullShare}
        (SparseCore.scatterBuf (V d c j) dst.view hg.axis (SparseCore.rows (offs.view.read (Elt F) fo) hn hin)
          (SparseCore.scatterRowPayload (V d c j) src hg fs) fd) : sProp 𝕄)
    = (dst.view.loc (V d c j) ↦[SparseCore.namedRows (V d c j) dst.view hg.axis (SparseCore.rows (offs.view.read (Elt F) fo) hn hin)]{fullShare} fd')
      from pointsTo_congr hfd]
  exact h

/-- A gather of rows, with the destination's new contents named. -/
theorem gather_to {a : ℕ} {src : Memref sig .scVector sp s₀ e} {dst : Memref sig .scVector .vmem s e} {hg : s₀.Gathers a s}
    {offs : Memref sig .scVector .vmem si .i32} {hn : si.numel = s.size hg.axis'} {sp₁ : Space} {s' : Shape} {e' : EltTy}
    {srcw : Memref sig .scVector sp₁ s' e'} {hp hsrc he hsp hr h4 h5} {q qo : PosShare TreeShare}
    {fs : Buf (Elt F) (src.view.loc (V d c j))} {fd : Buf (Elt F) (dst.view.loc (V d c j))} {fo : Buf (Elt F) (offs.view.loc (V d c j))}
    (hN : ∑ x, (dst.slice (s.rowRect hg.axis' x) (s.stride_rowRect hg.axis' x)).view.dmaCredit = dst.view.dmaCredit) (hs : 0 < s.numel)
    (hin : ∀ x, (offs.view.read (Elt F) fo x).toNat < s₀.size hg.axis)
    {Sd : Finset (dst.view.loc (V d c j)).ty.shape.Idx} {Ss : Finset (src.view.loc (V d c j)).ty.shape.Idx}
    {So : Finset (offs.view.loc (V d c j)).ty.shape.Idx}
    (hSd : dst.view.set = Sd) (hSs : src.view.set = Ss) (hSo : offs.view.set = So) (fd' : Buf (Elt F) (dst.view.loc (V d c j)))
    (hfd : ∀ i ∈ Sd, dst.view.write (Elt F) fd
      (SparseCore.gatherPayload hg (src.view.read (Elt F) fs) (SparseCore.rows (offs.view.read (Elt F) fo) hn hin)) Finset.univ i = fd' i)
    (h : iprop(Owe (V d c j) O W
        ∗ ((dst.view.loc (V d c j) ↦[Sd]{fullShare} fd') ∗ (src.view.loc (V d c j) ↦[Ss]{q} fs) ∗ (offs.view.loc (V d c j) ↦[So]{qo} fo))
        ∗ semVal (V d c j, SemLoc.dma sem) 0 ∗ Fr) ⊢ wp frame (wpE (defs₀ (F := F)) 𝒱₀ (V d c j) none) Set.univ (k ⟨⟩) Q) :
    iprop(Owe (V d c j) O W
        ∗ ((dst.view.loc (V d c j) ↦[Sd]{fullShare} fd) ∗ (src.view.loc (V d c j) ↦[Ss]{q} fs) ∗ (offs.view.loc (V d c j) ↦[So]{qo} fo))
        ∗ semVal (V d c j, SemLoc.dma sem) 0 ∗ Fr)
      ⊢ wp frame (wpE (defs₀ (F := F)) 𝒱₀ (V d c j) none) Set.univ
          (SparseCore.enqueueIndirectGather hp src dst hg offs hn sem hsrc he hsp hr >>= fun _ =>
            SparseCore.waitIndirectGather sem srcw dst h4 h5 >>= k) Q := by
  subst hSd hSs hSo
  refine gather_step hN hs hin ?_
  rw [show (dst.view.loc (V d c j) ↦[dst.view.set]{fullShare} (dst.view.write (Elt F) fd
        (SparseCore.gatherPayload hg (src.view.read (Elt F) fs) (SparseCore.rows (offs.view.read (Elt F) fo) hn hin)) Finset.univ) : sProp 𝕄)
    = (dst.view.loc (V d c j) ↦[dst.view.set]{fullShare} fd') from pointsTo_congr hfd]
  exact h

end

end Cert.Proof

end
-- ==== Proof.Positions.lean ====
/-
  The placing half of the first call's task: the task's own 128 tokens, sixteen at a time. Each sixteen's positions are
  read from the next positions and the rank among the sixteen, written into the task's list of positions, and the next
  positions moved past them.
-/
module

public import proofs.«01_k».proof.Proof.Histogram
public import proofs.«01_k».proof.Proof.Copies
public import Idealize.ShloMosaic.Lib.Pipeline.Value

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Counting

variable {F : FTy → Type} [FloatOps F]

local notation "𝕄" => MT nD τ sig (HIx 2) (Elt F) ℕ UU ℕ

variable {d : Dev nD} {L : grid0.Coords} {G : S4096.Idx → BitVec 32} {T R S : IVec S16 32} {P : IVec S1x128 32}
variable {α : Type} {Q : α → sProp (MT nD τ sig (HIx 2) (Elt F) ℕ UU ℕ)}

/-- The list of positions with its first `k` written: those of the tokens from `o` on. -/
def posUpto (G : S4096.Idx → BitVec 32) (o k : ℕ) (P : IVec S1x128 32) : IVec S1x128 32 :=
  fun x => if (x 1).val < k then BitVec.ofNat 32 (pos (goalOf G) 4096 (o + (x 1).val)) else P x

/-- Before the first group no position is written. -/
theorem posUpto_zero (o : ℕ) : posUpto G o 0 P = P := by
  funext x; exact if_neg (Nat.not_lt_zero _)

/-- Sixteen positions more, written where they go. -/
theorem write_pos (o k : ℕ) {off : Fin 2 → ℕ} (hoff : off = ![0, k]) (inb : ∀ a, off a + S1x16.size a ≤ S1x128.size a)
    (hc : S16.ShapeCasts S1x16) :
    (posV.access (Rect.unit (s := S1x128) off S1x16.size inb)).write (Elt F) (posUpto G o k P)
        (shapeCast S1x16 (posAt G (o + k)) hc) Finset.univ = posUpto G o (k + 16) P := by
  subst hoff
  have hk : k + 16 ≤ 128 := inb 1
  funext x
  have hx0 : (x 0).val < 1 := (x 0).isLt
  have hx1 : (x 1).val < 128 := (x 1).isLt
  by_cases h : k ≤ (x 1).val ∧ (x 1).val < k + 16
  · obtain ⟨y, hy⟩ : ∃ y : S1x16.Idx, (posV.access (Rect.unit (s := S1x128) ![0, k] S1x16.size inb)).emb y = x := by
      refine ⟨fun a => ⟨if a = 0 then 0 else (x 1).val - k, ?_⟩, ?_⟩
      · fin_cases a
        · show 0 < 1; decide
        · show (x 1).val - k < 16; omega
      · funext a; fin_cases a
        · exact Fin.ext (show 0 + 1 * 0 = (x 0).val by omega)
        · exact Fin.ext (show k + 1 * ((x 1).val - k) = (x 1).val by omega)
    have hy1 : (y 1).val = (x 1).val - k := by
      have : k + 1 * (y 1).val = (x 1).val := congrArg (fun z : S1x128.Idx => (z 1).val) hy
      omega
    rw [← hy]
    refine (View.write_emb_of_mem _ _ (Finset.mem_univ y)).trans ((cast_eq _ _).trans ?_)
    rw [hy]
    refine (shapeCast_addUnit_apply ![16] (posAt G (o + k)) hc y).trans ?_
    refine Eq.trans ?_ (if_pos h.2).symm
    show BitVec.ofNat 32 (pos (goalOf G) 4096 (o + k + (y 1).val)) = _
    rw [hy1, show o + k + ((x 1).val - k) = o + (x 1).val by omega]
  · refine (View.write_of_not_mem _ _ _ ?_).trans ?_
    · intro hm
      obtain ⟨y, -, hy⟩ := Finset.mem_map.mp hm
      have hy' : k + 1 * (y 1).val = (x 1).val := congrArg (fun z : S1x128.Idx => (z 1).val) hy
      have : (y 1).val < 16 := (y 1).isLt
      omega
    · unfold posUpto
      by_cases h' : (x 1).val < k
      · rw [if_pos h', if_pos (by omega)]
      · rw [if_neg h', if_neg (by omega)]

/-- Sixteen positions loaded (to no use), then overwritten. -/
theorem put_pos (o k : ℕ) {inb : ∀ a, (![0, k] : Fin 2 → ℕ) a + S1x16.size a ≤ S1x128.size a} {hl hx hm} {w : IVec S16 32} {hc : S16.ShapeCasts S1x16}
    {kk : PUnit → TProg F L α} (hw : w = posAt G (o + k)) (h : TS d L G T R S (posUpto G o (k + 16) P) ⊢ tileWp d L (kk ⟨⟩) Q) :
    TS d L G T R S (posUpto G o k P) ⊢ tileWp d L
      (Prog.lift (.load posV (Rect.unit (s := S1x128) ![0, k] S1x16.size inb).toLoadRect hl) >>= fun _ : Vec F S1x16 .i32 =>
        Prog.lift (.store posV (Rect.unit (s := S1x128) ![0, k] S1x16.size inb) (shapeCast S1x16 w hc) Finset.univ hx hm) >>= kk) Q := by
  subst hw
  unfold TS at h ⊢
  iintro ⟨HG, HT, HR, HS, HP⟩
  iapply (wp_load_rect (defs := defs₀ (F := F)) 𝒱₀ (V d (cV L) (jV L)) none Set.univ (m := posV)
    (r := Rect.unit (s := S1x128) ![0, k] S1x16.size inb) (hl := hl) (q := fullShare) (f := posUpto G o k P) (Finset.subset_univ _)) $$ HP
  iintro HP
  iapply (wp_store (defs := defs₀ (F := F)) 𝒱₀ (V d (cV L) (jV L)) none Set.univ (m := posV)
    (r := Rect.unit (s := S1x128) ![0, k] S1x16.size inb) (w := shapeCast S1x16 (posAt G (o + k)) hc) (Mk := Finset.univ) (hx := hx) (hm := hm)
    (f := posUpto G o k P) (Finset.subset_univ _)) $$ HP
  rw [write_pos (F := F) o k rfl inb hc]
  iintro HP
  iapply h
  isplitl [HG]; · iexact HG
  isplitl [HT]; · iexact HT
  isplitl [HR]; · iexact HR
  isplitl [HS]; · iexact HS
  iexact HP

/-- The next positions moved past sixteen tokens. -/
theorem advance (o : ℕ) {ones : IVec S16 32} (h1 : ones = fun _ => 1#32) {hi hs} {k : PUnit → TProg F L α}
    (h : TS d L G T (runW G (o + 16)) S P ⊢ tileWp d L (k ⟨⟩) Q) :
    TS d L G T (runW G o) S P ⊢ tileWp d L (SparseCore.vectorStoreIdx runV ![goalsAt G o] ones (fun _ => 1#1) true hi hs >>= k) Q := by
  refine scatter_run ?_
  rw [storeIdx_run ones h1]
  exact h

/-- Where the task's tokens begin, with an offset. -/
theorem own_off (n : ℕ) : (![256 * (L 1).val + 128 * (L 0).val + n] : Fin 1 → ℕ) = ![128 * wid L + n] := by
  rw [show 256 * (L 1).val + 128 * (L 0).val = 128 * wid L by unfold wid; omega]

/-- A task's tokens are among the tokens. -/
theorem own_le : 128 * wid L + 128 ≤ 4096 := by have := wid_lt L; omega

/-! ## Framing -/

variable {β : Type}

/-- A statement's step, with more held beside it. -/
theorem framed {p : TProg F L β} {k : β → TProg F L α} {A A' Fr : sProp 𝕄} {v : β}
    (hstep : A ⊢ tileWp d L (p >>= Pure.pure) fun r => iprop(⌜r = v⌝ ∗ A')) (h : iprop(A' ∗ Fr) ⊢ tileWp d L (k v) Q) :
    iprop(A ∗ Fr) ⊢ tileWp d L (p >>= k) Q := by
  show _ ⊢ wp frame (wpE (defs₀ (F := F)) 𝒱₀ (V d (cV L) (jV L)) none) Set.univ (p >>= k) Q
  rw [wp_bind]
  replace hstep : A ⊢ wp frame (wpE (defs₀ (F := F)) 𝒱₀ (V d (cV L) (jV L)) none) Set.univ (p >>= Pure.pure) fun r => iprop(⌜r = v⌝ ∗ A') := hstep
  rw [wp_bind] at hstep
  refine (sep_mono_l hstep).trans ((wp_frame_r _ _ _).trans ?_)
  refine wp_mono _ _ _ fun a => ?_
  show iprop((|={Set.univ}[frame]=> (⌜a = v⌝ ∗ A')) ∗ Fr) ⊢ _
  refine (fupd_frame_right).trans (wp_of_fupd _ _ _ .rfl ?_)
  iintro ⟨⟨%e, HA⟩, HF⟩
  subst e
  iapply h
  isplitl [HA]; · iexact HA
  iexact HF

/-- A part that leaves a known result, run with more held beside it. -/
theorem run_part {p : TProg F L β} {k : β → TProg F L α} {A A' Fr : sProp 𝕄} {v : β}
    (hp : A ⊢ tileWp d L p fun r => iprop(⌜r = v⌝ ∗ A')) (h : iprop(A' ∗ Fr) ⊢ tileWp d L (k v) Q) :
    iprop(A ∗ Fr) ⊢ tileWp d L (p >>= k) Q := by
  show _ ⊢ wp frame (wpE (defs₀ (F := F)) 𝒱₀ (V d (cV L) (jV L)) none) Set.univ (p >>= k) Q
  rw [wp_bind]
  refine (sep_mono_l hp).trans ((wp_frame_r _ _ _).trans ?_)
  refine wp_mono _ _ _ fun a => ?_
  iintro ⟨⟨%e, HA⟩, HF⟩
  subst e
  iapply h
  isplitl [HA]; · iexact HA
  iexact HF

/-- A program that ends here, run with more held beside it. -/
theorem frame_out {p : TProg F L α} {A Fr : sProp 𝕄} {Q' : α → sProp 𝕄} (hp : A ⊢ tileWp d L p Q') (h : ∀ r, iprop(Q' r ∗ Fr) ⊢ Q r) :
    iprop(A ∗ Fr) ⊢ tileWp d L p Q :=
  (sep_mono_l hp).trans ((wp_frame_r _ _ _).trans (wp_mono _ _ _ h))

/-- A part that leaves a known result proves its post. -/
theorem ret_known {A : sProp 𝕄} {v w : α} (h : v = w) : A ⊢ tileWp d L (Pure.pure v) fun r => iprop(⌜r = w⌝ ∗ A) :=
  ret_step (by iintro H; isplit; · ipureintro; exact h
               iexact H)

/-! ## The parts -/

/-- The starts' word list in the main memory, which the first task alone writes. -/
def SegOut (d : Dev nD) (L : grid0.Coords) (f : IVec S16 32) : sProp 𝕄 :=
  if wid L = 0 then iprop((V d (cV L) (jV L)).loc main_v1_2_scv ↦{fullShare} (f : Buf (Elt F) ((V d (cV L) (jV L)).loc main_v1_2_scv))) else iprop(emp)

/-- The kernel's test for the first task. -/
theorem is_first (L : grid0.Coords) :
    Scalar.cmpi .ne (Scalar.extui (Scalar.cmpi .eq (widW L) 0#32) : BitVec 32) 0#32 = 1#1 ↔ wid L = 0 := by
  have h : widW L = 0#32 ↔ wid L = 0 := by
    rw [← widW_toNat]; exact ⟨fun h => by rw [h]; rfl, fun h => BitVec.eq_of_toNat_eq h⟩
  simp only [Scalar.cmpi, Scalar.extui, IntOp.cmpi]
  by_cases hw : wid L = 0
  · rw [h.mpr hw]; simp [hw]
  · have h' : (widW L == 0#32) = false := by simpa using fun e => hw (h.mp e)
    simp [h', hw]

/-- The first task copies the starts out; the others pass. -/
theorem cond_copy {O : CellTallies nD τ sig (HIx 2)} {W : Waits sig (HIx 2)} {f : IVec S16 32} {b : BitVec 1} (hb : b = 1#1 ↔ wid L = 0)
    {dec : Decidable (b = 1#1)} {h1 h2 h3 h4 h5} {p : TProg F L α}
    (h : iprop(TS d L G T R S P ∗ Owe (V d (cV L) (jV L)) O W ∗ SegOut d L S ∗ semVal (V d (cV L) (jV L), SemLoc.dma cc0_scoped1.sem) 0)
      ⊢ tileWp d L p Q) :
    iprop(TS d L G T R S P ∗ Owe (V d (cV L) (jV L)) O W ∗ SegOut d L f ∗ semVal (V d (cV L) (jV L), SemLoc.dma cc0_scoped1.sem) 0)
      ⊢ tileWp d L (@dite _ (b = 1#1) dec
        (fun _ => Prog.lift (.enqueueDma segV (.here segH) (.dma cc0_scoped1.sem) h1 h2 h3) >>= fun _ =>
          Prog.lift (.waitDma2 cc0_scoped1.sem segV segH h4 h5) >>= fun _ => p)
        (fun _ => p)) Q := by
  unfold SegOut at h ⊢
  by_cases hw : wid L = 0
  · rw [dif_pos (hb.mpr hw), if_pos hw]
    rw [if_pos hw] at h
    unfold TS at h ⊢
    iintro ⟨⟨HG, HT, HR, HS, HP⟩, HO, HF, Hv⟩
    iapply (copy_to (O := O) (W := W) (src := segV) (dst := segH) (q := fullShare) (fs := S) (fd := f) (Fr := iprop(
      ((V d (cV L) (jV L)).loc cc0_scratch0 ↦{fullShare} (G : Buf (Elt F) ((V d (cV L) (jV L)).loc cc0_scratch0)))
        ∗ ((V d (cV L) (jV L)).loc cc0_scratch2 ↦{fullShare} (T : Buf (Elt F) ((V d (cV L) (jV L)).loc cc0_scratch2)))
        ∗ ((V d (cV L) (jV L)).loc cc0_scratch1 ↦{fullShare} (R : Buf (Elt F) ((V d (cV L) (jV L)).loc cc0_scratch1)))
        ∗ ((V d (cV L) (jV L)).loc cc0_scratch4 ↦{fullShare} (P : Buf (Elt F) ((V d (cV L) (jV L)).loc cc0_scratch4)))))
      rfl (by decide) (View.set_whole _) (View.set_whole _) S (fun i _ => congrFun (View.write_whole_univ (Val := Elt F) main_v1_2_scv f _) i) ?_)
    · iintro ⟨HO, ⟨HF, HS⟩, Hv, HG, HT, HR, HP⟩
      iapply h
      isplitl [HG HT HR HS HP]
      · isplitl [HG]; · iexact HG
        isplitl [HT]; · iexact HT
        isplitl [HR]; · iexact HR
        isplitl [HS]; · iexact HS
        iexact HP
      isplitl [HO]; · iexact HO
      isplitl [HF]; · iexact HF
      iexact Hv
    · isplitl [HO]; · iexact HO
      isplitl [HF HS]
      · isplitl [HF]; · iexact HF
        iexact HS
      isplitl [Hv]; · iexact Hv
      isplitl [HG]; · iexact HG
      isplitl [HT]; · iexact HT
      isplitl [HR]; · iexact HR
      iexact HP
  · rw [dif_neg (fun e => hw (hb.mp e)), if_neg hw]
    rw [if_neg hw] at h
    exact h

/-- Part 28: 48 more tokens placed. -/
theorem part28 (hG : GoalsOk G) (v2 : BitVec 32) (hw) (h) :
    TS d L G T (runW G (128 * wid L + 32)) S (posUpto G (128 * wid L) 32 P)
      ⊢ tileWp d L (atArgs L (k0_part28 (F := F)) v2 k0_pay1 (goalsAt G (128 * wid L + 32)) hw
        (scanCount (broadcast S16 1#1) (goalsAt G (128 * wid L + 32))).2
        (loadIdx (F := F) (s := S16) (e := .i32) (runW G (128 * wid L + 32)) ![goalsAt G (128 * wid L + 32)] h))
      fun r => iprop(⌜r = ⟨goalsAt G (128 * wid L + 80), ⟨inb_goals hG _, inb_goals hG _⟩, broadcast S16 1#1⟩⌝
        ∗ TS d L G T (runW G (128 * wid L + 80)) S (posUpto G (128 * wid L) 80 P)) := by
  have ho := own_le (L := L)
  rw [k0_part28_eq_skeleton]
  refine put_pos _ 32 (run_count (F := F) (by omega) _ rfl h) ?_
  refine advance _ rfl ?_
  refine load_goals ((k0_off4_eq L).trans (own_off _)) (assume_step ⟨inb_goals hG _, inb_goals hG _⟩ (gather_run ?_))
  refine put_pos _ 48 (run_count (F := F) (by omega) _ rfl _) ?_
  refine advance _ rfl ?_
  refine load_goals ((k0_off5_eq L).trans (own_off _)) (assume_step ⟨inb_goals hG _, inb_goals hG _⟩ (gather_run ?_))
  refine put_pos _ 64 (run_count (F := F) (by omega) _ rfl _) ?_
  refine advance _ rfl ?_
  refine load_goals ((k0_off6_eq L).trans (own_off _)) (assume_step ⟨inb_goals hG _, inb_goals hG _⟩ ?_)
  exact ret_known rfl

/-- Part 29: the last 48 tokens placed. -/
theorem part29 (hG : GoalsOk G) (v2 : BitVec 32) (hw) :
    TS d L G T (runW G (128 * wid L + 80)) S (posUpto G (128 * wid L) 80 P)
      ⊢ tileWp d L (atArgs L (k0_part29 (F := F)) v2 k0_pay1 (goalsAt G (128 * wid L + 80)) hw (broadcast S16 1#1))
      fun r => iprop(⌜r = ⟨⟩⌝ ∗ TS d L G T (runW G (128 * wid L + 128)) S (posUpto G (128 * wid L) 128 P)) := by
  have ho := own_le (L := L)
  rw [k0_part29_eq_skeleton]
  refine gather_run (put_pos _ 80 (run_count (F := F) (by omega) _ rfl _) ?_)
  refine advance _ rfl ?_
  refine load_goals ((k0_off7_eq L).trans (own_off _)) (assume_step ⟨inb_goals hG _, inb_goals hG _⟩ (gather_run ?_))
  refine put_pos _ 96 (run_count (F := F) (by omega) _ rfl _) ?_
  refine advance _ rfl ?_
  refine load_goals ((k0_off8_eq L).trans (own_off _)) (assume_step ⟨inb_goals hG _, inb_goals hG _⟩ (gather_run ?_))
  refine put_pos _ 112 (run_count (F := F) (by omega) _ rfl _) ?_
  refine advance _ rfl ?_
  exact ret_known rfl

/-- What part 27 leaves for part 28: the third sixteen's goals, ranks and next positions. -/
abbrev left27 (L : grid0.Coords) (hG : GoalsOk G) :
    Σ' (v613 : Vec F S16 .i32) (_ : k0_chk259 v613) (_ : IVec S16 32), Vec F S16 .i32 :=
  ⟨goalsAt G (128 * wid L + 32), ⟨inb_goals hG _, inb_goals hG _⟩, (scanCount (broadcast S16 1#1) (goalsAt G (128 * wid L + 32))).2,
    loadIdx (F := F) (s := S16) (e := .i32) (runW G (128 * wid L + 32)) ![goalsAt G (128 * wid L + 32)] (inb_goals hG _)⟩

/-- Part 27: the first task copies the starts out; 32 tokens placed. -/
theorem part27 (hG : GoalsOk G) (v2 : BitVec 32) {O : CellTallies nD τ sig (HIx 2)} {W : Waits sig (HIx 2)} {f : IVec S16 32} :
    iprop(TS d L G T R (startW G) P ∗ Owe (V d (cV L) (jV L)) O W ∗ SegOut d L f ∗ semVal (V d (cV L) (jV L), SemLoc.dma cc0_scoped1.sem) 0)
      ⊢ tileWp d L (atArgs L (k0_part27 (F := F)) (widW L) v2 k0_pay1 (runW G (128 * wid L)))
      fun r => iprop(⌜r = left27 (F := F) L hG⌝
        ∗ TS d L G T (runW G (128 * wid L + 32)) (startW G) (posUpto G (128 * wid L) 32 P)
        ∗ Owe (V d (cV L) (jV L)) O W ∗ SegOut d L (startW G) ∗ semVal (V d (cV L) (jV L), SemLoc.dma cc0_scoped1.sem) 0) := by
  have ho := own_le (L := L)
  rw [k0_part27_eq_skeleton]
  unfold k0_part27_skel
  refine framed (load_run (ret_known rfl)) (framed (store_run (ret_known rfl)) ?_)
  refine cond_copy (F := F) (is_first L) ?_
  refine frame_out (F := F) (Q' := fun r => iprop(⌜r = left27 (F := F) L hG⌝
    ∗ TS d L G T (runW G (128 * wid L + 32)) (startW G) (posUpto G (128 * wid L) 32 P))) ?_ fun r => ?_
  · rw [← posUpto_zero (G := G) (128 * wid L) (P := P)]
    refine load_goals (F := F) (o := 128 * wid L) ((k0_off1_eq L).trans (own_off (L := L) 0)) (assume_step ⟨inb_goals hG _, inb_goals hG _⟩ (gather_run ?_))
    refine put_pos _ 0 (run_count (F := F) (o := 128 * wid L) (by omega) _ rfl (inb_goals hG _)) ?_
    refine advance _ rfl ?_
    refine load_goals ((k0_off2_eq L).trans (own_off _)) (assume_step ⟨inb_goals hG _, inb_goals hG _⟩ (gather_run ?_))
    refine put_pos _ 16 (run_count (F := F) (by omega) _ rfl _) ?_
    refine advance _ rfl ?_
    refine load_goals ((k0_off3_eq L).trans (own_off _)) (assume_step ⟨inb_goals hG _, inb_goals hG _⟩ (gather_run ?_))
    exact ret_known rfl
  · iintro ⟨⟨%e, HT⟩, HF⟩
    isplitr; · ipureintro; exact e
    isplitl [HT]; · iexact HT
    iexact HF

end Cert.Proof

end
-- ==== Proof.Rows.lean ====
/-
  Which rows of the sorted array a task writes, and what it writes there: each of its 128 tokens' rows at the token's
  position. Together the tasks' rows are all rows, no row two tasks'.
-/
module

public import proofs.«01_k».proof.Proof.Positions

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Cert.Proof.Counting

variable {F : FTy → Type} [FloatOps F]
variable {G : S4096.Idx → BitVec 32} {P : IVec S1x128 32}

/-- Index `x` of a 4096-row array with its row replaced (modulo 4096). -/
def withRow (n : ℕ) (x : S4096x128.Idx) : S4096x128.Idx := fun a => ⟨if a = 0 then n % 4096 else (x a).val, by
  fin_cases a
  · exact Nat.mod_lt _ (by decide)
  · exact (x 1).isLt⟩

/-- The row that is put in. -/
theorem withRow_zero {n : ℕ} (h : n < 4096) (x : S4096x128.Idx) : (withRow n x 0).val = n := Nat.mod_eq_of_lt h

/-- The column that is kept. -/
theorem withRow_one (n : ℕ) (x : S4096x128.Idx) : (withRow n x 1).val = (x 1).val := rfl

/-- Indices of a 4096-row array agree when row and column do. -/
theorem ix_ext {x y : S4096x128.Idx} (h0 : (x 0).val = (y 0).val) (h1 : (x 1).val = (y 1).val) : x = y := by
  funext a; fin_cases a
  · exact Fin.ext h0
  · exact Fin.ext h1

/-- The array sorted by goal: row `p` is the row of the token whose position is `p`. -/
def sortedOf {β : Type} (G : S4096.Idx → BitVec 32) (f : S4096x128.Idx → β) : S4096x128.Idx → β :=
  fun x => f (withRow (tok (goalOf G) 4096 (x 0).val) x)

/-- Every token's position, as words. -/
def posOf (G : S4096.Idx → BitVec 32) : S4096.Idx → BitVec 32 := fun x => BitVec.ofNat 32 (pos (goalOf G) 4096 (x 0).val)

/-- Task `w`'s tokens. -/
def ownToks (w : ℕ) : Finset S4096.Idx := Finset.univ.filter fun x => (x 0).val / 128 = w

/-- Task `w`'s rows of the unsorted array: its tokens'. -/
def ownRows (w : ℕ) : Finset S4096x128.Idx := Finset.univ.filter fun x => (x 0).val / 128 = w

/-- Task `w`'s rows of the sorted array: its tokens' positions. -/
def sortRows (G : S4096.Idx → BitVec 32) (w : ℕ) : Finset S4096x128.Idx :=
  Finset.univ.filter fun x => tok (goalOf G) 4096 (x 0).val / 128 = w

/-- Which tokens are a task's own. -/
theorem mem_ownToks {w : ℕ} {x : S4096.Idx} : x ∈ ownToks w ↔ (x 0).val / 128 = w := by simp [ownToks]
/-- Which rows are a task's own. -/
theorem mem_ownRows {w : ℕ} {x : S4096x128.Idx} : x ∈ ownRows w ↔ (x 0).val / 128 = w := by simp [ownRows]
/-- Which sorted rows are a task's. -/
theorem mem_sortRows {w : ℕ} {x : S4096x128.Idx} : x ∈ sortRows G w ↔ tok (goalOf G) 4096 (x 0).val / 128 = w := by simp [sortRows]

/-! ## The list of positions -/

/-- The task's list of positions, as the flat list a transfer reads. -/
abbrev posL : Memref sig .scVector .vmem S128 .i32 :=
  (posV.slice (Rect.unit (s := S1x128) ![0, 0] S1x128.size inb_S1x128_S1x128_0_0) (fun _ => rfl)).squeeze S128 squeezes_S1x128_S128

/-- The list of positions reads its buffer's columns in order. -/
theorem posL_emb (x : S128.Idx) : (posL.view.emb x (1 : Fin 2)).val = (x 0).val := by
  have h : (posL.view.emb x : S1x128.Idx) = Rect.emb (Rect.unit (s := S1x128) ![0, 0] S1x128.size inb_S1x128_S1x128_0_0)
      (Shape.reshapeEquiv (s := S1x128) (s' := S128) squeezes_S1x128_S128.numel_eq x) := rfl
  rw [h, Shape.reshapeEquiv_cons_one (d := ![128])]
  exact (show 0 + 1 * (x 0).val = (x 0).val by omega)

/-- The whole list, read flat: the positions of tokens `o`, `o + 1`, … -/
theorem read_posL (o : ℕ) (x : S128.Idx) :
    posL.view.read (Elt F) (posUpto G o 128 P) x = BitVec.ofNat 32 (pos (goalOf G) 4096 (o + (x 0).val)) := by
  refine (View.read_apply _ _).trans ((cast_eq _ _).trans ?_)
  have hx : (x 0).val < 128 := (x 0).isLt
  have h := posL_emb x
  refine (if_pos (show (posL.view.emb x (1 : Fin 2)).val < 128 by rw [h]; exact hx)).trans ?_
  rw [h]

/-- A position fits its word. -/
theorem pos_toNat {n : ℕ} (h : n < 4096) : (BitVec.ofNat 32 (pos (goalOf G) 4096 n)).toNat = pos (goalOf G) 4096 n := by
  rw [BitVec.toNat_ofNat]; exact Nat.mod_eq_of_lt (lt_trans (pos_lt _ h) (by decide))

variable {w : ℕ} (hw : w < 32)
include hw

/-- The listed positions are rows of the array. -/
theorem posL_in (x : S128.Idx) :
    (posL.view.read (Elt F) (posUpto G (128 * w) 128 P) x).toNat < S4096x128.size gathers_S4096x128_S128x128.axis := by
  have hx : (x 0).val < 128 := (x 0).isLt
  rw [read_posL, pos_toNat (by omega)]
  exact pos_lt _ (by omega)

/-- The row the list's entry `k` names. -/
theorem rows_posL (k : Fin 128) :
    (SparseCore.rows (posL.view.read (Elt F) (posUpto G (128 * w) 128 P)) (rfl : S128.numel = 128) (posL_in (F := F) hw) k).val
      = pos (goalOf G) 4096 (128 * w + k.val) := by
  have e : ∀ x : S128.Idx, (posL.view.read (Elt F) (posUpto G (128 * w) 128 P) x).toNat = pos (goalOf G) 4096 (128 * w + (S128.rowMajor x).val) := by
    intro x
    have hx : (x 0).val < 128 := (x 0).isLt
    rw [read_posL, pos_toNat (by omega), show (S128.rowMajor x).val = (x 0).val from Shape.rowMajor_val_one x]
  refine (e _).trans ?_
  rw [Equiv.apply_symm_apply]
  rfl

/-- The listed positions are different. -/
theorem rows_posL_inj :
    Function.Injective (SparseCore.rows (posL.view.read (Elt F) (posUpto G (128 * w) 128 P)) (rfl : S128.numel = 128) (posL_in (F := F) hw)) := by
  intro (k : Fin 128) (k' : Fin 128) h
  have hk := k.isLt
  have hk' := k'.isLt
  have e : pos (goalOf G) 4096 (128 * w + k.val) = pos (goalOf G) 4096 (128 * w + k'.val) := by
    rw [← rows_posL (F := F) (P := P) hw k, ← rows_posL (F := F) (P := P) hw k', h]
  have := pos_inj _ (by omega) (by omega) e
  exact Fin.ext (by omega)

omit hw

/-! ## The scatter -/

/-- The sorted array, as the transfer's target. -/
abbrev sortD : Memref sig .scVector .hbm S4096x128 .f32 :=
  sortH.slice (Rect.unit (s := S4096x128) ![0, 0] S4096x128.size inb_S4096x128_S4096x128_0_0) (fun _ => rfl)

/-- The sorted array is viewed whole. -/
theorem sortD_emb (x : S4096x128.Idx) : sortD.view.emb x = x :=
  ix_ext (show 0 + 1 * (x 0).val = (x 0).val by omega) (show 0 + 1 * (x 1).val = (x 1).val by omega)

/-- Row `r` of the target. -/
theorem mem_sortD_row (r : Fin 4096) (x : S4096x128.Idx) :
    x ∈ (sortD.view.slice (S4096x128.rowRect gathers_S4096x128_S128x128.axis r)).set ↔ (x 0).val = r.val := by
  rw [View.set_slice]
  constructor
  · intro h
    obtain ⟨y, hy, rfl⟩ := Finset.mem_map.mp h
    rw [sortD_emb]
    have := (Rect.mem_set_unit.mp hy) 0
    have h1 : r.val ≤ (y 0).val ∧ (y 0).val < r.val + 1 := this
    omega
  · intro h
    refine Finset.mem_map.mpr ⟨x, Rect.mem_set_unit.mpr fun a => ?_, sortD_emb x⟩
    fin_cases a
    · exact (show r.val ≤ (x 0).val ∧ (x 0).val < r.val + 1 by omega)
    · exact (show 0 ≤ (x 1).val ∧ (x 1).val < 0 + 128 from ⟨by omega, by have : (x 1).val < 128 := (x 1).isLt; omega⟩)

/-- The rows the list names are the task's rows of the sorted array. -/
theorem namedRows_posL (hw : w < 32) (d : Dev nD) (c : Fin τ.nSC) (j : Fin τ.nSub) :
    SparseCore.namedRows (V d c j) sortD.view gathers_S4096x128_S128x128.axis
      (SparseCore.rows (posL.view.read (Elt F) (posUpto G (128 * w) 128 P)) (rfl : S128.numel = 128) (posL_in (F := F) hw)) = sortRows G w := by
  rw [SparseCore.namedRows_eq]
  ext x
  rw [Finset.mem_biUnion]
  refine Iff.trans ?_ (mem_sortRows (x := x)).symm
  have hx : ((x : S4096x128.Idx) 0).val < 4096 := ((x : S4096x128.Idx) 0).isLt
  constructor
  · rintro ⟨k, -, hk⟩
    have hk2 : k.val < 128 := k.isLt
    have h := (mem_sortD_row _ x).mp hk
    rw [h, rows_posL (F := F) hw k, tok_pos _ (by omega)]
    omega
  · intro h
    have ht := tok_lt (goalOf G) hx
    obtain ⟨k, hk⟩ : ∃ k : Fin 128, 128 * w + k.val = tok (goalOf G) 4096 ((x : S4096x128.Idx) 0).val :=
      ⟨⟨tok (goalOf G) 4096 ((x : S4096x128.Idx) 0).val - 128 * w, by omega⟩, by show 128 * w + (_ - 128 * w) = _; omega⟩
    refine ⟨k, Finset.mem_univ _, (mem_sortD_row _ x).mpr ?_⟩
    rw [rows_posL (F := F) hw k, hk, pos_tok _ hx]

/-- A task's rows as its scratch holds them. -/
def rowsOf {β : Type} (w : ℕ) (f : S4096x128.Idx → β) : S128x128.Idx → β :=
  fun y => f fun a => ⟨if a = 0 then (128 * w + (y 0).val) % 4096 else (y 1).val, by
    fin_cases a
    · exact Nat.mod_lt _ (by decide)
    · exact (y 1).isLt⟩

/-- What the scatter leaves in the task's rows of the sorted array. -/
theorem scatter_value (hw : w < 32) (d : Dev nD) (c : Fin τ.nSC) (j : Fin τ.nSub) (f : S4096x128.Idx → Elt F .f32)
    (fd : S4096x128.Idx → Elt F .f32) (x : S4096x128.Idx) (hx : x ∈ sortRows G w) :
    SparseCore.scatterBuf (F := F) (V d c j) sortD.view gathers_S4096x128_S128x128.axis
      (SparseCore.rows (posL.view.read (Elt F) (posUpto G (128 * w) 128 P)) (rfl : S128.numel = 128) (posL_in (F := F) hw))
      (SparseCore.scatterRowPayload (V d c j) rowsV gathers_S4096x128_S128x128 (rowsOf w f)) fd x = sortedOf G f x := by
  have hx0 : (x 0).val < 4096 := (x 0).isLt
  have h := mem_sortRows.mp hx
  have ht := tok_lt (goalOf G) hx0
  obtain ⟨k, hk⟩ : ∃ k : Fin 128, 128 * w + k.val = tok (goalOf G) 4096 (x 0).val :=
    ⟨⟨tok (goalOf G) 4096 (x 0).val - 128 * w, by omega⟩, by show 128 * w + (_ - 128 * w) = _; omega⟩
  have hr : (x 0).val = (SparseCore.rows (posL.view.read (Elt F) (posUpto G (128 * w) 128 P)) (rfl : S128.numel = 128) (posL_in (F := F) hw) k).val := by
    rw [rows_posL (F := F) hw, hk, pos_tok _ hx0]
  have hm := (mem_sortD_row _ x).mpr hr
  refine (SparseCore.scatterBuf_of_mem (V d c j) sortD.view _ _ (rows_posL_inj (F := F) hw) _ _ (k := k) hm).trans ?_
  obtain ⟨y, -, hy⟩ := Finset.mem_map.mp hm
  have hy1 : (y 1).val = (x 1).val := by
    have : 0 + 1 * (0 + 1 * (y 1).val) = (x 1).val := congrArg (fun z : S4096x128.Idx => (z 1).val) hy
    omega
  refine (congrArg _ hy.symm).trans ((View.write_emb_of_mem _ _ (Finset.mem_univ y)).trans ((cast_eq _ _).trans ?_))
  refine (View.read_apply _ _).trans ((cast_eq _ _).trans ?_)
  unfold rowsOf sortedOf
  refine congrArg f (ix_ext ?_ ?_)
  · rw [withRow_zero ht, ← hk]
    have e : ∀ z : (S128x128.rowShape gathers_S4096x128_S128x128.axis').Idx, (z (0 : Fin 2)).val = 0 := fun z => by
      have : (z (0 : Fin 2)).val < 1 := (z (0 : Fin 2)).isLt
      omega
    show (128 * w + (k.val + 1 * ((Shape.idxEquiv gathers_S4096x128_S128x128.rowShape_eq).symm y (0 : Fin 2)).val)) % 4096 = 128 * w + k.val
    rw [e]
    omega
  · rw [withRow_one, ← hy1]
    show 0 + 1 * ((Shape.idxEquiv gathers_S4096x128_S128x128.rowShape_eq).symm y (1 : Fin 2)).val = (y 1).val
    rw [Shape.idxEquiv_symm_apply_val gathers_S4096x128_S128x128.rowShape_eq y (1 : Fin 2)]
    exact (show 0 + 1 * (y 1).val = (y 1).val by omega)

/-! ## The chunks -/

/-- The slice of the positions that a task writes is its own tokens. -/
theorem mem_own_unit (L : grid0.Coords) (x : S4096.Idx) : x ∈ (Rect.unit (s := S4096) (k0_off10 L) S128.size (k0_off10_inb L)).set ↔ x ∈ ownToks (wid L) := by
  rw [Rect.mem_set_unit, mem_ownToks, k0_off10_eq]
  constructor
  · intro h
    have : 256 * (L 1).val + 128 * (L 0).val ≤ (x 0).val ∧ (x 0).val < 256 * (L 1).val + 128 * (L 0).val + 128 := h 0
    unfold wid; omega
  · intro h a
    fin_cases a
    unfold wid at h
    exact (show 256 * (L 1).val + 128 * (L 0).val ≤ (x 0).val ∧ (x 0).val < 256 * (L 1).val + 128 * (L 0).val + 128 by omega)

/-- The slice of the features that a task reads is its own rows. -/
theorem mem_own_unit_rows (L : grid0.Coords) (x : S4096x128.Idx) :
    x ∈ (Rect.unit (s := S4096x128) (k0_off9 L) S128x128.size (k0_off9_inb L)).set ↔ x ∈ ownRows (wid L) := by
  rw [Rect.mem_set_unit, mem_ownRows, k0_off9_eq]
  constructor
  · intro h
    have : 256 * (L 1).val + 128 * (L 0).val ≤ (x 0).val ∧ (x 0).val < 256 * (L 1).val + 128 * (L 0).val + 128 := h 0
    unfold wid; omega
  · intro h a
    unfold wid at h
    fin_cases a
    · exact (show 256 * (L 1).val + 128 * (L 0).val ≤ (x 0).val ∧ (x 0).val < 256 * (L 1).val + 128 * (L 0).val + 128 by omega)
    · exact (show 0 ≤ (x 1).val ∧ (x 1).val < 0 + 128 from ⟨by omega, by have : (x 1).val < 128 := (x 1).isLt; omega⟩)

/-- The task's rows of the features. -/
abbrev featD (L : grid0.Coords) : Memref sig .scVector .hbm S128x128 .f32 :=
  featH.slice (Rect.unit (s := S4096x128) (k0_off9 L) S128x128.size (k0_off9_inb L)) (fun _ => rfl)

/-- The task's part of the array of positions. -/
abbrev posD (L : grid0.Coords) : Memref sig .scVector .hbm S128 .i32 :=
  posH.slice (Rect.unit (s := S4096) (k0_off10 L) S128.size (k0_off10_inb L)) (fun _ => rfl)

/-- So the view of the features covers the task's own rows. -/
theorem featD_set (L : grid0.Coords) : (featD L).view.set = ownRows (wid L) :=
  (View.set_slice_whole main_arg0_scv _).trans (Finset.ext (mem_own_unit_rows L))

/-- So the view of the positions covers the task's own tokens. -/
theorem posD_set (L : grid0.Coords) : (posD L).view.set = ownToks (wid L) :=
  (View.set_slice_whole main_v1_1_scv _).trans (Finset.ext (mem_own_unit L))

/-- The whole list of positions. -/
theorem posL_set : posL.view.set = Finset.univ := by
  refine (View.set_reshape _ _).trans ((View.set_slice_whole cc0_scratch4 _).trans (Finset.ext fun x => ?_))
  rw [Rect.mem_set_unit]
  refine ⟨fun _ => Finset.mem_univ _, fun _ a => ?_⟩
  fin_cases a
  · exact ⟨Nat.zero_le _, (x 0).isLt⟩
  · exact (show 0 ≤ ((x : S1x128.Idx) 1).val ∧ ((x : S1x128.Idx) 1).val < 0 + 128 from
      ⟨Nat.zero_le _, by rw [Nat.zero_add]; exact ((x : S1x128.Idx) 1).isLt⟩)

/-- Reading the view of the features gives the task's rows. -/
theorem read_featD (L : grid0.Coords) (f : S4096x128.Idx → Elt F .f32) : (featD L).view.read (Elt F) f = rowsOf (wid L) f := by
  funext y
  have hy : (y 0).val < 128 := (y 0).isLt
  have hw := wid_lt L
  refine (View.read_apply _ _).trans ((cast_eq _ _).trans (congrArg f (ix_ext ?_ ?_)))
  · show k0_off9 L 0 + 1 * (y 0).val = (128 * wid L + (y 0).val) % 4096
    rw [k0_off9_eq, Nat.mod_eq_of_lt (by omega)]
    exact (show 256 * (L 1).val + 128 * (L 0).val + 1 * (y 0).val = 128 * wid L + (y 0).val by unfold wid; omega)
  · show k0_off9 L 1 + 1 * (y 1).val = (y 1).val
    rw [k0_off9_eq]
    exact (show 0 + 1 * (y 1).val = (y 1).val by omega)

/-- The task's list of positions, copied out. -/
theorem write_posD (L : grid0.Coords) (f : S4096.Idx → BitVec 32) (x : S4096.Idx) (hx : x ∈ ownToks (wid L)) :
    (posD L).view.write (Elt F) f (posL.view.read (Elt F) (posUpto G (128 * wid L) 128 P)) Finset.univ x = posOf G x := by
  rw [← posD_set] at hx
  obtain ⟨y, -, rfl⟩ := Finset.mem_map.mp hx
  have hw := wid_lt L
  have hy : (y 0).val < 128 := (y 0).isLt
  refine (View.write_emb_of_mem _ _ (Finset.mem_univ y)).trans ((cast_eq _ _).trans ?_)
  rw [read_posL]
  have e : ((posD L).view.emb y (0 : Fin 1)).val = 128 * wid L + (y 0).val := by
    show k0_off10 L 0 + 1 * (y 0).val = 128 * wid L + (y 0).val
    rw [k0_off10_eq]
    exact (show 256 * (L 1).val + 128 * (L 0).val + 1 * (y 0).val = 128 * wid L + (y 0).val by unfold wid; omega)
  unfold posOf
  rw [e]

end Cert.Proof

end
-- ==== Proof.Dispatch.lean ====
/-
  The first call's task from end to end: the goals copied in, counted and placed, the task's rows of the features copied in
  and scattered to their positions, the positions copied out.
-/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Counting

variable {F : FTy → Type} [FloatOps F]

local notation "𝕄" => MT nD τ sig (HIx 2) (Elt F) ℕ UU ℕ

variable {d : Dev nD} {L : grid0.Coords} {G : S4096.Idx → BitVec 32} {T R S : IVec S16 32} {P : IVec S1x128 32}
variable {α β : Type} {Q : α → sProp (MT nD τ sig (HIx 2) (Elt F) ℕ UU ℕ)}
variable {O : CellTallies nD τ sig (HIx 2)} {W : Waits sig (HIx 2)}

/-- A buffer of a task, held whole. -/
abbrev heldW (d : Dev nD) (L : grid0.Coords) (b : Ref sig .scVector) (q : PosShare TreeShare) (f : Buf (Elt F) ((V d (cV L) (jV L)).loc b)) : sProp 𝕄 :=
  ((V d (cV L) (jV L)).loc b ↦{q} f)

/-- A task's transfer cell at zero. -/
abbrev cell0 (d : Dev nD) (L : grid0.Coords) (s : DmaSem sig) : sProp 𝕄 := semVal (V d (cV L) (jV L), SemLoc.dma s) 0

/-- What is held, put in another order first. -/
theorem via {A B C : sProp 𝕄} (h : A ⊢ B) (h' : B ⊢ C) : A ⊢ C := h.trans h'

/-- What part 1 leaves for part 2. -/
abbrev left1 (L : grid0.Coords) (G : S4096.Idx → BitVec 32) :
    Σ' (_ : BitVec 32) (_ : BitVec 32) (_ : IVec S16 32) (_ : IVec S16 32) (_ : Vec F S16 .i32) (_ : IVec S16 32) (_ : IVec S16 1), BitVec 32 :=
  ⟨widW L, Scalar.muli (widW L) 128#32, k0_pay1, k0_pay2, cntW G 0 128, cntW G 0 128, k0_pay5 L, 0#32⟩

/-- The total before the first chunk is zero. -/
theorem total_zero (v : IVec S16 32) : k0_pay4 (F := F) v = v := by
  funext x
  exact BitVec.zero_add (v x)

/-- Part 1: the goals copied in; the first chunk counted. -/
theorem part1 (hG : GoalsOk G) {q : PosShare TreeShare} {G0 : S4096.Idx → BitVec 32} :
    iprop(Owe (V d (cV L) (jV L)) O W ∗ (heldW (F := F) d L cc0_scratch0 fullShare G0 ∗ heldW (F := F) d L main_v0_scv q G)
        ∗ cell0 d L cc0_scoped0.sem ∗ heldW (F := F) d L cc0_scratch2 fullShare T ∗ heldW (F := F) d L cc0_scratch1 fullShare R
        ∗ heldW (F := F) d L cc0_scratch3 fullShare S ∗ heldW (F := F) d L cc0_scratch4 fullShare P)
      ⊢ tileWp d L (atArgs L (k0_part1 (F := F)))
      fun r => iprop(⌜r = left1 (F := F) L G⌝ ∗ TS d L G (cntW G 0 128) R S P
        ∗ Owe (V d (cV L) (jV L)) O W ∗ heldW (F := F) d L main_v0_scv q G ∗ cell0 d L cc0_scoped0.sem) := by
  rw [k0_part1_eq_skeleton]
  refine copy_to (F := F) (src := goalH) (dst := goalV) (q := q) (fs := G) (fd := G0) rfl (by decide) (View.set_whole _) (View.set_whole _) G
    (fun i _ => congrFun (View.write_whole_univ (Val := Elt F) cc0_scratch0 G0 _) i) ?_
  refine via (B := iprop(TS d L G T R S P ∗ Owe (V d (cV L) (jV L)) O W ∗ heldW (F := F) d L main_v0_scv q G ∗ cell0 d L cc0_scoped0.sem)) ?_ ?_
  · unfold TS
    iintro ⟨HO, ⟨HG, Hg⟩, Hv, HT, HR, HS, HP⟩
    isplitl [HG HT HR HS HP]
    · isplitl [HG]; · iexact HG
      isplitl [HT]; · iexact HT
      isplitl [HR]; · iexact HR
      isplitl [HS]; · iexact HS
      iexact HP
    isplitl [HO]; · iexact HO
    isplitl [Hg]; · iexact Hg
    iexact Hv
  refine frame_out (F := F) (Q' := fun r => iprop(⌜r = left1 (F := F) L G⌝ ∗ TS d L G (cntW G 0 128) R S P)) ?_ fun r => ?_
  · refine clear_tmp 0 rfl ?_
    iterate 8 refine count16 hG (by decide) (fun _ h => h) ?_
    exact load_tmp (ret_known (by rw [total_zero]))
  · iintro ⟨⟨%e, HT⟩, HF⟩
    isplitr; · ipureintro; exact e
    isplitl [HT]; · iexact HT
    iexact HF

/-- A part and what follows it, the rest's run as the part's end. -/
theorem seq_part {A : sProp 𝕄} {p : TProg F L β} {k : β → TProg F L α} (h : A ⊢ tileWp d L p fun r => tileWp d L (k r) Q) :
    A ⊢ tileWp d L (p >>= k) Q := by
  show A ⊢ wp frame (wpE (defs₀ (F := F)) 𝒱₀ (V d (cV L) (jV L)) none) Set.univ (p >>= k) Q
  rw [wp_bind]
  exact h

/-- A part that moves the word scratches only, run with the rest beside it. -/
theorem run_more {p : TProg F L β} {k : β → TProg F L α} {A A' X Fr : sProp 𝕄} {v : β}
    (hp : A ⊢ tileWp d L p fun r => iprop(⌜r = v⌝ ∗ A')) (h : iprop((A' ∗ X) ∗ Fr) ⊢ tileWp d L (k v) Q) :
    iprop((A ∗ X) ∗ Fr) ⊢ tileWp d L (p >>= k) Q :=
  sep_assoc.1.trans (run_part hp (sep_assoc.2.trans h))

/-- A copy issued: in flight, the destination to hold `fd'`. -/
theorem issue_step {sp sp' : Space} {s : Shape} {e : EltTy} {sem : DmaSem sig} {k : PUnit → TProg F L α} {Fr : sProp 𝕄}
    {src : Memref sig .scVector sp s e} {dst : Memref sig .scVector sp' s e} {h1 h2 h3} {q : PosShare TreeShare}
    {fs : Buf (Elt F) (src.view.loc (V d (cV L) (jV L)))} {fd : Buf (Elt F) (dst.view.loc (V d (cV L) (jV L)))}
    (hN0 : 0 < dst.view.dmaCredit)
    {Sd : Finset (dst.view.loc (V d (cV L) (jV L))).ty.shape.Idx} {Ss : Finset (src.view.loc (V d (cV L) (jV L))).ty.shape.Idx}
    (hSd : dst.view.set = Sd) (hSs : src.view.set = Ss) (fd' : Buf (Elt F) (dst.view.loc (V d (cV L) (jV L))))
    (hfd : ∀ i ∈ Sd, dst.view.write (Elt F) fd (src.view.read (Elt F) fs) Finset.univ i = fd' i)
    (h : iprop(Owe (V d (cV L) (jV L)) O W
        ∗ Transfers.Flight countersEmb (V d (cV L) (jV L)) (.dma sem) (default : HIx 2) dst.view.dmaCredit
            iprop((dst.view.loc (V d (cV L) (jV L)) ↦[Sd]{fullShare} fd') ∗ (src.view.loc (V d (cV L) (jV L)) ↦[Ss]{q} fs))
        ∗ Fr) ⊢ tileWp d L (k ⟨⟩) Q) :
    iprop(Owe (V d (cV L) (jV L)) O W
        ∗ ((dst.view.loc (V d (cV L) (jV L)) ↦[Sd]{fullShare} fd) ∗ (src.view.loc (V d (cV L) (jV L)) ↦[Ss]{q} fs))
        ∗ cell0 d L sem ∗ Fr)
      ⊢ tileWp d L (Prog.lift (.enqueueDma src (.here dst) (.dma sem) h1 h2 h3) >>= k) Q := by
  subst hSd hSs
  rw [show (dst.view.loc (V d (cV L) (jV L)) ↦[dst.view.set]{fullShare} fd' : sProp 𝕄)
    = (dst.view.loc (V d (cV L) (jV L)) ↦[dst.view.set]{fullShare} (dst.view.write (Elt F) fd (src.view.read (Elt F) fs) Finset.univ)) from
      (pointsTo_congr hfd).symm] at h
  iintro ⟨HO, ⟨Hd, Hs⟩, Hv, HF⟩
  iapply (Transfers.wp_dmaLocal countersEmb 𝒱₀ (V d (cV L) (jV L)) none (default : HIx 2) dst.view.dmaCredit rfl hN0 (Finset.Subset.refl _)) $$ [Hd Hs Hv]
  · isplitl [Hs]; · iexact Hs
    isplitl [Hd]; · iexact Hd
    iexact Hv
  iintro Hfl
  iapply h
  isplitl [HO]; · iexact HO
  isplitl [Hfl]; · iexact Hfl
  iexact HF

/-- The scatter of the task's rows, with the sorted array's new contents named. -/
theorem scatter_rows {k : PUnit → TProg F L α} {Fr : sProp 𝕄} {sem : DmaSem sig} {f fs : S4096x128.Idx → Elt F .f32} {h1 h2 h3 h4 h5 h6 h7}
    (h : iprop(Owe (V d (cV L) (jV L)) O W
        ∗ (((V d (cV L) (jV L)).loc main_v1_0_scv ↦[sortRows G (wid L)]{fullShare} (sortedOf G f : Buf (Elt F) ((V d (cV L) (jV L)).loc main_v1_0_scv)))
          ∗ heldW (F := F) d L cc0_scratch5 fullShare (rowsOf (wid L) f) ∗ heldW (F := F) d L cc0_scratch4 fullShare (posUpto G (128 * wid L) 128 P))
        ∗ cell0 d L sem ∗ Fr) ⊢ tileWp d L (k ⟨⟩) Q) :
    iprop(Owe (V d (cV L) (jV L)) O W
        ∗ (((V d (cV L) (jV L)).loc main_v1_0_scv ↦[sortRows G (wid L)]{fullShare} (fs : Buf (Elt F) ((V d (cV L) (jV L)).loc main_v1_0_scv)))
          ∗ heldW (F := F) d L cc0_scratch5 fullShare (rowsOf (wid L) f) ∗ heldW (F := F) d L cc0_scratch4 fullShare (posUpto G (128 * wid L) 128 P))
        ∗ cell0 d L sem ∗ Fr)
      ⊢ tileWp d L (SparseCore.enqueueIndirectScatter h1 rowsV sortD gathers_S4096x128_S128x128 posL h2 sem h3 h4 h5 >>= fun _ =>
          SparseCore.waitIndirectScatter sem rowsV sortD h6 h7 >>= k) Q := by
  have hw := wid_lt L
  have hs : 0 < S128x128.numel := by decide
  have hN : ∑ x, (sortD.slice (S4096x128.rowRect gathers_S4096x128_S128x128.axis
      (SparseCore.rows (posL.view.read (Elt F) (posUpto G (128 * wid L) 128 P)) h2 (posL_in (F := F) hw) x)) (S4096x128.stride_rowRect gathers_S4096x128_S128x128.axis _)).view.dmaCredit
      = rowsV.view.dmaCredit :=
    SparseCore.sum_scatterCredit_eq_srcCredit (V d (cV L) (jV L)) rowsV sortD gathers_S4096x128_S128x128 rfl _ (fun _ => rfl) (fun _ => rfl)
  exact scatter_to (F := F) (O := O) (W := W) (sem := sem) (src := rowsV) (dst := sortD) (offs := posL)
    (hg := gathers_S4096x128_S128x128) (hn := h2) (q := fullShare) (qo := fullShare)
    (fs := rowsOf (wid L) f) (fd := fs) (fo := posUpto G (128 * wid L) 128 P) hs
    (posL_in (F := F) hw) (rows_posL_inj (F := F) hw) hN (namedRows_posL (F := F) (G := G) (P := P) hw d (cV L) (jV L)) (View.set_whole _) posL_set
    (sortedOf G f) (scatter_value (F := F) (G := G) (P := P) hw d (cV L) (jV L) f fs) h

/-- What a task of the first call holds of the call's operands before it runs. -/
def taskIn (d : Dev nD) (L : grid0.Coords) (q qf : PosShare TreeShare) (G : S4096.Idx → BitVec 32) (f fs : S4096x128.Idx → Elt F .f32)
    (fp : S4096.Idx → BitVec 32) (fg : IVec S16 32) : sProp 𝕄 :=
  iprop(heldW (F := F) d L main_v0_scv q G
    ∗ ((V d (cV L) (jV L)).loc main_arg0_scv ↦[ownRows (wid L)]{qf} (f : Buf (Elt F) ((V d (cV L) (jV L)).loc main_arg0_scv)))
    ∗ ((V d (cV L) (jV L)).loc main_v1_0_scv ↦[sortRows G (wid L)]{fullShare} (fs : Buf (Elt F) ((V d (cV L) (jV L)).loc main_v1_0_scv)))
    ∗ ((V d (cV L) (jV L)).loc main_v1_1_scv ↦[ownToks (wid L)]{fullShare} (fp : Buf (Elt F) ((V d (cV L) (jV L)).loc main_v1_1_scv)))
    ∗ SegOut d L fg)

/-- The task's scratches at given contents. -/
def scratch (d : Dev nD) (L : grid0.Coords) (G0 : S4096.Idx → BitVec 32) (T R S : IVec S16 32) (P : IVec S1x128 32) (f : S128x128.Idx → Elt F .f32) : sProp 𝕄 :=
  iprop(heldW (F := F) d L cc0_scratch0 fullShare G0 ∗ heldW (F := F) d L cc0_scratch1 fullShare R ∗ heldW (F := F) d L cc0_scratch2 fullShare T
    ∗ heldW (F := F) d L cc0_scratch3 fullShare S ∗ heldW (F := F) d L cc0_scratch4 fullShare P ∗ heldW (F := F) d L cc0_scratch5 fullShare f)

/-- The task's transfer cells at zero. -/
def cells (d : Dev nD) (L : grid0.Coords) : sProp 𝕄 :=
  iprop(cell0 d L cc0_scoped0.sem ∗ cell0 d L cc0_scoped1.sem ∗ cell0 d L cc0_scoped2.sem ∗ cell0 d L cc0_scoped3.sem ∗ cell0 d L cc0_scoped4.sem)

set_option maxRecDepth 65536 in
set_option maxHeartbeats 2000000 in
/-- The task, run: its rows of the sorted array, its positions and (the first task) the starts written. -/
theorem dispatch_run (hG : GoalsOk G) {q qf : PosShare TreeShare} {f fs : S4096x128.Idx → Elt F .f32} {fp G0 : S4096.Idx → BitVec 32} {fg : IVec S16 32}
    {fr : S128x128.Idx → Elt F .f32} :
    iprop(Owe (V d (cV L) (jV L)) O W ∗ taskIn d L q qf G f fs fp fg ∗ scratch (F := F) d L G0 T R S P fr ∗ cells d L)
      ⊢ tileWp d L (atArgs L (cc0__dispatch_body (F := F)))
      fun _ => iprop(Owe (V d (cV L) (jV L)) O W ∗ taskIn d L q qf G f (sortedOf G f) (posOf G) (startW G)
        ∗ (∃ T' R' P', scratch (F := F) d L G T' R' (startW G) P' (rowsOf (wid L) f)) ∗ cells d L) := by
  have hw := wid_lt L
  rw [cc0__dispatch_body_eq_skeleton]
  unfold cc0__dispatch_body_skel
  refine seq_part ?_
  rw [k0_part30_eq_skeleton]
  unfold k0_part30_skel
  refine via (B := iprop((Owe (V d (cV L) (jV L)) O W ∗ (heldW (F := F) d L cc0_scratch0 fullShare G0 ∗ heldW (F := F) d L main_v0_scv q G)
        ∗ cell0 d L cc0_scoped0.sem ∗ heldW (F := F) d L cc0_scratch2 fullShare T ∗ heldW (F := F) d L cc0_scratch1 fullShare R
        ∗ heldW (F := F) d L cc0_scratch3 fullShare S ∗ heldW (F := F) d L cc0_scratch4 fullShare P)
      ∗ ((SegOut d L fg ∗ cell0 d L cc0_scoped1.sem)
        ∗ ((V d (cV L) (jV L)).loc main_arg0_scv ↦[ownRows (wid L)]{qf} (f : Buf (Elt F) ((V d (cV L) (jV L)).loc main_arg0_scv)))
        ∗ ((V d (cV L) (jV L)).loc main_v1_0_scv ↦[sortRows G (wid L)]{fullShare} (fs : Buf (Elt F) ((V d (cV L) (jV L)).loc main_v1_0_scv)))
        ∗ ((V d (cV L) (jV L)).loc main_v1_1_scv ↦[ownToks (wid L)]{fullShare} (fp : Buf (Elt F) ((V d (cV L) (jV L)).loc main_v1_1_scv)))
        ∗ heldW (F := F) d L cc0_scratch5 fullShare fr ∗ cell0 d L cc0_scoped2.sem ∗ cell0 d L cc0_scoped3.sem ∗ cell0 d L cc0_scoped4.sem))) ?_ ?_
  · unfold taskIn scratch cells
    iintro ⟨HO, ⟨Hg, Hf, Hs, Hp, Hseg⟩, ⟨H0, H1, H2, H3, H4, H5⟩, C0, C1, C2, C3, C4⟩
    isplitl [HO H0 Hg C0 H2 H1 H3 H4]
    · isplitl [HO]; · iexact HO
      isplitl [H0 Hg]
      · isplitl [H0]; · iexact H0
        iexact Hg
      isplitl [C0]; · iexact C0
      isplitl [H2]; · iexact H2
      isplitl [H1]; · iexact H1
      isplitl [H3]; · iexact H3
      iexact H4
    isplitl [Hseg C1]
    · isplitl [Hseg]; · iexact Hseg
      iexact C1
    isplitl [Hf]; · iexact Hf
    isplitl [Hs]; · iexact Hs
    isplitl [Hp]; · iexact Hp
    isplitl [H5]; · iexact H5
    isplitl [C2]; · iexact C2
    isplitl [C3]; · iexact C3
    iexact C4
  refine run_part (part1 hG) ?_
  refine run_more (part2 hG) ?_
  refine run_more (part3 hG) ?_
  refine run_more (part4 hG) ?_
  refine run_more (part5 hG) ?_
  refine run_more (part6 hG) ?_
  refine run_more (part7 hG) ?_
  refine run_more (part8 hG) ?_
  refine run_more (part9 hG) ?_
  refine run_more (part10 hG) ?_
  refine run_more (part11 hG) ?_
  refine run_more (part12 hG) ?_
  refine run_more (part13 hG) ?_
  refine run_more (part14 hG) ?_
  refine run_more (part15 hG) ?_
  refine run_more (part16 hG) ?_
  refine run_more (part17 hG) ?_
  refine run_more (part18 hG) ?_
  refine run_more (part19 hG) ?_
  refine run_more (part20 hG) ?_
  refine run_more (part21 hG) ?_
  refine run_more (part22 hG) ?_
  refine run_more (part23 hG) ?_
  refine run_more (part24 hG) ?_
  refine run_more (part25 hG) ?_
  refine run_more (part26 hG) ?_
  refine via (B := iprop((TS d L G (cntW G 3968 4096) R (startW G) P ∗ Owe (V d (cV L) (jV L)) O W ∗ SegOut d L fg ∗ cell0 d L cc0_scoped1.sem)
      ∗ (heldW (F := F) d L main_v0_scv q G ∗ cell0 d L cc0_scoped0.sem)
        ∗ ((V d (cV L) (jV L)).loc main_arg0_scv ↦[ownRows (wid L)]{qf} (f : Buf (Elt F) ((V d (cV L) (jV L)).loc main_arg0_scv)))
        ∗ ((V d (cV L) (jV L)).loc main_v1_0_scv ↦[sortRows G (wid L)]{fullShare} (fs : Buf (Elt F) ((V d (cV L) (jV L)).loc main_v1_0_scv)))
        ∗ ((V d (cV L) (jV L)).loc main_v1_1_scv ↦[ownToks (wid L)]{fullShare} (fp : Buf (Elt F) ((V d (cV L) (jV L)).loc main_v1_1_scv)))
        ∗ heldW (F := F) d L cc0_scratch5 fullShare fr ∗ cell0 d L cc0_scoped2.sem ∗ cell0 d L cc0_scoped3.sem ∗ cell0 d L cc0_scoped4.sem)) ?_ ?_
  · iintro ⟨⟨HT, HO, Hg, C0⟩, ⟨Hseg, C1⟩, HF⟩
    isplitl [HT HO Hseg C1]
    · isplitl [HT]; · iexact HT
      isplitl [HO]; · iexact HO
      isplitl [Hseg]; · iexact Hseg
      iexact C1
    isplitl [Hg C0]
    · isplitl [Hg]; · iexact Hg
      iexact C0
    iexact HF
  refine run_part (part27 hG _) ?_
  refine run_more (part28 hG _ _ _) ?_
  refine run_more (part29 hG _ _) ?_
  refine via (B := iprop(Owe (V d (cV L) (jV L)) O W
      ∗ (heldW (F := F) d L cc0_scratch5 fullShare fr
        ∗ ((V d (cV L) (jV L)).loc main_arg0_scv ↦[ownRows (wid L)]{qf} (f : Buf (Elt F) ((V d (cV L) (jV L)).loc main_arg0_scv))))
      ∗ cell0 d L cc0_scoped2.sem
      ∗ (TS d L G (cntW G 3968 4096) (runW G (128 * wid L + 128)) (startW G) (posUpto G (128 * wid L) 128 P)
        ∗ SegOut d L (startW G) ∗ cell0 d L cc0_scoped1.sem)
      ∗ (heldW (F := F) d L main_v0_scv q G ∗ cell0 d L cc0_scoped0.sem)
        ∗ ((V d (cV L) (jV L)).loc main_v1_0_scv ↦[sortRows G (wid L)]{fullShare} (fs : Buf (Elt F) ((V d (cV L) (jV L)).loc main_v1_0_scv)))
        ∗ ((V d (cV L) (jV L)).loc main_v1_1_scv ↦[ownToks (wid L)]{fullShare} (fp : Buf (Elt F) ((V d (cV L) (jV L)).loc main_v1_1_scv)))
        ∗ cell0 d L cc0_scoped3.sem ∗ cell0 d L cc0_scoped4.sem)) ?_ ?_
  · iintro ⟨⟨HT, HO, Hseg, C1⟩, Hg, Hf, Hs, Hp, H5, C2, C3, C4⟩
    isplitl [HO]; · iexact HO
    isplitl [H5 Hf]
    · isplitl [H5]; · iexact H5
      iexact Hf
    isplitl [C2]; · iexact C2
    isplitl [HT Hseg C1]
    · isplitl [HT]; · iexact HT
      isplitl [Hseg]; · iexact Hseg
      iexact C1
    isplitl [Hg]; · iexact Hg
    isplitl [Hs]; · iexact Hs
    isplitl [Hp]; · iexact Hp
    isplitl [C3]; · iexact C3
    iexact C4
  refine copy_to (F := F) (src := featD L) (dst := rowsV) (q := qf) (fs := f) (fd := fr) rfl (by decide) (View.set_whole _) (featD_set L)
    (rowsOf (wid L) f) (fun i _ => (congrFun (View.write_whole_univ (Val := Elt F) cc0_scratch5 fr _) i).trans (congrFun (read_featD L f) i)) ?_
  refine via (B := iprop(Owe (V d (cV L) (jV L)) O W
        ∗ (((V d (cV L) (jV L)).loc main_v1_0_scv ↦[sortRows G (wid L)]{fullShare} (fs : Buf (Elt F) ((V d (cV L) (jV L)).loc main_v1_0_scv)))
          ∗ heldW (F := F) d L cc0_scratch5 fullShare (rowsOf (wid L) f) ∗ heldW (F := F) d L cc0_scratch4 fullShare (posUpto G (128 * wid L) 128 P))
        ∗ cell0 d L cc0_scoped3.sem
      ∗ ((V d (cV L) (jV L)).loc main_arg0_scv ↦[ownRows (wid L)]{qf} (f : Buf (Elt F) ((V d (cV L) (jV L)).loc main_arg0_scv)))
      ∗ cell0 d L cc0_scoped2.sem
      ∗ (heldW (F := F) d L cc0_scratch0 fullShare G ∗ heldW (F := F) d L cc0_scratch2 fullShare (cntW G 3968 4096)
        ∗ heldW (F := F) d L cc0_scratch1 fullShare (runW G (128 * wid L + 128)) ∗ heldW (F := F) d L cc0_scratch3 fullShare (startW G))
      ∗ (SegOut d L (startW G) ∗ cell0 d L cc0_scoped1.sem)
      ∗ (heldW (F := F) d L main_v0_scv q G ∗ cell0 d L cc0_scoped0.sem)
        ∗ ((V d (cV L) (jV L)).loc main_v1_1_scv ↦[ownToks (wid L)]{fullShare} (fp : Buf (Elt F) ((V d (cV L) (jV L)).loc main_v1_1_scv)))
        ∗ cell0 d L cc0_scoped4.sem)) ?_ ?_
  · unfold TS
    iintro ⟨HO, ⟨H5, Hf⟩, C2, ⟨⟨H0, H2, H1, H3, H4⟩, Hseg⟩, Hg, Hs, Hp, C3, C4⟩
    isplitl [HO]; · iexact HO
    isplitl [Hs H5 H4]
    · isplitl [Hs]; · iexact Hs
      isplitl [H5]; · iexact H5
      iexact H4
    isplitl [C3]; · iexact C3
    isplitl [Hf]; · iexact Hf
    isplitl [C2]; · iexact C2
    isplitl [H0 H2 H1 H3]
    · isplitl [H0]; · iexact H0
      isplitl [H2]; · iexact H2
      isplitl [H1]; · iexact H1
      iexact H3
    isplitl [Hseg]; · iexact Hseg
    isplitl [Hg]; · iexact Hg
    isplitl [Hp]; · iexact Hp
    iexact C4
  refine scatter_rows ?_
  refine via (B := iprop(Owe (V d (cV L) (jV L)) O W
      ∗ (((V d (cV L) (jV L)).loc main_v1_1_scv ↦[ownToks (wid L)]{fullShare} (fp : Buf (Elt F) ((V d (cV L) (jV L)).loc main_v1_1_scv)))
        ∗ heldW (F := F) d L cc0_scratch4 fullShare (posUpto G (128 * wid L) 128 P))
      ∗ cell0 d L cc0_scoped4.sem
      ∗ ((V d (cV L) (jV L)).loc main_v1_0_scv ↦[sortRows G (wid L)]{fullShare} (sortedOf G f : Buf (Elt F) ((V d (cV L) (jV L)).loc main_v1_0_scv)))
      ∗ heldW (F := F) d L cc0_scratch5 fullShare (rowsOf (wid L) f) ∗ cell0 d L cc0_scoped3.sem
      ∗ ((V d (cV L) (jV L)).loc main_arg0_scv ↦[ownRows (wid L)]{qf} (f : Buf (Elt F) ((V d (cV L) (jV L)).loc main_arg0_scv)))
      ∗ cell0 d L cc0_scoped2.sem
      ∗ (heldW (F := F) d L cc0_scratch0 fullShare G ∗ heldW (F := F) d L cc0_scratch2 fullShare (cntW G 3968 4096)
        ∗ heldW (F := F) d L cc0_scratch1 fullShare (runW G (128 * wid L + 128)) ∗ heldW (F := F) d L cc0_scratch3 fullShare (startW G))
      ∗ (SegOut d L (startW G) ∗ cell0 d L cc0_scoped1.sem)
      ∗ (heldW (F := F) d L main_v0_scv q G ∗ cell0 d L cc0_scoped0.sem))) ?_ ?_
  · iintro ⟨HO, ⟨Hs, H5, H4⟩, C3, Hf, C2, H0, Hseg, Hg, Hp, C4⟩
    isplitl [HO]; · iexact HO
    isplitl [Hp H4]
    · isplitl [Hp]; · iexact Hp
      iexact H4
    isplitl [C4]; · iexact C4
    isplitl [Hs]; · iexact Hs
    isplitl [H5]; · iexact H5
    isplitl [C3]; · iexact C3
    isplitl [Hf]; · iexact Hf
    isplitl [C2]; · iexact C2
    isplitl [H0]; · iexact H0
    isplitl [Hseg]; · iexact Hseg
    iexact Hg
  refine issue_step (F := F) (src := posL) (dst := posD L) (q := fullShare) (fs := posUpto G (128 * wid L) 128 P) (fd := fp)
    (show 0 < sig.dmaCredit .scVector .hbm main_v1_1_scv.2 S128 .i32 by decide) (posD_set L) posL_set (posOf G) (write_posD (F := F) L fp) ?_
  refine ret_step (F := F) ?_
  refine wait_step (F := F) rfl ?_
  refine ret_step (F := F) ?_
  unfold taskIn scratch cells
  iintro ⟨HO, ⟨Hp, H4⟩, C4, Hs, H5, C3, Hf, C2, ⟨H0, H2, H1, H3⟩, ⟨Hseg, C1⟩, Hg, C0⟩
  isplitl [HO]; · iexact HO
  isplitl [Hg Hf Hs Hp Hseg]
  · isplitl [Hg]; · iexact Hg
    isplitl [Hf]; · iexact Hf
    isplitl [Hs]; · iexact Hs
    isplitl [Hp]; · iexact Hp
    iexact Hseg
  isplitl [H0 H1 H2 H3 H4 H5]
  · iexists (cntW G 3968 4096); iexists (runW G (128 * wid L + 128)); iexists (posUpto G (128 * wid L) 128 P)
    isplitl [H0]; · iexact H0
    isplitl [H1]; · iexact H1
    isplitl [H2]; · iexact H2
    isplitl [H3]; · iexact H3
    isplitl [H4]; · iexact H4
    iexact H5
  isplitl [C0]; · iexact C0
  isplitl [C1]; · iexact C1
  isplitl [C2]; · iexact C2
  isplitl [C3]; · iexact C3
  iexact C4

end Cert.Proof

end
-- ==== Proof.Scat.lean ====
/-
  The second call's task from end to end: the task's positions copied in, the rows of the two sorted results they name
  gathered, and copied out to the task's rows of the two results.
-/
module

public import proofs.«01_k».proof.Proof.Dispatch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Counting

variable {F : FTy → Type} [FloatOps F]

local notation "𝕄" => MT nD τ sig (HIx 2) (Elt F) ℕ UU ℕ

variable {d : Dev nD} {L : grid0.Coords}
variable {α β : Type} {Q : α → sProp (MT nD τ sig (HIx 2) (Elt F) ℕ UU ℕ)}
variable {O : CellTallies nD τ sig (HIx 2)} {W : Waits sig (HIx 2)}

/-- An array in sorted order put back in the tokens' order: row `n` is the row at token `n`'s position. -/
def backOf {β : Type} (p : S4096.Idx → BitVec 32) (y : S4096x128.Idx → β) : S4096x128.Idx → β :=
  fun x => y (withRow (p (tokIx (x 0).val)).toNat x)

/-- Task `w`'s tokens' words. -/
def wordsOf (w : ℕ) (p : S4096.Idx → BitVec 32) : S128.Idx → BitVec 32 := fun x => p (tokIx (128 * w + (x 0).val))

/-- The memrefs of the second call's task. -/
abbrev sort1H : Memref sig .scVector .hbm S4096x128 .f32 := Memref.whole main_v6_0_scv
abbrev sort2H : Memref sig .scVector .hbm S4096x128 .f32 := Memref.whole main_v6_1_scv
abbrev out1H : Memref sig .scVector .hbm S4096x128 .f32 := Memref.whole main_v7_0_scv
abbrev out2H : Memref sig .scVector .hbm S4096x128 .f32 := Memref.whole main_v7_1_scv
abbrev listV : Memref sig .scVector .vmem S128 .i32 := Memref.whole cc2_scratch0
abbrev rows1V : Memref sig .scVector .vmem S128x128 .f32 := Memref.whole cc2_scratch1
abbrev rows2V : Memref sig .scVector .vmem S128x128 .f32 := Memref.whole cc2_scratch2

/-- The task's part of the array of positions, as the second call names it. -/
abbrev posS (L : grid0.Coords) : Memref sig .scVector .hbm S128 .i32 :=
  posH.slice (Rect.unit (s := S4096) (k2_off1 L) S128.size (k2_off1_inb L)) (fun _ => rfl)

/-- The task's rows of an array of 4096 rows, as the second call names them. -/
abbrev rowD (m : Memref sig .scVector .hbm S4096x128 .f32) (L : grid0.Coords) : Memref sig .scVector .hbm S128x128 .f32 :=
  m.slice (Rect.unit (s := S4096x128) (k2_off2 L) S128x128.size (k2_off2_inb L)) (fun _ => rfl)

/-- All of an array of 4096 rows, as a gather names it. -/
abbrev allD (m : Memref sig .scVector .hbm S4096x128 .f32) : Memref sig .scVector .hbm S4096x128 .f32 :=
  m.slice (Rect.unit (s := S4096x128) ![0, 0] S4096x128.size inb_S4096x128_S4096x128_0_0) (fun _ => rfl)

/-- The whole array's rectangle holds every index. -/
theorem mem_unit_all (x : S4096x128.Idx) : x ∈ (Rect.unit (s := S4096x128) ![0, 0] S4096x128.size inb_S4096x128_S4096x128_0_0).set := by
  rw [Rect.mem_set_unit]
  intro a
  fin_cases a
  · exact (show 0 ≤ (x 0).val ∧ (x 0).val < 0 + 4096 from ⟨Nat.zero_le _, by rw [Nat.zero_add]; exact (x 0).isLt⟩)
  · exact (show 0 ≤ (x 1).val ∧ (x 1).val < 0 + 128 from ⟨Nat.zero_le _, by rw [Nat.zero_add]; exact (x 1).isLt⟩)

/-- The rows a task writes back start where the rows it read do. -/
theorem off2_same : k2_off2 L = k0_off9 L := (k2_off2_eq L).trans (k0_off9_eq L).symm
/-- So do its positions. -/
theorem off1_same : k2_off1 L = k0_off10 L := (k2_off1_eq L).trans (k0_off10_eq L).symm

/-- The slice of a result that a task writes is its own rows. -/
theorem mem_unit_rows (x : S4096x128.Idx) :
    x ∈ (Rect.unit (s := S4096x128) (k2_off2 L) S128x128.size (k2_off2_inb L)).set ↔ x ∈ ownRows (wid L) := by
  rw [← mem_own_unit_rows, Rect.mem_set_unit, Rect.mem_set_unit, off2_same]

/-- The slice of the positions that a task reads is its own tokens. -/
theorem mem_unit_toks (x : S4096.Idx) : x ∈ (Rect.unit (s := S4096) (k2_off1 L) S128.size (k2_off1_inb L)).set ↔ x ∈ ownToks (wid L) := by
  rw [← mem_own_unit, Rect.mem_set_unit, Rect.mem_set_unit, off1_same]

/-- The view of the positions covers the task's own tokens. -/
theorem posS_set : (posS L).view.set = ownToks (wid L) := (View.set_slice_whole main_v1_1_scv _).trans (Finset.ext mem_unit_toks)

/-- Reading the view of the positions gives the task's words. -/
theorem read_posS (p : S4096.Idx → BitVec 32) : (posS L).view.read (Elt F) p = wordsOf (wid L) p := by
  funext y
  have hy : (y 0).val < 128 := (y 0).isLt
  have hw := wid_lt L
  refine (View.read_apply _ _).trans ((cast_eq _ _).trans ?_)
  unfold wordsOf
  refine congrArg p ?_
  rw [← tokIx_val ((posS L).view.emb y)]
  refine congrArg tokIx ?_
  show k2_off1 L 0 + 1 * (y 0).val = 128 * wid L + (y 0).val
  rw [k2_off1_eq]
  exact (show 256 * (L 1).val + 128 * (L 0).val + 1 * (y 0).val = 128 * wid L + (y 0).val by unfold wid; omega)

/-- A gather's list in range: every position is a row. -/
theorem words_in {p : S4096.Idx → BitVec 32} (hp : ∀ x, (p x).toNat < 4096) (w : ℕ) (x : S128.Idx) :
    (listV.view.read (Elt F) (wordsOf w p) x).toNat < S4096x128.size gathers_S4096x128_S128x128.axis := by
  rw [View.read_whole]
  exact hp _

/-- What a gather by the task's positions reads: the task's rows of the array put back in order. -/
theorem gather_value {p : S4096.Idx → BitVec 32} (hp : ∀ x, (p x).toNat < 4096) (w : ℕ) (hw : w < 32) (y g : S4096x128.Idx → Elt F .f32)
    (hg : ∀ x, g x = y x) (x : S128x128.Idx) :
    SparseCore.gatherPayload gathers_S4096x128_S128x128 g
      (SparseCore.rows (listV.view.read (Elt F) (wordsOf w p)) (rfl : S128.numel = 128) (words_in (F := F) hp w)) x = rowsOf w (backOf p y) x := by
  have hx : (x 0).val < 128 := (x 0).isLt
  unfold SparseCore.gatherPayload rowsOf backOf
  rw [hg]
  have e : ∀ k : Fin 128, (SparseCore.rows (listV.view.read (Elt F) (wordsOf w p)) (rfl : S128.numel = 128) (words_in (F := F) hp w) k).val
      = (p (tokIx (128 * w + k.val))).toNat := by
    intro k
    have e : ∀ z : S128.Idx, (listV.view.read (Elt F) (wordsOf w p) z).toNat = (p (tokIx (128 * w + (S128.rowMajor z).val))).toNat := by
      intro z
      rw [View.read_whole, show (S128.rowMajor z).val = (z 0).val from Shape.rowMajor_val_one z]
      rfl
    refine (e _).trans ?_
    rw [Equiv.apply_symm_apply]
    rfl
  refine congrArg y (ix_ext ?_ ?_)
  · rw [withRow_zero (hp _), show (Shape.Gathers.idx gathers_S4096x128_S128x128 _ x (0 : Fin 2)) = _ from Shape.Gathers.idx_axis gathers_S4096x128_S128x128 _ x]
    refine (e (x 0)).trans ?_
    show _ = (p (tokIx ((128 * w + (x 0).val) % 4096))).toNat
    rw [Nat.mod_eq_of_lt (by omega)]
  · rw [withRow_one]
    exact Shape.Gathers.idx_of_ne gathers_S4096x128_S128x128 _ x (1 : Fin 2) (by decide)

/-- A task's rows of the two results. -/
theorem rowD1_set : (rowD out1H L).view.set = ownRows (wid L) := (View.set_slice_whole main_v7_0_scv _).trans (Finset.ext mem_unit_rows)
/-- The view of the second result covers the task's own rows. -/
theorem rowD2_set : (rowD out2H L).view.set = ownRows (wid L) := (View.set_slice_whole main_v7_1_scv _).trans (Finset.ext mem_unit_rows)
/-- The first sorted array is viewed whole. -/
theorem all1_set : (allD sort1H).view.set = Finset.univ :=
  (View.set_slice_whole main_v6_0_scv _).trans (Finset.ext fun x => iff_of_true (mem_unit_all x) (Finset.mem_univ _))
/-- The second sorted array is viewed whole. -/
theorem all2_set : (allD sort2H).view.set = Finset.univ :=
  (View.set_slice_whole main_v6_1_scv _).trans (Finset.ext fun x => iff_of_true (mem_unit_all x) (Finset.mem_univ _))

/-- The view of the first sorted array keeps every index. -/
theorem all1_emb (x : S4096x128.Idx) : (allD sort1H).view.emb x = x :=
  ix_ext (show 0 + 1 * (x 0).val = (x 0).val by omega) (show 0 + 1 * (x 1).val = (x 1).val by omega)
/-- The view of the second sorted array keeps every index. -/
theorem all2_emb (x : S4096x128.Idx) : (allD sort2H).view.emb x = x :=
  ix_ext (show 0 + 1 * (x 0).val = (x 0).val by omega) (show 0 + 1 * (x 1).val = (x 1).val by omega)

/-- All of an array, read as a gather names it, is the array. -/
theorem read_all1 (y : S4096x128.Idx → Elt F .f32) (x : S4096x128.Idx) : (allD sort1H).view.read (Elt F) y x = y x :=
  (View.read_apply _ _).trans ((cast_eq _ _).trans (congrArg y (all1_emb x)))
/-- Reading the second sorted array whole gives it. -/
theorem read_all2 (y : S4096x128.Idx → Elt F .f32) (x : S4096x128.Idx) : (allD sort2H).view.read (Elt F) y x = y x :=
  (View.read_apply _ _).trans ((cast_eq _ _).trans (congrArg y (all2_emb x)))

/-- Row `z` of the task's rows, as an index of the whole array. -/
theorem rows_at (f : S4096x128.Idx → Elt F .f32) (z : S128x128.Idx) (x : S4096x128.Idx)
    (h0 : (x 0).val = k2_off2 L 0 + 1 * (z 0).val) (h1 : (x 1).val = k2_off2 L 1 + 1 * (z 1).val) : rowsOf (wid L) f z = f x := by
  have hz : (z 0).val < 128 := (z 0).isLt
  have hw := wid_lt L
  rw [k2_off2_eq] at h0 h1
  refine congrArg f (ix_ext ?_ ?_)
  · show (128 * wid L + (z 0).val) % 4096 = (x 0).val
    rw [h0, Nat.mod_eq_of_lt (by omega)]
    exact (show 128 * wid L + (z 0).val = 256 * (L 1).val + 128 * (L 0).val + 1 * (z 0).val by unfold wid; omega)
  · show (z 1).val = (x 1).val
    rw [h1]
    exact (show (z 1).val = 0 + 1 * (z 1).val by omega)

/-- The task's rows of a result, written from a row buffer. -/
theorem write_rows1 (o f : S4096x128.Idx → Elt F .f32) (x : S4096x128.Idx) (hx : x ∈ ownRows (wid L)) :
    (rowD out1H L).view.write (Elt F) o (rows1V.view.read (Elt F) (rowsOf (wid L) f)) Finset.univ x = f x := by
  rw [← rowD1_set] at hx
  obtain ⟨z, -, rfl⟩ := Finset.mem_map.mp hx
  exact (View.write_emb_of_mem _ _ (Finset.mem_univ z)).trans ((cast_eq _ _).trans (rows_at f z _ rfl rfl))
/-- Writing a task's rows to the second result leaves those rows. -/
theorem write_rows2 (o f : S4096x128.Idx → Elt F .f32) (x : S4096x128.Idx) (hx : x ∈ ownRows (wid L)) :
    (rowD out2H L).view.write (Elt F) o (rows2V.view.read (Elt F) (rowsOf (wid L) f)) Finset.univ x = f x := by
  rw [← rowD2_set] at hx
  obtain ⟨z, -, rfl⟩ := Finset.mem_map.mp hx
  exact (View.write_emb_of_mem _ _ (Finset.mem_univ z)).trans ((cast_eq _ _).trans (rows_at f z _ rfl rfl))

/-- What a task of the second call holds of the call's operands. -/
def scatIn (d : Dev nD) (L : grid0.Coords) (q1 q2 : PosShare TreeShare) (p : S4096.Idx → BitVec 32) (y1 y2 o1 o2 : S4096x128.Idx → Elt F .f32) : sProp 𝕄 :=
  iprop(((V d (cV L) (jV L)).loc main_v1_1_scv ↦[ownToks (wid L)]{fullShare} (p : Buf (Elt F) ((V d (cV L) (jV L)).loc main_v1_1_scv)))
    ∗ heldW (F := F) d L main_v6_0_scv q1 y1
    ∗ heldW (F := F) d L main_v6_1_scv q2 y2
    ∗ ((V d (cV L) (jV L)).loc main_v7_0_scv ↦[ownRows (wid L)]{fullShare} (o1 : Buf (Elt F) ((V d (cV L) (jV L)).loc main_v7_0_scv)))
    ∗ ((V d (cV L) (jV L)).loc main_v7_1_scv ↦[ownRows (wid L)]{fullShare} (o2 : Buf (Elt F) ((V d (cV L) (jV L)).loc main_v7_1_scv))))

/-- The task's scratches at given contents. -/
def scratch2 (d : Dev nD) (L : grid0.Coords) (l0 : S128.Idx → BitVec 32) (r1 r2 : S128x128.Idx → Elt F .f32) : sProp 𝕄 :=
  iprop(heldW (F := F) d L cc2_scratch0 fullShare l0 ∗ heldW (F := F) d L cc2_scratch1 fullShare r1 ∗ heldW (F := F) d L cc2_scratch2 fullShare r2)

/-- The task's transfer cells at zero. -/
def cells2 (d : Dev nD) (L : grid0.Coords) : sProp 𝕄 :=
  iprop(cell0 d L cc2_scoped0.sem ∗ cell0 d L cc2_scoped1.sem ∗ cell0 d L cc2_scoped2.sem ∗ cell0 d L cc2_scoped3.sem ∗ cell0 d L cc2_scoped4.sem)

set_option maxHeartbeats 1000000 in
/-- The task, run: its rows of the two results hold its tokens' rows of the two sorted results. -/
theorem scat_run {q1 q2 : PosShare TreeShare} {p : S4096.Idx → BitVec 32} (hp : ∀ x, (p x).toNat < 4096) {y1 y2 o1 o2 : S4096x128.Idx → Elt F .f32}
    {l0 : S128.Idx → BitVec 32} {r1 r2 : S128x128.Idx → Elt F .f32} :
    iprop(Owe (V d (cV L) (jV L)) O W ∗ scatIn d L q1 q2 p y1 y2 o1 o2 ∗ scratch2 (F := F) d L l0 r1 r2 ∗ cells2 d L)
      ⊢ tileWp d L (cc2__scat_body (F := F) L sort1H (Memref.isWhole_whole _) sort2H (Memref.isWhole_whole _) posH (Memref.isWhole_whole _)
          out1H (Memref.isWhole_whole _) out2H (Memref.isWhole_whole _) listV (Memref.isWhole_whole _) rows1V (Memref.isWhole_whole _)
          rows2V (Memref.isWhole_whole _) cc2_scratch3 cc2_scoped0 cc2_scoped1 cc2_scoped2 cc2_scoped3 cc2_scoped4)
      fun _ => iprop(Owe (V d (cV L) (jV L)) O W ∗ scatIn d L q1 q2 p y1 y2 (backOf p y1) (backOf p y2)
        ∗ scratch2 (F := F) d L (wordsOf (wid L) p) (rowsOf (wid L) (backOf p y1)) (rowsOf (wid L) (backOf p y2)) ∗ cells2 d L) := by
  have hw := wid_lt L
  rw [cc2__scat_body_eq_skeleton]
  unfold cc2__scat_body_skel scatIn scratch2 cells2
  have hN1 : ∀ h : S4096x128.Gathers 0 S128x128, ∑ j, (rows1V.slice (S128x128.rowRect h.axis' j) (S128x128.stride_rowRect h.axis' j)).view.dmaCredit
      = rows1V.view.dmaCredit := by decide
  have hN2 : ∀ h : S4096x128.Gathers 0 S128x128, ∑ j, (rows2V.slice (S128x128.rowRect h.axis' j) (S128x128.stride_rowRect h.axis' j)).view.dmaCredit
      = rows2V.view.dmaCredit := by decide
  have hs : 0 < S128x128.numel := by decide
  refine via (B := iprop(Owe (V d (cV L) (jV L)) O W ∗ (heldW (F := F) d L cc2_scratch0 fullShare l0
        ∗ ((V d (cV L) (jV L)).loc main_v1_1_scv ↦[ownToks (wid L)]{fullShare} (p : Buf (Elt F) ((V d (cV L) (jV L)).loc main_v1_1_scv))))
        ∗ cell0 d L cc2_scoped0.sem ∗ heldW (F := F) d L main_v6_0_scv q1 y1 ∗ heldW (F := F) d L main_v6_1_scv q2 y2
        ∗ ((V d (cV L) (jV L)).loc main_v7_0_scv ↦[ownRows (wid L)]{fullShare} (o1 : Buf (Elt F) ((V d (cV L) (jV L)).loc main_v7_0_scv)))
        ∗ ((V d (cV L) (jV L)).loc main_v7_1_scv ↦[ownRows (wid L)]{fullShare} (o2 : Buf (Elt F) ((V d (cV L) (jV L)).loc main_v7_1_scv)))
        ∗ heldW (F := F) d L cc2_scratch1 fullShare r1 ∗ heldW (F := F) d L cc2_scratch2 fullShare r2 ∗ cell0 d L cc2_scoped1.sem
        ∗ cell0 d L cc2_scoped2.sem ∗ cell0 d L cc2_scoped3.sem ∗ cell0 d L cc2_scoped4.sem)) ?_ ?_
  · iintro ⟨HO, ⟨Hp, Hy1, Hy2, Ho1, Ho2⟩, ⟨Hl, Hr1, Hr2⟩, ⟨C0, C1, C2, C3, C4⟩⟩
    isplitl [HO]; · iexact HO
    isplitl [Hl Hp]
    · isplitl [Hl]; · iexact Hl
      iexact Hp
    isplitl [C0]; · iexact C0
    isplitl [Hy1]; · iexact Hy1
    isplitl [Hy2]; · iexact Hy2
    isplitl [Ho1]; · iexact Ho1
    isplitl [Ho2]; · iexact Ho2
    isplitl [Hr1]; · iexact Hr1
    isplitl [Hr2]; · iexact Hr2
    isplitl [C1]; · iexact C1
    isplitl [C2]; · iexact C2
    isplitl [C3]; · iexact C3
    iexact C4
  refine copy_to (F := F) (src := posS L) (dst := listV) (q := fullShare) (fs := p) (fd := l0) rfl (by decide) (View.set_whole _) posS_set
    (wordsOf (wid L) p) (fun i _ => (congrFun (View.write_whole_univ (Val := Elt F) cc2_scratch0 l0 _) i).trans (congrFun (read_posS p) i)) ?_
  refine via (B := iprop(Owe (V d (cV L) (jV L)) O W ∗ (heldW (F := F) d L cc2_scratch1 fullShare r1
        ∗ heldW (F := F) d L main_v6_0_scv q1 y1 ∗ heldW (F := F) d L cc2_scratch0 fullShare (wordsOf (wid L) p))
        ∗ cell0 d L cc2_scoped1.sem
        ∗ ((V d (cV L) (jV L)).loc main_v1_1_scv ↦[ownToks (wid L)]{fullShare} (p : Buf (Elt F) ((V d (cV L) (jV L)).loc main_v1_1_scv)))
        ∗ cell0 d L cc2_scoped0.sem ∗ heldW (F := F) d L main_v6_1_scv q2 y2
        ∗ ((V d (cV L) (jV L)).loc main_v7_0_scv ↦[ownRows (wid L)]{fullShare} (o1 : Buf (Elt F) ((V d (cV L) (jV L)).loc main_v7_0_scv)))
        ∗ ((V d (cV L) (jV L)).loc main_v7_1_scv ↦[ownRows (wid L)]{fullShare} (o2 : Buf (Elt F) ((V d (cV L) (jV L)).loc main_v7_1_scv)))
        ∗ heldW (F := F) d L cc2_scratch2 fullShare r2 ∗ cell0 d L cc2_scoped2.sem ∗ cell0 d L cc2_scoped3.sem
        ∗ cell0 d L cc2_scoped4.sem)) ?_ ?_
  · iintro ⟨HO, ⟨Hl2, Hp⟩, C0, Hy1, Hy2, Ho1, Ho2, Hr1, Hr2, C1, C2, C3, C4⟩
    isplitl [HO]; · iexact HO
    isplitl [Hr1 Hy1 Hl2]
    · isplitl [Hr1]; · iexact Hr1
      isplitl [Hy1]; · iexact Hy1
      iexact Hl2
    isplitl [C1]; · iexact C1
    isplitl [Hp]; · iexact Hp
    isplitl [C0]; · iexact C0
    isplitl [Hy2]; · iexact Hy2
    isplitl [Ho1]; · iexact Ho1
    isplitl [Ho2]; · iexact Ho2
    isplitl [Hr2]; · iexact Hr2
    isplitl [C2]; · iexact C2
    isplitl [C3]; · iexact C3
    iexact C4
  refine gather_to (F := F) (src := allD sort1H) (dst := rows1V) (offs := listV) (hg := gathers_S4096x128_S128x128) (q := q1) (qo := fullShare)
    (fs := y1) (fd := r1) (fo := wordsOf (wid L) p) (hN1 _) hs (words_in (F := F) hp (wid L)) (View.set_whole _) all1_set (View.set_whole _)
    (rowsOf (wid L) (backOf p y1)) (fun i _ => (congrFun (View.write_whole_univ (Val := Elt F) cc2_scratch1 r1 _) i).trans
      (gather_value hp (wid L) hw y1 _ (read_all1 y1) i)) ?_
  refine via (B := iprop(Owe (V d (cV L) (jV L)) O W ∗ (heldW (F := F) d L cc2_scratch2 fullShare r2
        ∗ heldW (F := F) d L main_v6_1_scv q2 y2 ∗ heldW (F := F) d L cc2_scratch0 fullShare (wordsOf (wid L) p))
        ∗ cell0 d L cc2_scoped2.sem
        ∗ ((V d (cV L) (jV L)).loc main_v1_1_scv ↦[ownToks (wid L)]{fullShare} (p : Buf (Elt F) ((V d (cV L) (jV L)).loc main_v1_1_scv)))
        ∗ cell0 d L cc2_scoped0.sem ∗ heldW (F := F) d L cc2_scratch1 fullShare (rowsOf (wid L) (backOf p y1))
        ∗ heldW (F := F) d L main_v6_0_scv q1 y1 ∗ cell0 d L cc2_scoped1.sem
        ∗ ((V d (cV L) (jV L)).loc main_v7_0_scv ↦[ownRows (wid L)]{fullShare} (o1 : Buf (Elt F) ((V d (cV L) (jV L)).loc main_v7_0_scv)))
        ∗ ((V d (cV L) (jV L)).loc main_v7_1_scv ↦[ownRows (wid L)]{fullShare} (o2 : Buf (Elt F) ((V d (cV L) (jV L)).loc main_v7_1_scv)))
        ∗ cell0 d L cc2_scoped3.sem ∗ cell0 d L cc2_scoped4.sem)) ?_ ?_
  · iintro ⟨HO, ⟨Hr1b, Hy1, Hl2⟩, C1, Hp, C0, Hy2, Ho1, Ho2, Hr2, C2, C3, C4⟩
    isplitl [HO]; · iexact HO
    isplitl [Hr2 Hy2 Hl2]
    · isplitl [Hr2]; · iexact Hr2
      isplitl [Hy2]; · iexact Hy2
      iexact Hl2
    isplitl [C2]; · iexact C2
    isplitl [Hp]; · iexact Hp
    isplitl [C0]; · iexact C0
    isplitl [Hr1b]; · iexact Hr1b
    isplitl [Hy1]; · iexact Hy1
    isplitl [C1]; · iexact C1
    isplitl [Ho1]; · iexact Ho1
    isplitl [Ho2]; · iexact Ho2
    isplitl [C3]; · iexact C3
    iexact C4
  refine gather_to (F := F) (src := allD sort2H) (dst := rows2V) (offs := listV) (hg := gathers_S4096x128_S128x128) (q := q2) (qo := fullShare)
    (fs := y2) (fd := r2) (fo := wordsOf (wid L) p) (hN2 _) hs (words_in (F := F) hp (wid L)) (View.set_whole _) all2_set (View.set_whole _)
    (rowsOf (wid L) (backOf p y2)) (fun i _ => (congrFun (View.write_whole_univ (Val := Elt F) cc2_scratch2 r2 _) i).trans
      (gather_value hp (wid L) hw y2 _ (read_all2 y2) i)) ?_
  refine via (B := iprop(Owe (V d (cV L) (jV L)) O W
        ∗ (((V d (cV L) (jV L)).loc main_v7_0_scv ↦[ownRows (wid L)]{fullShare} (o1 : Buf (Elt F) ((V d (cV L) (jV L)).loc main_v7_0_scv)))
        ∗ heldW (F := F) d L cc2_scratch1 fullShare (rowsOf (wid L) (backOf p y1))) ∗ cell0 d L cc2_scoped3.sem
        ∗ ((V d (cV L) (jV L)).loc main_v1_1_scv ↦[ownToks (wid L)]{fullShare} (p : Buf (Elt F) ((V d (cV L) (jV L)).loc main_v1_1_scv)))
        ∗ cell0 d L cc2_scoped0.sem ∗ heldW (F := F) d L main_v6_0_scv q1 y1 ∗ cell0 d L cc2_scoped1.sem
        ∗ heldW (F := F) d L cc2_scratch2 fullShare (rowsOf (wid L) (backOf p y2)) ∗ heldW (F := F) d L main_v6_1_scv q2 y2
        ∗ heldW (F := F) d L cc2_scratch0 fullShare (wordsOf (wid L) p) ∗ cell0 d L cc2_scoped2.sem
        ∗ ((V d (cV L) (jV L)).loc main_v7_1_scv ↦[ownRows (wid L)]{fullShare} (o2 : Buf (Elt F) ((V d (cV L) (jV L)).loc main_v7_1_scv)))
        ∗ cell0 d L cc2_scoped4.sem)) ?_ ?_
  · iintro ⟨HO, ⟨Hr2b, Hy2, Hl2⟩, C2, Hp, C0, Hr1b, Hy1, C1, Ho1, Ho2, C3, C4⟩
    isplitl [HO]; · iexact HO
    isplitl [Ho1 Hr1b]
    · isplitl [Ho1]; · iexact Ho1
      iexact Hr1b
    isplitl [C3]; · iexact C3
    isplitl [Hp]; · iexact Hp
    isplitl [C0]; · iexact C0
    isplitl [Hy1]; · iexact Hy1
    isplitl [C1]; · iexact C1
    isplitl [Hr2b]; · iexact Hr2b
    isplitl [Hy2]; · iexact Hy2
    isplitl [Hl2]; · iexact Hl2
    isplitl [C2]; · iexact C2
    isplitl [Ho2]; · iexact Ho2
    iexact C4
  refine copy_to (F := F) (src := rows1V) (dst := rowD out1H L) (q := fullShare) (fs := rowsOf (wid L) (backOf p y1)) (fd := o1) rfl
    (show 0 < sig.dmaCredit .scVector .hbm main_v7_0_scv.2 S128x128 .f32 by decide) rowD1_set (View.set_whole _)
    (backOf p y1) (write_rows1 o1 (backOf p y1)) ?_
  refine via (B := iprop(Owe (V d (cV L) (jV L)) O W
        ∗ (((V d (cV L) (jV L)).loc main_v7_1_scv ↦[ownRows (wid L)]{fullShare} (o2 : Buf (Elt F) ((V d (cV L) (jV L)).loc main_v7_1_scv)))
        ∗ heldW (F := F) d L cc2_scratch2 fullShare (rowsOf (wid L) (backOf p y2))) ∗ cell0 d L cc2_scoped4.sem
        ∗ ((V d (cV L) (jV L)).loc main_v1_1_scv ↦[ownToks (wid L)]{fullShare} (p : Buf (Elt F) ((V d (cV L) (jV L)).loc main_v1_1_scv)))
        ∗ cell0 d L cc2_scoped0.sem ∗ heldW (F := F) d L main_v6_0_scv q1 y1 ∗ cell0 d L cc2_scoped1.sem
        ∗ heldW (F := F) d L cc2_scratch1 fullShare (rowsOf (wid L) (backOf p y1))
        ∗ ((V d (cV L) (jV L)).loc main_v7_0_scv ↦[ownRows (wid L)]{fullShare} (backOf p y1 : Buf (Elt F) ((V d (cV L) (jV L)).loc main_v7_0_scv)))
        ∗ cell0 d L cc2_scoped3.sem ∗ heldW (F := F) d L main_v6_1_scv q2 y2
        ∗ heldW (F := F) d L cc2_scratch0 fullShare (wordsOf (wid L) p) ∗ cell0 d L cc2_scoped2.sem)) ?_ ?_
  · iintro ⟨HO, ⟨Ho1b, Hr1b⟩, C3, Hp, C0, Hy1, C1, Hr2b, Hy2, Hl2, C2, Ho2, C4⟩
    isplitl [HO]; · iexact HO
    isplitl [Ho2 Hr2b]
    · isplitl [Ho2]; · iexact Ho2
      iexact Hr2b
    isplitl [C4]; · iexact C4
    isplitl [Hp]; · iexact Hp
    isplitl [C0]; · iexact C0
    isplitl [Hy1]; · iexact Hy1
    isplitl [C1]; · iexact C1
    isplitl [Hr1b]; · iexact Hr1b
    isplitl [Ho1b]; · iexact Ho1b
    isplitl [C3]; · iexact C3
    isplitl [Hy2]; · iexact Hy2
    isplitl [Hl2]; · iexact Hl2
    iexact C2
  refine copy_to (F := F) (src := rows2V) (dst := rowD out2H L) (q := fullShare) (fs := rowsOf (wid L) (backOf p y2)) (fd := o2) rfl
    (show 0 < sig.dmaCredit .scVector .hbm main_v7_1_scv.2 S128x128 .f32 by decide) rowD2_set (View.set_whole _)
    (backOf p y2) (write_rows2 o2 (backOf p y2)) ?_
  refine ret_step (F := F) ?_
  iintro ⟨HO, ⟨Ho2b, Hr2b⟩, C4, Hp, C0, Hy1, C1, Hr1b, Ho1b, C3, Hy2, Hl2, C2⟩
  isplitl [HO]; · iexact HO
  isplitl [Hp Hy1 Hy2 Ho1b Ho2b]
  · isplitl [Hp]; · iexact Hp
    isplitl [Hy1]; · iexact Hy1
    isplitl [Hy2]; · iexact Hy2
    isplitl [Ho1b]; · iexact Ho1b
    iexact Ho2b
  isplitl [Hl2 Hr1b Hr2b]
  · isplitl [Hl2]; · iexact Hl2
    isplitl [Hr1b]; · iexact Hr1b
    iexact Hr2b
  isplitl [C0]; · iexact C0
  isplitl [C1]; · iexact C1
  isplitl [C2]; · iexact C2
  isplitl [C3]; · iexact C3
  iexact C4

end Cert.Proof

end
-- ==== Proof.Tasks.lean ====
/-
  The two calls' tasks against what the launch hands a vector subcore: its own scratch buffers and its own transfer cells
  are taken out, the task runs on them, and they are handed back.
-/
module

public import proofs.«01_k».proof.Proof.Dispatch
public import proofs.«01_k».proof.Proof.Scat

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Counting

variable {F : FTy → Type}

local notation "𝕄" => MT nD τ sig (HIx 2) (Elt F) ℕ UU ℕ

/-! ## A vector subcore's own buffers and cells, some of them taken out -/

/-- A scratch buffer of the task, at whatever it holds. -/
abbrev anyBuf (d : Dev nD) (L : grid0.Coords) (b : Ref sig .scVector) : sProp 𝕄 :=
  iprop(∃ f, (V d (cV L) (jV L)).loc b ↦{fullShare} f)

/-- The subcore's own buffers are those named by `l`, each at whatever it holds, and the rest. -/
theorem ownBufs_split (d : Dev nD) (L : grid0.Coords) (l : Finset (Ref sig .scVector))
    (h : ∀ b ∈ l, ((Proc.scVector (cV L) (jV L)).devRef b).owner = .proc (.scVector (cV L) (jV L))) :
    (ownBufs (V d (cV L) (jV L)) : sProp 𝕄)
      = iprop((bigSep l fun b => anyBuf (F := F) d L b)
          ∗ bigSep (ownRefs (τ := τ) (.scVector (cV L) (jV L)) \ l.map ⟨(Proc.scVector (cV L) (jV L)).devRef, Proc.devRef_injective _⟩)
              fun b => iprop(∃ f, ((d, b) : Loc nD τ sig) ↦{fullShare} f)) := by
  unfold SparseCore.Cfg.ownBufs
  refine (SparseCore.bigSep_sdiff_split' (t := l.map ⟨(Proc.scVector (cV L) (jV L)).devRef, Proc.devRef_injective _⟩) ?_).trans ?_
  · intro b hb
    obtain ⟨r, hr, rfl⟩ := Finset.mem_map.mp hb
    exact SparseCore.Cfg.mem_ownRefs_of_owner (h r hr)
  · rw [BI.bigSep_map]; rfl

/-- A transfer cell of the task, at zero. -/
abbrev cellAt (d : Dev nD) (L : grid0.Coords) (s : SemLoc sig) : sProp 𝕄 := semVal (V d (cV L) (jV L), s) 0

/-- The subcore's own cells at zero are those named by `l` and the rest. -/
theorem ownSems0_split (d : Dev nD) (L : grid0.Coords) (l : Finset (SemLoc sig)) (h : ∀ s ∈ l, s.isScoped .scVector = true) :
    (ownSems0 (V d (cV L) (jV L)) : sProp 𝕄)
      = iprop((bigSep l fun s => cellAt (F := F) d L s)
          ∗ bigSep (ownCells (V d (cV L) (jV L)) \ l.map ⟨fun s => ((V d (cV L) (jV L), s) : GSem nD τ sig), fun _ _ e => (Prod.mk.inj e).2⟩)
              fun g => semVal g 0) := by
  unfold SparseCore.Cfg.ownSems0
  refine (SparseCore.bigSep_sdiff_split' (t := l.map ⟨fun s => ((V d (cV L) (jV L), s) : GSem nD τ sig), fun _ _ e => (Prod.mk.inj e).2⟩) ?_).trans ?_
  · intro g hg
    obtain ⟨s, hs, rfl⟩ := Finset.mem_map.mp hg
    exact mem_ownCells.mpr ⟨rfl, h s hs⟩
  · rw [BI.bigSep_map]; rfl

/-- The waits the launch allows are what a task is written against. -/
theorem owe_of_launch [FloatOps F] {t : Thread nD τ} {O : CellTallies nD τ sig (HIx 2)} {W : Waits sig (HIx 2)} (hO : ∀ g, O g none = 0) :
    iprop(levAts (sc (F := F)).L (sc (F := F)).lev ∗ owes t O W) ⊢ (Owe t O W : sProp 𝕄) := by
  iintro ⟨Hlv, HO⟩
  ihave Hmw := (show levAts (sc (F := F)).L (sc (F := F)).lev ⊢ Transfers.MayWaits t (default : HIx 2) O from
    (sc (F := F)).mayWaits_none (thr := t) hO) $$ Hlv
  unfold Owe
  isplitl [Hmw]; · iexact Hmw
  iexists W; isplitr
  · ipureintro; exact fun p hp => .inl hp
  · iexact HO

/-! ## Call 0's buffers and cells -/

/-- The scratch buffers the task of call 0 names. -/
abbrev bufs0 : Finset (Ref sig .scVector) := {cc0_scratch0, cc0_scratch1, cc0_scratch2, cc0_scratch3, cc0_scratch4, cc0_scratch5}
/-- The transfer cells the task of call 0 names. -/
abbrev sems0 : Finset (SemLoc sig) := {.dma cc0_scoped0.sem, .dma cc0_scoped1.sem, .dma cc0_scoped2.sem, .dma cc0_scoped3.sem, .dma cc0_scoped4.sem}

/-- They are the subcore's own. -/
theorem bufs0_own (L : grid0.Coords) : ∀ b ∈ bufs0, ((Proc.scVector (cV L) (jV L)).devRef b).owner = .proc (.scVector (cV L) (jV L)) := by
  intro b hb
  simp only [bufs0, Finset.mem_insert, Finset.mem_singleton] at hb
  rcases hb with rfl | rfl | rfl | rfl | rfl | rfl <;> rfl

/-- They are the subcore's own. -/
theorem sems0_scoped : ∀ s ∈ sems0, (s : SemLoc sig).isScoped .scVector = true := by decide

/-- They are held one by one. -/
theorem bufs0_eq (d : Dev nD) (L : grid0.Coords) :
    (bigSep bufs0 fun b => anyBuf (F := F) d L b)
      = iprop(anyBuf (F := F) d L cc0_scratch0 ∗ anyBuf (F := F) d L cc0_scratch1 ∗ anyBuf (F := F) d L cc0_scratch2 ∗ anyBuf (F := F) d L cc0_scratch3 ∗ anyBuf (F := F) d L cc0_scratch4 ∗ anyBuf (F := F) d L cc0_scratch5) := by
  rw [SparseCore.bigSep_insert' (by decide), SparseCore.bigSep_insert' (by decide), SparseCore.bigSep_insert' (by decide), SparseCore.bigSep_insert' (by decide), SparseCore.bigSep_insert' (by decide), bigSep_singleton]

/-- They are held one by one. -/
theorem sems0_eq (d : Dev nD) (L : grid0.Coords) :
    (bigSep sems0 fun s => cellAt (F := F) d L s)
      = iprop(cell0 (F := F) d L cc0_scoped0.sem ∗ cell0 (F := F) d L cc0_scoped1.sem ∗ cell0 (F := F) d L cc0_scoped2.sem ∗ cell0 (F := F) d L cc0_scoped3.sem ∗ cell0 (F := F) d L cc0_scoped4.sem) := by
  rw [SparseCore.bigSep_insert' (by decide), SparseCore.bigSep_insert' (by decide), SparseCore.bigSep_insert' (by decide), SparseCore.bigSep_insert' (by decide), bigSep_singleton]

/-! ## Call 1's buffers and cells -/

/-- The scratch buffers the task of call 1 names. -/
abbrev bufs1 : Finset (Ref sig .scVector) := {cc2_scratch0, cc2_scratch1, cc2_scratch2}
/-- The transfer cells the task of call 1 names. -/
abbrev sems1 : Finset (SemLoc sig) := {.dma cc2_scoped0.sem, .dma cc2_scoped1.sem, .dma cc2_scoped2.sem, .dma cc2_scoped3.sem, .dma cc2_scoped4.sem}

/-- They are the subcore's own. -/
theorem bufs1_own (L : grid0.Coords) : ∀ b ∈ bufs1, ((Proc.scVector (cV L) (jV L)).devRef b).owner = .proc (.scVector (cV L) (jV L)) := by
  intro b hb
  simp only [bufs1, Finset.mem_insert, Finset.mem_singleton] at hb
  rcases hb with rfl | rfl | rfl <;> rfl

/-- They are the subcore's own. -/
theorem sems1_scoped : ∀ s ∈ sems1, (s : SemLoc sig).isScoped .scVector = true := by decide

/-- They are held one by one. -/
theorem bufs1_eq (d : Dev nD) (L : grid0.Coords) :
    (bigSep bufs1 fun b => anyBuf (F := F) d L b)
      = iprop(anyBuf (F := F) d L cc2_scratch0 ∗ anyBuf (F := F) d L cc2_scratch1 ∗ anyBuf (F := F) d L cc2_scratch2) := by
  rw [SparseCore.bigSep_insert' (by decide), SparseCore.bigSep_insert' (by decide), bigSep_singleton]

/-- They are held one by one. -/
theorem sems1_eq (d : Dev nD) (L : grid0.Coords) :
    (bigSep sems1 fun s => cellAt (F := F) d L s)
      = iprop(cell0 (F := F) d L cc2_scoped0.sem ∗ cell0 (F := F) d L cc2_scoped1.sem ∗ cell0 (F := F) d L cc2_scoped2.sem ∗ cell0 (F := F) d L cc2_scoped3.sem ∗ cell0 (F := F) d L cc2_scoped4.sem) := by
  rw [SparseCore.bigSep_insert' (by decide), SparseCore.bigSep_insert' (by decide), SparseCore.bigSep_insert' (by decide), SparseCore.bigSep_insert' (by decide), bigSep_singleton]

/-! ## The tasks -/

variable [FloatOps F] {d : Dev nD} {L : grid0.Coords} {O : CellTallies nD τ sig (HIx 2)} {W : Waits sig (HIx 2)}

/-- A task that runs on some of the subcore's buffers and cells runs on what the launch hands the subcore. -/
theorem task_wrap (hF : (sc (F := F)).Facts) (hO : ∀ g, O g none = 0) {p : TProg F L PUnit} {A B : sProp 𝕄}
    (l : Finset (Ref sig .scVector)) (hl : ∀ b ∈ l, ((Proc.scVector (cV L) (jV L)).devRef b).owner = .proc (.scVector (cV L) (jV L)))
    (s : Finset (SemLoc sig)) (hs : ∀ x ∈ s, x.isScoped .scVector = true)
    (run : (iprop(Owe (V d (cV L) (jV L)) O W ∗ A ∗ (bigSep l fun b => anyBuf (F := F) d L b) ∗ (bigSep s fun x => cellAt (F := F) d L x)) : sProp 𝕄)
      ⊢ tileWp d L p fun _ => iprop(Owe (V d (cV L) (jV L)) O W ∗ B ∗ (bigSep l fun b => anyBuf (F := F) d L b)
          ∗ (bigSep s fun x => cellAt (F := F) d L x))) :
    iprop(levAts (sc (F := F)).L (sc (F := F)).lev ∗ emp ∗ A
        ∗ scopedBufs (V d (cV L) (jV L)) ∗ scopedSems0 (V d (cV L) (jV L)) ∗ owes (V d (cV L) (jV L)) O W)
      ⊢ tileWp d L p fun _ => iprop(B ∗ scopedBufs (V d (cV L) (jV L)) ∗ scopedSems0 (V d (cV L) (jV L))
        ∗ ∃ W', ⌜∀ p ∈ W', p ∈ W ∨ p.2 = none⌝ ∗ owes (V d (cV L) (jV L)) O W') := by
  rw [(sc (F := F)).scopedBufs_V hF d (cV L) (jV L), SparseCore.Cfg.scopedSems0_V (Val := Elt F) d (cV L) (jV L),
    ownSems0_split d L s hs, ownBufs_split d L l hl]
  iintro ⟨Hlv, -, HA, ⟨Hl, Hb⟩, ⟨Hs, Hc⟩, HO⟩
  ihave Howe := (owe_of_launch (F := F) hO) $$ [Hlv HO]
  · isplitl [Hlv]; · iexact Hlv
    iexact HO
  ihave Hw := run $$ [Howe HA Hl Hs]
  · isplitl [Howe]; · iexact Howe
    isplitl [HA]; · iexact HA
    isplitl [Hl]; · iexact Hl
    iexact Hs
  iapply (wp_wand frame _ _) $$ [Hw]
  · iexact Hw
  unfold Owe
  iintro %r ⟨⟨-, Howe⟩, HB, Hl, Hs⟩
  isplitl [HB]; · iexact HB
  isplitl [Hl Hb]
  · isplitl [Hl]; · iexact Hl
    iexact Hb
  isplitl [Hs Hc]
  · isplitl [Hs]; · iexact Hs
    iexact Hc
  iexact Howe

/-- The program of the first call's task. -/
def dispProg (F : FTy → Type) [FloatOps F] (L : grid0.Coords) : TProg F L PUnit := atArgs L (cc0__dispatch_body (F := F))

/-- The first call's task on its scratch buffers at whatever they hold. -/
theorem dispatch_any {G : S4096.Idx → BitVec 32} (hG : GoalsOk G) {q qf : PosShare TreeShare} {f fs : S4096x128.Idx → Elt F .f32}
    {fp : S4096.Idx → BitVec 32} {fg : IVec S16 32} :
    iprop(Owe (V d (cV L) (jV L)) O W ∗ taskIn d L q qf G f fs fp fg ∗ (bigSep bufs0 fun b => anyBuf (F := F) d L b)
        ∗ (bigSep sems0 fun x => cellAt (F := F) d L x))
      ⊢ tileWp d L (dispProg F L)
      fun _ => iprop(Owe (V d (cV L) (jV L)) O W ∗ taskIn d L q qf G f (sortedOf G f) (posOf G) (startW G)
        ∗ (bigSep bufs0 fun b => anyBuf (F := F) d L b) ∗ (bigSep sems0 fun x => cellAt (F := F) d L x)) := by
  unfold dispProg
  rw [bufs0_eq, sems0_eq]
  iintro ⟨HO, HT, ⟨⟨%f0, H0⟩, ⟨%f1, H1⟩, ⟨%f2, H2⟩, ⟨%f3, H3⟩, ⟨%f4, H4⟩, ⟨%f5, H5⟩⟩, HC⟩
  ihave Hw := (dispatch_run (d := d) (L := L) (O := O) (W := W) (T := f2) (R := f1) (S := f3) (P := f4) hG (q := q) (qf := qf) (f := f) (fs := fs)
    (fp := fp) (G0 := f0) (fg := fg) (fr := f5)) $$ [HO HT H0 H1 H2 H3 H4 H5 HC]
  · isplitl [HO]; · iexact HO
    isplitl [HT]; · iexact HT
    isplitr [HC]
    · unfold scratch
      isplitl [H0]; · iexact H0
      isplitl [H1]; · iexact H1
      isplitl [H2]; · iexact H2
      isplitl [H3]; · iexact H3
      isplitl [H4]; · iexact H4
      iexact H5
    · unfold cells; iexact HC
  iapply (wp_wand frame _ _) $$ [Hw]
  · iexact Hw
  unfold scratch cells
  iintro %r ⟨HO, HT, ⟨%g1, %g2, %g3, H0, H1, H2, H3, H4, H5⟩, HC⟩
  isplitl [HO]; · iexact HO
  isplitl [HT]; · iexact HT
  isplitr [HC]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact HC

/-- The program of the second call's task. -/
def scatProg (F : FTy → Type) [FloatOps F] (L : grid0.Coords) : TProg F L PUnit :=
  cc2__scat_body (F := F) L sort1H (Memref.isWhole_whole _) sort2H (Memref.isWhole_whole _) posH (Memref.isWhole_whole _)
    out1H (Memref.isWhole_whole _) out2H (Memref.isWhole_whole _) listV (Memref.isWhole_whole _) rows1V (Memref.isWhole_whole _)
    rows2V (Memref.isWhole_whole _) cc2_scratch3 cc2_scoped0 cc2_scoped1 cc2_scoped2 cc2_scoped3 cc2_scoped4

/-- The second call's task on its scratch buffers at whatever they hold. -/
theorem scat_any {q1 q2 : PosShare TreeShare} {p : S4096.Idx → BitVec 32} (hp : ∀ x, (p x).toNat < 4096) {y1 y2 o1 o2 : S4096x128.Idx → Elt F .f32} :
    iprop(Owe (V d (cV L) (jV L)) O W ∗ scatIn d L q1 q2 p y1 y2 o1 o2 ∗ (bigSep bufs1 fun b => anyBuf (F := F) d L b)
        ∗ (bigSep sems1 fun x => cellAt (F := F) d L x))
      ⊢ tileWp d L (scatProg F L)
      fun _ => iprop(Owe (V d (cV L) (jV L)) O W ∗ scatIn d L q1 q2 p y1 y2 (backOf p y1) (backOf p y2)
        ∗ (bigSep bufs1 fun b => anyBuf (F := F) d L b) ∗ (bigSep sems1 fun x => cellAt (F := F) d L x)) := by
  unfold scatProg
  rw [bufs1_eq, sems1_eq]
  iintro ⟨HO, HT, ⟨⟨%f0, H0⟩, ⟨%f1, H1⟩, ⟨%f2, H2⟩⟩, HC⟩
  ihave Hw := (scat_run (d := d) (L := L) (O := O) (W := W) (q1 := q1) (q2 := q2) hp (y1 := y1) (y2 := y2) (o1 := o1) (o2 := o2)
    (l0 := f0) (r1 := f1) (r2 := f2)) $$ [HO HT H0 H1 H2 HC]
  · isplitl [HO]; · iexact HO
    isplitl [HT]; · iexact HT
    isplitr [HC]
    · unfold scratch2
      isplitl [H0]; · iexact H0
      isplitl [H1]; · iexact H1
      iexact H2
    · unfold cells2; iexact HC
  iapply (wp_wand frame _ _) $$ [Hw]
  · iexact Hw
  unfold scratch2 cells2
  iintro %r ⟨HO, HT, ⟨H0, H1, H2⟩, HC⟩
  isplitl [HO]; · iexact HO
  isplitl [HT]; · iexact HT
  isplitr [HC]
  · isplitl [H0]; · iexists _; iexact H0
    isplitl [H1]; · iexists _; iexact H1
    iexists _; iexact H2
  · iexact HC

end Cert.Proof

end
-- ==== Proof.Deal.lean ====
/-
  The calls' operands dealt to the thirty-two tasks and brought together again: an array every task reads is dealt as
  shares, an array every task has rows of is dealt by those rows, the starts go to the first task.
-/
module

public import proofs.«01_k».proof.Proof.Tasks

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Counting

variable {F : FTy → Type}

local notation "𝕄" => MT nD τ sig (HIx 2) (Elt F) ℕ UU ℕ

/-- The coordinates of the task on subcore `i` of core `c`. -/
def coords (c : Fin 2) (i : Fin 16) : grid0.Coords :=
  fun | 0 => c | 1 => i | ⟨_ + 2, h⟩ => absurd h (Nat.not_lt.2 (Nat.le_add_left _ _))

/-- Its worker number. -/
theorem wid_coords (c : Fin 2) (i : Fin 16) : wid (coords c i) = 2 * i.val + c.val := rfl

/-- Worker numbers tell tasks apart. -/
theorem wid_coords_inj {p q : Fin 2 × Fin 16} (h : wid (coords p.1 p.2) = wid (coords q.1 q.2)) : p = q := by
  obtain ⟨a, b⟩ := p; obtain ⟨a', b'⟩ := q
  rw [wid_coords, wid_coords] at h
  have h1 := a.isLt; have h2 := a'.isLt
  refine Prod.ext (Fin.ext ?_) (Fin.ext ?_) <;> dsimp only at h ⊢ <;> omega

/-- Every number below 32 is a task's. -/
theorem wid_coords_surj {w : ℕ} (h : w < 32) : ∃ p : Fin 2 × Fin 16, wid (coords p.1 p.2) = w :=
  ⟨(⟨w % 2, by omega⟩, ⟨w / 2, by omega⟩), by rw [wid_coords]; dsimp only; omega⟩

/-- The task's share of an array every task reads. -/
def shareOf (c : Fin 2) (i : Fin 16) : PosShare TreeShare :=
  Transfers.dealOf (Transfers.dealOf fullShare Finset.univ c) Finset.univ i

/-- An array every task reads, dealt. -/
theorem deal_shares (ℓ : Loc nD τ sig) (f : Buf (Elt F) ℓ) :
    (ℓ ↦{fullShare} f : sProp 𝕄) = bigSep Finset.univ fun c : Fin 2 => bigSep Finset.univ fun i : Fin 16 => ℓ ↦{shareOf c i} f := by
  rw [Transfers.pointsTo_deal (Finset.univ : Finset (Fin 2)) Finset.univ_nonempty fullShare]
  refine bigSep_congr fun c _ => ?_
  exact Transfers.pointsTo_deal (Finset.univ : Finset (Fin 16)) Finset.univ_nonempty _

/-- An array dealt by rows: each place belongs to the task of number `φ`. -/
theorem deal_rows (ℓ : Loc nD τ sig) (f : Buf (Elt F) ℓ) (R : ℕ → Finset (Idx ℓ)) (φ : Idx ℓ → ℕ) (hφ : ∀ x, φ x < 32)
    (hR : ∀ w x, x ∈ R w ↔ φ x = w) :
    (ℓ ↦{fullShare} f : sProp 𝕄)
      = bigSep Finset.univ fun c : Fin 2 => bigSep Finset.univ fun i : Fin 16 => ℓ ↦[R (wid (coords c i))]{fullShare} f := by
  rw [← BI.bigSep_univ_prod (fun p : Fin 2 × Fin 16 => (ℓ ↦[R (wid (coords p.1 p.2))]{fullShare} f : sProp 𝕄)),
    ← pointsTo_biUnion Finset.univ (fun p : Fin 2 × Fin 16 => R (wid (coords p.1 p.2)))]
  · rw [show (Finset.univ : Finset (Fin 2 × Fin 16)).biUnion (fun p => R (wid (coords p.1 p.2))) = Finset.univ from ?_]
    refine Finset.ext fun x => ?_
    rw [Finset.mem_biUnion]
    refine ⟨fun _ => Finset.mem_univ _, fun _ => ?_⟩
    obtain ⟨p, hp⟩ := wid_coords_surj (hφ x)
    exact ⟨p, Finset.mem_univ _, (hR _ _).mpr hp.symm⟩
  · intro p _ q _ hpq
    refine Finset.disjoint_left.mpr fun x h1 h2 => hpq (wid_coords_inj ?_)
    rw [← (hR _ _).mp h1, ← (hR _ _).mp h2]

/-- Nothing, over and over, is nothing. -/
theorem bigSep_emp_of {I : Type} (s : Finset I) : (bigSep s fun _ => iprop(emp)) = (iprop(emp) : sProp 𝕄) := bigSep_emp_const s

/-- What only the first task has, dealt. -/
theorem deal_first (A : sProp 𝕄) :
    (bigSep Finset.univ fun c : Fin 2 => bigSep Finset.univ fun i : Fin 16 => if wid (coords c i) = 0 then A else iprop(emp)) = A := by
  rw [← BI.bigSep_univ_prod (fun p : Fin 2 × Fin 16 => (if wid (coords p.1 p.2) = 0 then A else iprop(emp) : sProp 𝕄)),
    SparseCore.bigSep_erase' (Finset.mem_univ ((0, 0) : Fin 2 × Fin 16)), if_pos (by rfl),
    show (bigSep (Finset.univ.erase ((0, 0) : Fin 2 × Fin 16)) fun p => (if wid (coords p.1 p.2) = 0 then A else iprop(emp) : sProp 𝕄))
      = bigSep (Finset.univ.erase ((0, 0) : Fin 2 × Fin 16)) fun _ => iprop(emp) from
      bigSep_congr fun p hp => if_neg fun h => (Finset.mem_erase.mp hp).1 (wid_coords_inj (q := (0, 0)) h),
    bigSep_emp_of]
  exact equiv_iff.mp sep_emp

/-- A row number below 4096 is one of a task's. -/
theorem div_lt {n : ℕ} (h : n < 4096) : n / 128 < 32 := by omega

/-- The first call's operands are the tasks' parts of them. -/
theorem deal_taskIn (d : Dev nD) (G : S4096.Idx → BitVec 32) (f fs : S4096x128.Idx → Elt F .f32) (fp : S4096.Idx → BitVec 32) (fg : IVec S16 32) :
    (iprop(((T d : Thread nD τ).loc main_v0 ↦{fullShare} (G : Buf (Elt F) ((T d : Thread nD τ).loc main_v0)))
        ∗ ((T d : Thread nD τ).loc main_arg0 ↦{fullShare} (f : Buf (Elt F) ((T d : Thread nD τ).loc main_arg0)))
        ∗ ((T d : Thread nD τ).loc main_v1_0 ↦{fullShare} (fs : Buf (Elt F) ((T d : Thread nD τ).loc main_v1_0)))
        ∗ ((T d : Thread nD τ).loc main_v1_1 ↦{fullShare} (fp : Buf (Elt F) ((T d : Thread nD τ).loc main_v1_1)))
        ∗ ((T d : Thread nD τ).loc main_v1_2 ↦{fullShare} (fg : Buf (Elt F) ((T d : Thread nD τ).loc main_v1_2)))) : sProp 𝕄)
      = bigSep Finset.univ fun c : Fin 2 => bigSep Finset.univ fun i : Fin 16 =>
          taskIn (F := F) d (coords c i) (shareOf c i) fullShare G f fs fp fg := by
  rw [deal_shares ((T d : Thread nD τ).loc main_v0),
    deal_rows ((T d : Thread nD τ).loc main_arg0) f ownRows (fun x => ((x : S4096x128.Idx) 0).val / 128) (fun x => div_lt (x 0).isLt) (fun _ _ => mem_ownRows),
    deal_rows ((T d : Thread nD τ).loc main_v1_0) fs (sortRows G) (fun x => tok (goalOf G) 4096 ((x : S4096x128.Idx) 0).val / 128)
      (fun x => div_lt (tok_lt _ (x 0).isLt)) (fun _ _ => mem_sortRows),
    deal_rows ((T d : Thread nD τ).loc main_v1_1) fp ownToks (fun x => ((x : S4096.Idx) 0).val / 128) (fun x => div_lt (x 0).isLt) (fun _ _ => mem_ownToks),
    ← deal_first ((T d : Thread nD τ).loc main_v1_2 ↦{fullShare} (fg : Buf (Elt F) ((T d : Thread nD τ).loc main_v1_2)))]
  simp only [← bigSep_sep']
  rfl

/-- The second call's operands are the tasks' parts of them. -/
theorem deal_scatIn (d : Dev nD) (p : S4096.Idx → BitVec 32) (y1 y2 o1 o2 : S4096x128.Idx → Elt F .f32) :
    (iprop(((T d : Thread nD τ).loc main_v1_1 ↦{fullShare} (p : Buf (Elt F) ((T d : Thread nD τ).loc main_v1_1)))
        ∗ ((T d : Thread nD τ).loc main_v6_0 ↦{fullShare} (y1 : Buf (Elt F) ((T d : Thread nD τ).loc main_v6_0)))
        ∗ ((T d : Thread nD τ).loc main_v6_1 ↦{fullShare} (y2 : Buf (Elt F) ((T d : Thread nD τ).loc main_v6_1)))
        ∗ ((T d : Thread nD τ).loc main_v7_0 ↦{fullShare} (o1 : Buf (Elt F) ((T d : Thread nD τ).loc main_v7_0)))
        ∗ ((T d : Thread nD τ).loc main_v7_1 ↦{fullShare} (o2 : Buf (Elt F) ((T d : Thread nD τ).loc main_v7_1)))) : sProp 𝕄)
      = bigSep Finset.univ fun c : Fin 2 => bigSep Finset.univ fun i : Fin 16 =>
          scatIn (F := F) d (coords c i) (shareOf c i) (shareOf c i) p y1 y2 o1 o2 := by
  rw [deal_rows ((T d : Thread nD τ).loc main_v1_1) p ownToks (fun x => ((x : S4096.Idx) 0).val / 128) (fun x => div_lt (x 0).isLt) (fun _ _ => mem_ownToks),
    deal_shares ((T d : Thread nD τ).loc main_v6_0), deal_shares ((T d : Thread nD τ).loc main_v6_1),
    deal_rows ((T d : Thread nD τ).loc main_v7_0) o1 ownRows (fun x => ((x : S4096x128.Idx) 0).val / 128) (fun x => div_lt (x 0).isLt) (fun _ _ => mem_ownRows),
    deal_rows ((T d : Thread nD τ).loc main_v7_1) o2 ownRows (fun x => ((x : S4096x128.Idx) 0).val / 128) (fun x => div_lt (x 0).isLt) (fun _ _ => mem_ownRows)]
  simp only [← bigSep_sep']
  rfl

end Cert.Proof

end
-- ==== Proof.Experts.lean ====
/-
  The TensorCore kernel's body at one grid point: sixteen trips, one per goal value, each replacing in the two result
  blocks the rows that belong to the goal's segment by what the goal's two networks make of the block of sorted rows.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable {α : Type} {Q : α → sProp (MT nD τ sig (HIx 2) (Elt F) ℕ UU ℕ)}

/-! ## Loads and stores of a staging buffer owned at what it reads -/

/-- The program of the TensorCore. -/
abbrev CProg (F : FTy → Type) (α : Type) : Type 1 := Prog (TpuEff nD τ sig (Elt F) Λ₀ .tc) α

/-- A program of the kernel's run on the TensorCore. -/
abbrev coreWp (c : Dev nD) (p : CProg F α) (Q : α → sProp (MT nD τ sig (HIx 2) (Elt F) ℕ UU ℕ)) :
    sProp (MT nD τ sig (HIx 2) (Elt F) ℕ UU ℕ) :=
  wp frame (wpE (defs₀ (F := F)) 𝒱₀ (c : Thread nD τ) none) Set.univ p Q

/-- A program that returns meets its post there. -/
theorem ret_core {c : Dev nD} {r : α} : Q r ⊢ coreWp c (Pure.pure r) Q := by
  show Q r ⊢ iprop(|={Set.univ}[frame]=> Q r)
  exact fupd_intro

/-- The part of contents a rectangle holds. -/
abbrev part {s : Shape} {e : EltTy} (X : s.Idx → Elt F e) (r : Rect s) : r.shape.Idx → Elt F e := fun x => X (r.idx x)

/-- A load through a rectangle reads the rectangle's part of what the buffer holds. -/
theorem load_part (c : Dev nD) {cs : CoreSpace} {s : Shape} {e : EltTy} {M : Memref sig .tc cs s e} {r : Rect s}
    {hl : M.view.LoadsAt r.toLoadRect} {q : PosShare TreeShare} {X : s.Idx → Elt F e} {k : (r.shape.Idx → Elt F e) → CProg F α} :
    (owns (c : Thread nD τ) M q X : sProp 𝕄)
      ⊢ iprop((owns (c : Thread nD τ) M q X -∗ coreWp c (k (part X r)) Q) -∗ coreWp c (Prog.lift (.load M r.toLoadRect hl) >>= k) Q) := by
  unfold owns
  iintro ⟨%f, %hf, H⟩ Hk
  subst hf
  iapply (wp_load_rect (defs := defs₀ (F := F)) 𝒱₀ (c : Thread nD τ) none Set.univ (m := M) (r := r) (k := k) (hl := hl) (q := q) (f := f)
    (View.set_slice_subset _ _)) $$ H
  iintro H
  iapply Hk
  iexists f; isplitr; · ipureintro; rfl
  iexact H

/-- A load of one word of a scalar buffer. -/
theorem load_word (c : Dev nD) {s : Shape} {e : EltTy} {M : Memref sig .tc .smem s e} {r : Rect s} {h1 : r.shape.numel = 1}
    {hp : e.packing = 1} {q : PosShare TreeShare} {X : s.Idx → Elt F e} {k : Elt F e → CProg F α} :
    (owns (c : Thread nD τ) M q X : sProp 𝕄)
      ⊢ iprop((owns (c : Thread nD τ) M q X -∗ coreWp c (k (X (r.idx (Shape.Idx.first (h1.symm ▸ Nat.one_pos))))) Q)
          -∗ coreWp c (smemLoad M r h1 hp >>= k) Q) := by
  unfold owns
  iintro ⟨%f, %hf, H⟩ Hk
  subst hf
  iapply (wp_smemLoadElt (defs := defs₀ (F := F)) 𝒱₀ (c : Thread nD τ) none Set.univ (m := M) (r := r)
    (x := Shape.Idx.first (h1.symm ▸ Nat.one_pos)) (hw := View.loads_smem_one hp h1) (k := k) (q := q) (f := f)
    (View.set_slice_subset _ _)) $$ H
  iintro H
  iapply Hk
  iexists f; isplitr; · ipureintro; rfl
  iexact H

/-- The rectangle of a whole block names each element by itself. -/
theorem whole_idx {off : Fin 2 → ℕ} (ho : off = fun _ => 0) (inb : ∀ a, off a + S256x128.size a ≤ S256x128.size a) (x : S256x128.Idx) :
    (Rect.unit (s := S256x128) off S256x128.size inb).idx x = x := by
  subst ho
  funext a
  exact Fin.ext (show 0 + 1 * (x a).val = (x a).val by omega)

/-- A pair of zeros is the zero offset. -/
theorem zeros_two : (![0, 0] : Fin 2 → ℕ) = fun _ => 0 := by funext a; fin_cases a <;> rfl

/-- A load of a whole block reads what the buffer holds. -/
theorem load_block (c : Dev nD) {e : EltTy} {M : Memref sig .tc .vmem S256x128 e}
    {hl : M.view.LoadsAt (Rect.unit (s := S256x128) ![0, 0] S256x128.size inb_S256x128_S256x128_0_0).toLoadRect} {q : PosShare TreeShare}
    {X : S256x128.Idx → Elt F e} {k : (S256x128.Idx → Elt F e) → CProg F α} :
    (owns (c : Thread nD τ) M q X : sProp 𝕄)
      ⊢ iprop((owns (c : Thread nD τ) M q X -∗ coreWp c (k X) Q)
          -∗ coreWp c (Prog.lift (.load M (Rect.unit (s := S256x128) ![0, 0] S256x128.size inb_S256x128_S256x128_0_0).toLoadRect hl) >>= k) Q) := by
  have h := load_part (F := F) c (M := M) (r := Rect.unit (s := S256x128) ![0, 0] S256x128.size inb_S256x128_S256x128_0_0) (hl := hl) (q := q) (X := X)
    (k := k) (Q := Q)
  rwa [show part X (Rect.unit (s := S256x128) ![0, 0] S256x128.size inb_S256x128_S256x128_0_0) = X from
    funext fun x => congrArg X (whole_idx zeros_two _ x)] at h

/-- A store of a whole block leaves the buffer holding what was stored. -/
theorem store_block (c : Dev nD) {e : EltTy} {M : Memref sig .tc .vmem S256x128 e} {X w : S256x128.Idx → Elt F e} {hx hm}
    {k : PUnit → CProg F α} :
    (owns (c : Thread nD τ) M fullShare X : sProp 𝕄)
      ⊢ iprop((owns (c : Thread nD τ) M fullShare w -∗ coreWp c (k ⟨⟩) Q)
          -∗ coreWp c (Prog.lift (.store M (Rect.unit (s := S256x128) ![0, 0] S256x128.size inb_S256x128_S256x128_0_0) w Finset.univ hx hm) >>= k) Q) := by
  unfold owns
  iintro ⟨%f, -, H⟩ Hk
  iapply (wp_store (defs := defs₀ (F := F)) 𝒱₀ (c : Thread nD τ) none Set.univ (m := M)
    (r := Rect.unit (s := S256x128) ![0, 0] S256x128.size inb_S256x128_S256x128_0_0) (w := w) (Mk := Finset.univ) (hx := hx) (hm := hm) (k := k) (f := f)
    ((View.setOn_subset_set _ _).trans (View.set_slice_subset _ _))) $$ H
  iintro H
  iapply Hk
  iexists _; isplitr; swap; (· iexact H)
  ipureintro
  funext x
  have h := congrFun (View.read_write_univ (Val := Elt F) (v := M.access (Rect.unit (s := S256x128) ![0, 0] S256x128.size inb_S256x128_S256x128_0_0)) f w) x
  refine Eq.trans ?_ h
  exact congrArg (M.view.read (Elt F) _) (whole_idx zeros_two _ x).symm

/-! ## What the body computes -/

/-- A staged operand of the body at a grid point: the segment starts, the block of rows, the weights and biases of the
    two networks' two layers. -/
structure Staged (F : FTy → Type) where
  seg : S16.Idx → BitVec 32
  x : Vec F S256x128 .f32
  pw1 : Vec F S16x128x128 .f32
  pb1 : Vec F S16x1x128 .f32
  pw2 : Vec F S16x128x128 .f32
  pb2 : Vec F S16x1x128 .f32
  vw1 : Vec F S16x128x128 .f32
  vb1 : Vec F S16x1x128 .f32
  vw2 : Vec F S16x128x128 .f32
  vb2 : Vec F S16x1x128 .f32

/-- The rectangle of a goal's weight matrix. -/
abbrev matAt (t : Fin k1_t1_loop.trips) : Rect S16x128x128 := Rect.unit (s := S16x128x128) (k1_off3 t) S1x128x128.size (k1_off3_inb t)
/-- The rectangle of a goal's bias row. -/
abbrev rowAt (t : Fin k1_t1_loop.trips) : Rect S16x1x128 := Rect.unit (s := S16x1x128) (k1_off4 t) S1x1x128.size (k1_off4_inb t)

/-- The first row of a goal's segment, as the body loads it. -/
def loW (seg : S16.Idx → BitVec 32) (t : Fin k1_t1_loop.trips) : BitVec 32 :=
  seg ((Rect.unit (s := S16) (k1_off1 t) S1.size (k1_off1_inb t)).idx (Shape.Idx.first (numel1_S1.symm ▸ Nat.one_pos)))

/-- The end of a goal's segment: the start of the next, or the number of rows. -/
def hiW (seg : S16.Idx → BitVec 32) (t : Fin k1_t1_loop.trips) : BitVec 32 :=
  Scalar.select (Scalar.cmpi .eq (Scf.iv 0#32 1#32 t) 15#32) 4096#32
    (seg ((Rect.unit (s := S16) (k1_off2 t) S1.size (k1_off2_inb t)).idx (Shape.Idx.first (numel1_S1.symm ▸ Nat.one_pos))))

/-- The first row of a grid point's block. -/
abbrev baseW (i : grid1.Coords) : BitVec 32 := Scalar.muli (BitVec.ofNat 32 (i 0).val) 256#32

/-- Whether the body takes a goal at a grid point: the goal's segment meets the block. -/
def meets (i : grid1.Coords) (seg : S16.Idx → BitVec 32) (t : Fin k1_t1_loop.trips) : BitVec 1 :=
  Scalar.cmpi .ne (Scalar.extui (Scalar.andi (Scalar.cmpi .slt (loW seg t) (Scalar.addi (baseW i) 256#32)) (Scalar.cmpi .sgt (hiW seg t) (baseW i)))) 0#32

/-- One trip's effect on the first result block. -/
def tripP (i : grid1.Coords) (s : Staged F) (t : Fin k1_t1_loop.trips) (old : Vec F S256x128 .f32) : Vec F S256x128 .f32 :=
  if meets i s.seg t = 1#1 then
    k1_pay8 (k1_pay1 s.x) (k1_pay4 i) (loW s.seg t) (hiW s.seg t) (part s.pw1 (matAt t)) (part s.pb1 (rowAt t)) (part s.pw2 (matAt t)) (part s.pb2 (rowAt t)) old
  else old

/-- One trip's effect on the second result block. -/
def tripV (i : grid1.Coords) (s : Staged F) (t : Fin k1_t1_loop.trips) (old : Vec F S256x128 .f32) : Vec F S256x128 .f32 :=
  if meets i s.seg t = 1#1 then
    k1_pay5 (k1_pay6 (F := F) (k1_pay4 i) (loW s.seg t) (hiW s.seg t)) (k1_pay7 (k1_pay1 s.x)) (k1_pay9 (part s.vw1 (matAt t))) (part s.vb1 (rowAt t))
      (part s.vw2 (matAt t)) (part s.vb2 (rowAt t)) old
  else old

/-- The first result block after a number of trips. -/
def blockP (i : grid1.Coords) (s : Staged F) : ℕ → Vec F S256x128 .f32
  | 0 => k1_pay2
  | n + 1 => if h : n < k1_t1_loop.trips then tripP i s ⟨n, h⟩ (blockP i s n) else blockP i s n

/-- The second result block after a number of trips. -/
def blockV (i : grid1.Coords) (s : Staged F) : ℕ → Vec F S256x128 .f32
  | 0 => k1_pay3
  | n + 1 => if h : n < k1_t1_loop.trips then tripV i s ⟨n, h⟩ (blockV i s n) else blockV i s n

/-- A trip more of the first result block. -/
theorem blockP_succ (i : grid1.Coords) (s : Staged F) (t : Fin k1_t1_loop.trips) : blockP i s (t.val + 1) = tripP i s t (blockP i s t.val) := by
  rw [blockP, dif_pos t.isLt]

/-- A trip more of the second result block. -/
theorem blockV_succ (i : grid1.Coords) (s : Staged F) (t : Fin k1_t1_loop.trips) : blockV i s (t.val + 1) = tripV i s t (blockV i s t.val) := by
  rw [blockV, dif_pos t.isLt]

/-! ## The body's run -/

section Run

variable (c : Dev nD) (i : grid1.Coords)
  (arg1 : Memref sig .tc .smem S16 .i32) (arg2 : Memref sig .tc .vmem S256x128 .f32)
  (arg3 : Memref sig .tc .vmem S16x128x128 .f32) (arg4 : Memref sig .tc .vmem S16x1x128 .f32)
  (arg5 : Memref sig .tc .vmem S16x128x128 .f32) (arg6 : Memref sig .tc .vmem S16x1x128 .f32)
  (arg7 : Memref sig .tc .vmem S16x128x128 .f32) (arg8 : Memref sig .tc .vmem S16x1x128 .f32)
  (arg9 : Memref sig .tc .vmem S16x128x128 .f32) (arg10 : Memref sig .tc .vmem S16x1x128 .f32)
  (arg11 arg12 : Memref sig .tc .vmem S256x128 .f32)

/-- The body's twelve staging buffers: the operands at what is staged, the results at the given blocks. -/
def Held (s : Staged F) (yp yv : Vec F S256x128 .f32) : sProp 𝕄 :=
  iprop(owns (c : Thread nD τ) arg1 fullShare s.seg ∗ owns (c : Thread nD τ) arg2 fullShare s.x
    ∗ owns (c : Thread nD τ) arg3 fullShare s.pw1 ∗ owns (c : Thread nD τ) arg4 fullShare s.pb1
    ∗ owns (c : Thread nD τ) arg5 fullShare s.pw2 ∗ owns (c : Thread nD τ) arg6 fullShare s.pb2
    ∗ owns (c : Thread nD τ) arg7 fullShare s.vw1 ∗ owns (c : Thread nD τ) arg8 fullShare s.vb1
    ∗ owns (c : Thread nD τ) arg9 fullShare s.vw2 ∗ owns (c : Thread nD τ) arg10 fullShare s.vb2
    ∗ owns (c : Thread nD τ) arg11 fullShare yp ∗ owns (c : Thread nD τ) arg12 fullShare yv)

variable (h1 : arg1.IsWhole) (h2 : arg2.IsWhole) (h3 : arg3.IsWhole) (h4 : arg4.IsWhole) (h5 : arg5.IsWhole) (h6 : arg6.IsWhole)
  (h7 : arg7.IsWhole) (h8 : arg8.IsWhole) (h9 : arg9.IsWhole) (h10 : arg10.IsWhole) (h11 : arg11.IsWhole) (h12 : arg12.IsWhole)

set_option maxRecDepth 65536 in
set_option maxHeartbeats 2000000 in
/-- One trip takes the blocks after `t` trips to the blocks after `t + 1`. -/
theorem trip_run (s : Staged F) (t : Fin k1_t1_loop.trips) (u : Unit) (yp yv : Vec F S256x128 .f32) :
    Held c arg1 arg2 arg3 arg4 arg5 arg6 arg7 arg8 arg9 arg10 arg11 arg12 s yp yv
      ⊢ coreWp c (k1_t1_body (F := F) i arg1 h1 arg2 h2 arg3 h3 arg4 h4 arg5 h5 arg6 h6 arg7 h7 arg8 h8 arg9 h9 arg10 h10 arg11 h11 arg12 h12
          (baseW i) s.x t u) fun _ =>
        Held c arg1 arg2 arg3 arg4 arg5 arg6 arg7 arg8 arg9 arg10 arg11 arg12 s (tripP i s t yp) (tripV i s t yv) := by
  unfold k1_t1_body Held
  iintro ⟨H1, H2, H3, H4, H5, H6, H7, H8, H9, H10, H11, H12⟩
  iapply (load_word c (M := arg1)) $$ H1; iintro H1
  iapply (load_word c (M := arg1)) $$ H1; iintro H1
  by_cases hm : meets i s.seg t = 1#1
  · rw [show tripP i s t yp = _ from if_pos hm, show tripV i s t yv = _ from if_pos hm]
    unfold meets loW hiW at hm
    dsimp only
    rw [if_pos hm, k1_part1_eq_skeleton]
    unfold k1_part1_skel
    simp only [bind_assoc, pure_bind]
    iapply (load_part c (M := arg3)) $$ H3; iintro H3
    iapply (load_part c (M := arg4)) $$ H4; iintro H4
    iapply (load_part c (M := arg5)) $$ H5; iintro H5
    iapply (load_part c (M := arg6)) $$ H6; iintro H6
    iapply (load_block c (M := arg11)) $$ H11; iintro H11
    iapply (load_block c (M := arg11)) $$ H11; iintro H11
    iapply (store_block c (M := arg11)) $$ H11; iintro H11
    iapply (load_part c (M := arg7)) $$ H7; iintro H7
    iapply (load_part c (M := arg8)) $$ H8; iintro H8
    iapply (load_part c (M := arg9)) $$ H9; iintro H9
    iapply (load_part c (M := arg10)) $$ H10; iintro H10
    iapply (load_block c (M := arg12)) $$ H12; iintro H12
    iapply (load_block c (M := arg12)) $$ H12; iintro H12
    iapply (store_block c (M := arg12)) $$ H12; iintro H12
    iapply (ret_core (F := F))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [show tripP i s t yp = _ from if_neg hm, show tripV i s t yv = _ from if_neg hm]
    unfold meets loW hiW at hm
    dsimp only
    rw [if_neg hm]
    iapply (ret_core (F := F))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option maxRecDepth 65536 in
set_option maxHeartbeats 2000000 in
/-- The body leaves its operands as staged and the result blocks at what all the trips make, whatever they held. -/
theorem body_run (s : Staged F) (yp yv : Vec F S256x128 .f32) :
    Held c arg1 arg2 arg3 arg4 arg5 arg6 arg7 arg8 arg9 arg10 arg11 arg12 s yp yv
      ⊢ coreWp c (cc1__tc_body (F := F) i arg1 h1 arg2 h2 arg3 h3 arg4 h4 arg5 h5 arg6 h6 arg7 h7 arg8 h8 arg9 h9 arg10 h10 arg11 h11 arg12 h12) fun _ =>
        Held c arg1 arg2 arg3 arg4 arg5 arg6 arg7 arg8 arg9 arg10 arg11 arg12 s (blockP i s k1_t1_loop.trips) (blockV i s k1_t1_loop.trips) := by
  rw [cc1__tc_body_eq_skeleton]
  unfold cc1__tc_body_skel
  have hloop : ∀ (t : Fin k1_t1_loop.trips) (u : Unit),
      Held (F := F) c arg1 arg2 arg3 arg4 arg5 arg6 arg7 arg8 arg9 arg10 arg11 arg12 s (blockP i s t.val) (blockV i s t.val)
        ⊢ coreWp c (k1_t1_body (F := F) i arg1 h1 arg2 h2 arg3 h3 arg4 h4 arg5 h5 arg6 h6 arg7 h7 arg8 h8 arg9 h9 arg10 h10 arg11 h11 arg12 h12
            (baseW i) s.x t u) fun _ =>
          Held c arg1 arg2 arg3 arg4 arg5 arg6 arg7 arg8 arg9 arg10 arg11 arg12 s (blockP i s (t.val + 1)) (blockV i s (t.val + 1)) := by
    intro t u
    rw [blockP_succ, blockV_succ]
    exact trip_run c i arg1 arg2 arg3 arg4 arg5 arg6 arg7 arg8 arg9 arg10 arg11 arg12 h1 h2 h3 h4 h5 h6 h7 h8 h9 h10 h11 h12 s t u _ _
  unfold Held at hloop ⊢
  iintro ⟨H1, H2, H3, H4, H5, H6, H7, H8, H9, H10, H11, H12⟩
  iapply (load_block c (M := arg2)) $$ H2; iintro H2
  iapply (load_block c (M := arg11)) $$ H11; iintro H11
  iapply (store_block c (M := arg11)) $$ H11; iintro H11
  iapply (load_block c (M := arg12)) $$ H12; iintro H12
  iapply (store_block c (M := arg12)) $$ H12; iintro H12
  iapply (Scf.wp_for_bind frame (wpE (defs₀ (F := F)) 𝒱₀ (c : Thread nD τ) none) Set.univ _ _ _ k1_t1_ok () _
    (fun n _ => iprop(owns (c : Thread nD τ) arg1 fullShare s.seg ∗ owns (c : Thread nD τ) arg2 fullShare s.x
    ∗ owns (c : Thread nD τ) arg3 fullShare s.pw1 ∗ owns (c : Thread nD τ) arg4 fullShare s.pb1
    ∗ owns (c : Thread nD τ) arg5 fullShare s.pw2 ∗ owns (c : Thread nD τ) arg6 fullShare s.pb2
    ∗ owns (c : Thread nD τ) arg7 fullShare s.vw1 ∗ owns (c : Thread nD τ) arg8 fullShare s.vb1
    ∗ owns (c : Thread nD τ) arg9 fullShare s.vw2 ∗ owns (c : Thread nD τ) arg10 fullShare s.vb2
    ∗ owns (c : Thread nD τ) arg11 fullShare (blockP i s n) ∗ owns (c : Thread nD τ) arg12 fullShare (blockV i s n))) hloop)
      $$ [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ H
    iapply (ret_core (F := F))
    iexact H

end Run

end Cert.Proof

end

end
-- ==== Proof.Region.lean ====
/-
  The TensorCore region between the two SparseCore calls: the pipeline over the sixteen blocks of sorted rows. Its proof
  data from the contents the region is entered with, the body's obligation at each block, and the region's step from the
  TensorCore's state after the first call to its state before the second.
-/
module

public import proofs.«01_k».proof.Proof.Experts

@[expose] public section

noncomputable section

namespace Cert.Proof

open Cert.KernelIdeal Cert.KernelIdeal.Gen
open Idealize.ShloMosaic Idealize.ShloMosaic.TcCoe
open Idealize.ShloMosaic.Pipeline (Dat BodyObligation)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- What the TensorCore's buffers hold. -/
abbrev Cont (F : FTy → Type) (c : Dev nD) : Type := (b : Ref sig .tc) → Buf (Elt F) ((c : Thread nD τ).loc b)

/-- A window's block at a point, read off what the buffers hold. -/
abbrev blockAt (c : Dev nD) (V : Cont F c) (w : Fin cfg1.W) (t : Fin cfg1.N) :
    ((cfg1.win w).xblock (cfg1.grid.coords t)).Idx → Elt F (cfg1.win w).elt :=
  ((cfg1.win w).blk t).view.read (Elt F) (V (Pipeline.arrRef spec1 w))

/-- The operands staged at a point. -/
def stagedAt (c : Dev nD) (V : Cont F c) (t : Fin cfg1.N) : Staged F where
  seg := blockAt c V 0 t
  x := blockAt c V 1 t
  pw1 := blockAt c V 2 t
  pb1 := blockAt c V 3 t
  pw2 := blockAt c V 4 t
  pb2 := blockAt c V 5 t
  vw1 := blockAt c V 6 t
  vb1 := blockAt c V 7 t
  vw2 := blockAt c V 8 t
  vb2 := blockAt c V 9 t

/-- The pairs of a semaphore and an index at which the TensorCore may have waited before the region. -/
def waitedBefore (c : Dev nD) : Set (SemLoc sig × HIx 2) :=
  {p | (sc (F := F)).lev ((c : Thread nD τ), p.1) p.2 ≤ 8 * 1}

/-- The region's proof data from the contents it is entered with: each operand's buffer keeps its block, the two results'
    hold the two blocks after the sixteen trips; what the TensorCore owes is its part in the second call. -/
def dat (c : Dev nD) (V : Cont F c) : Dat τ (Elt F) (HIx 2) ℕ UU ℕ cfg1 c where
  A w := V (Pipeline.arrRef spec1 w)
  after w t := match w with
    | ⟨0, _⟩ => blockAt c V 0 t
    | ⟨1, _⟩ => blockAt c V 1 t
    | ⟨2, _⟩ => blockAt c V 2 t
    | ⟨3, _⟩ => blockAt c V 3 t
    | ⟨4, _⟩ => blockAt c V 4 t
    | ⟨5, _⟩ => blockAt c V 5 t
    | ⟨6, _⟩ => blockAt c V 6 t
    | ⟨7, _⟩ => blockAt c V 7 t
    | ⟨8, _⟩ => blockAt c V 8 t
    | ⟨9, _⟩ => blockAt c V 9 t
    | ⟨10, _⟩ => blockP (grid1.coords t) (stagedAt c V t) k1_t1_loop.trips
    | ⟨11, _⟩ => blockV (grid1.coords t) (stagedAt c V t) k1_t1_loop.trips
  Φ _ := Pipeline.scopedRest (Ix := HIx 2) (Name := ℕ) (U := UU) (Lvl := ℕ) (Val := Elt F) spec1 c
  q _ := fullShare
  owed _ := (sc (F := F)).Otc c 1
  recorded _ := waitedBefore (F := F) c

/-- Window 0 is found holding its block. -/
theorem found_0 (c : Dev nD) (V : Cont F c) (t : Fin cfg1.N) (d : (cfg1.win 0).block.Idx → Elt F (cfg1.win 0).elt) :
    (dat c V).before 0 t d = blockAt c V 0 t :=
  ((dat c V).before_in_eq_fetched 0 rfl (fun _ => rfl) (fun _ _ _ => rfl) (fun _ => by dsimp only [dat]; rfl) t d).trans rfl

/-- Window 1 is found holding its block. -/
theorem found_1 (c : Dev nD) (V : Cont F c) (t : Fin cfg1.N) (d : (cfg1.win 1).block.Idx → Elt F (cfg1.win 1).elt) :
    (dat c V).before 1 t d = blockAt c V 1 t :=
  ((dat c V).before_in_eq_fetched 1 rfl (fun _ => rfl) (fun _ _ _ => rfl) (fun _ => by dsimp only [dat]; rfl) t d).trans rfl

/-- Window 2 is found holding its block. -/
theorem found_2 (c : Dev nD) (V : Cont F c) (t : Fin cfg1.N) (d : (cfg1.win 2).block.Idx → Elt F (cfg1.win 2).elt) :
    (dat c V).before 2 t d = blockAt c V 2 t :=
  ((dat c V).before_in_eq_fetched 2 rfl (fun _ => rfl) (fun _ _ _ => rfl) (fun _ => by dsimp only [dat]; rfl) t d).trans rfl

/-- Window 3 is found holding its block. -/
theorem found_3 (c : Dev nD) (V : Cont F c) (t : Fin cfg1.N) (d : (cfg1.win 3).block.Idx → Elt F (cfg1.win 3).elt) :
    (dat c V).before 3 t d = blockAt c V 3 t :=
  ((dat c V).before_in_eq_fetched 3 rfl (fun _ => rfl) (fun _ _ _ => rfl) (fun _ => by dsimp only [dat]; rfl) t d).trans rfl

/-- Window 4 is found holding its block. -/
theorem found_4 (c : Dev nD) (V : Cont F c) (t : Fin cfg1.N) (d : (cfg1.win 4).block.Idx → Elt F (cfg1.win 4).elt) :
    (dat c V).before 4 t d = blockAt c V 4 t :=
  ((dat c V).before_in_eq_fetched 4 rfl (fun _ => rfl) (fun _ _ _ => rfl) (fun _ => by dsimp only [dat]; rfl) t d).trans rfl

/-- Window 5 is found holding its block. -/
theorem found_5 (c : Dev nD) (V : Cont F c) (t : Fin cfg1.N) (d : (cfg1.win 5).block.Idx → Elt F (cfg1.win 5).elt) :
    (dat c V).before 5 t d = blockAt c V 5 t :=
  ((dat c V).before_in_eq_fetched 5 rfl (fun _ => rfl) (fun _ _ _ => rfl) (fun _ => by dsimp only [dat]; rfl) t d).trans rfl

/-- Window 6 is found holding its block. -/
theorem found_6 (c : Dev nD) (V : Cont F c) (t : Fin cfg1.N) (d : (cfg1.win 6).block.Idx → Elt F (cfg1.win 6).elt) :
    (dat c V).before 6 t d = blockAt c V 6 t :=
  ((dat c V).before_in_eq_fetched 6 rfl (fun _ => rfl) (fun _ _ _ => rfl) (fun _ => by dsimp only [dat]; rfl) t d).trans rfl

/-- Window 7 is found holding its block. -/
theorem found_7 (c : Dev nD) (V : Cont F c) (t : Fin cfg1.N) (d : (cfg1.win 7).block.Idx → Elt F (cfg1.win 7).elt) :
    (dat c V).before 7 t d = blockAt c V 7 t :=
  ((dat c V).before_in_eq_fetched 7 rfl (fun _ => rfl) (fun _ _ _ => rfl) (fun _ => by dsimp only [dat]; rfl) t d).trans rfl

/-- Window 8 is found holding its block. -/
theorem found_8 (c : Dev nD) (V : Cont F c) (t : Fin cfg1.N) (d : (cfg1.win 8).block.Idx → Elt F (cfg1.win 8).elt) :
    (dat c V).before 8 t d = blockAt c V 8 t :=
  ((dat c V).before_in_eq_fetched 8 rfl (fun _ => rfl) (fun _ _ _ => rfl) (fun _ => by dsimp only [dat]; rfl) t d).trans rfl

/-- Window 9 is found holding its block. -/
theorem found_9 (c : Dev nD) (V : Cont F c) (t : Fin cfg1.N) (d : (cfg1.win 9).block.Idx → Elt F (cfg1.win 9).elt) :
    (dat c V).before 9 t d = blockAt c V 9 t :=
  ((dat c V).before_in_eq_fetched 9 rfl (fun _ => rfl) (fun _ _ _ => rfl) (fun _ => by dsimp only [dat]; rfl) t d).trans rfl

set_option maxRecDepth 16384 in
set_option maxHeartbeats 1000000 in
/-- The body's obligation: at each point the body takes the staged blocks to the two results' blocks. -/
theorem body_obligation (c : Dev nD) (V : Cont F c) :
    BodyObligation (dat c V) (defs₀ (F := F)) 𝒱₀ none Set.univ := fun t => by
  rw [bigSep_W1, bigSep_W1]
  rw [show (dat c V).owesAt none t.succ = (dat c V).owesAt none t.castSucc from rfl,
    show (dat c V).Φ t.succ = (dat c V).Φ t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [found_0 c V t d0, found_1 c V t d1, found_2 c V t d2, found_3 c V t d3, found_4 c V t d4, found_5 c V t d5, found_6 c V t d6, found_7 c V t d7, found_8 c V t d8, found_9 c V t d9]
  ihave Hp := (body_run c (grid1.coords t) (st1_0 t) (st1_1 t) (st1_2 t) (st1_3 t) (st1_4 t) (st1_5 t) (st1_6 t) (st1_7 t) (st1_8 t) (st1_9 t) (st1_10 t) (st1_11 t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (hstage1_10 ((cfg1.slots t 10).cast nbuf1_10)) (hstage1_11 ((cfg1.slots t 11).cast nbuf1_11)) (stagedAt c V t) ((dat c V).before 10 t d10) ((dat c V).before 11 t d11)) $$ [H0 H1 H2 H3 H4 H5 H6 H7 H8 H9 H10 H11]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iapply (wp_wand frame _ _) $$ Hp
  iintro %_ Hh
  unfold Held
  icases Hh with ⟨H0, H1, H2, H3, H4, H5, H6, H7, H8, H9, H10, H11⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Proof

end
-- ==== Proof.RegionStep.lean ====
/-
  The region's step: from the TensorCore's state before it, every unscoped buffer at some contents, to the same state with
  the two results' arrays at what the sixteen blocks' write-backs leave.
-/
module

public import proofs.«01_k».proof.Proof.Region
public import Idealize.ShloMosaic.Lib.Pipeline.RegionsLoop

@[expose] public section

noncomputable section

namespace Cert.Proof

open Cert.KernelIdeal Cert.KernelIdeal.Gen
open Idealize.ShloMosaic Idealize.ShloMosaic.TcCoe
open Idealize.ShloMosaic.Pipeline (Dat BodyObligation)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The TensorCore owes nothing at the index of a kernel's own waits. -/
theorem Otc_none (c : Dev nD) (n : ℕ) (g : GSem nD τ sig) : (sc (F := F)).Otc (N := 2) c n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun i _ => ?_
    rw [tallyAt_apply, if_neg fun h => nomatch h.2]
  · rfl

/-- The first result's array after the region. -/
def outP (c : Dev nD) (V : Cont F c) : Buf (Elt F) ((c : Thread nD τ).loc main_v6_0) := (dat c V).arrAt 10 cfg1.N
/-- The second result's array after the region. -/
def outV (c : Dev nD) (V : Cont F c) : Buf (Elt F) ((c : Thread nD τ).loc main_v6_1) := (dat c V).arrAt 11 cfg1.N

/-- What the buffers hold after the region: the two results' arrays replaced. -/
def afterRegion (c : Dev nD) (V : Cont F c) : Cont F c :=
  Function.update (Function.update V main_v6_0 (outP c V)) main_v6_1 (outV c V)

/-- The region leaves its first array. -/
theorem afterRegion_P (c : Dev nD) (V : Cont F c) : afterRegion c V main_v6_0 = outP c V := by
  unfold afterRegion
  rw [Function.update_of_ne (by decide), Function.update_self]

/-- The region leaves its second array. -/
theorem afterRegion_V (c : Dev nD) (V : Cont F c) : afterRegion c V main_v6_1 = outV c V := by
  unfold afterRegion
  rw [Function.update_self]

/-- The region changes nothing else. -/
theorem afterRegion_ne (c : Dev nD) (V : Cont F c) (b : Ref sig .tc) (h0 : b ≠ main_v6_0) (h1 : b ≠ main_v6_1) :
    afterRegion c V b = V b := by
  unfold afterRegion
  rw [Function.update_of_ne h1, Function.update_of_ne h0]

/-- No operand's array is a result's. -/
theorem arrIn_ne (w : Fin 12) (h : w.val < 10) : Pipeline.arrRef spec1 w ≠ main_v6_0 ∧ Pipeline.arrRef spec1 w ≠ main_v6_1 :=
  ⟨fun e => by have := winFacts1.arr_inj (a₁ := w) (a₂ := 10) e; subst this; omega,
   fun e => by have := winFacts1.arr_inj (a₁ := w) (a₂ := 11) e; subst this; omega⟩

abbrev adm : (p : Fin 1) → (pcfgs (F := F) p).Adm := fun p => (cfgs p).toPCfg_adm

/-- The proof data of the program's one pipeline. -/
def pdats (V : (c : Dev nD) → Cont F c) :
    (p : Fin 1) → (c : Dev nD) → Dat τ (Elt F) (HIx 2) ℕ UU ℕ (Pipeline.pin (pcfgs (F := F)) adm p) c :=
  fun _ c => dat c (V c)

/-- What the TensorCore owes between the calls, what it has waited at bounded. -/
abbrev owesMid (c : Dev nD) : sProp 𝕄 :=
  iprop(∃ W, ⌜(sc (F := F)).WBelow (T c) W (8 * 1)⌝ ∗ owes (T c) ((sc (F := F)).Otc (N := 2) c 1) W)

set_option backward.isDefEq.respectTransparency.types false in
/-- The region as a segment of the TensorCore's program. -/
def region (V : (c : Dev nD) → Cont F c) :
    Pipeline.RegionSeg (pcfgs (F := F)) adm (pdats V) none defs₀ 𝒱₀ (sc (F := F)).L (sc (F := F)).lev 0 where
  win := launch1.win.to₀
  block_pos := launch1.block_pos
  stage_whole := launch1.stage_whole
  K := PEmpty
  osem k := k.elim
  ho := Pipeline.OwnSemFacts.none _
  hbody c := (body_obligation c (V c)).loose
  hwaits c := Pipeline.cellsWaits_intro _ _ _ _ _ fun w s t => (sc (F := F)).mayWait_none _ (Otc_none c 1)
  pre c := iprop(unscopedBufs c (V c) ∗ owesMid c)
  post c := iprop(unscopedBufs c (afterRegion c (V c)) ∗ owesMid c)
  X _ := BI.emp
  Y _ := BI.emp
  Z c := Pipeline.unscopedRest (Ix := HIx 2) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = Pipeline.scopedRest (Ix := HIx 2) (Name := ℕ) (U := UU) (Lvl := ℕ) (Val := Elt F) spec1 c from rfl]
    iintro ⟨-, -, Hr⟩; iexact Hr
  hout c := by
    rw [Pipeline.ownSems0_none,
      show (pdats V 0 c).Φ (Fin.last _) = Pipeline.scopedRest (Ix := HIx 2) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ)
      launch1.win launch1.arr_whole c
      (pdats V) ((pdats V 0 c).share_full fun _ => rfl) (V c) (afterRegion c (V c)) ((pdats V 0 c).arrAt · cfg1.N)
      (fun w => by
        fin_cases w
        · exact ((pdats V 0 c).arrAt_in 0 rfl _).trans (afterRegion_ne c (V c) _ (arrIn_ne 0 (by show 0 < 10; omega)).1 (arrIn_ne 0 (by show 0 < 10; omega)).2).symm
        · exact ((pdats V 0 c).arrAt_in 1 rfl _).trans (afterRegion_ne c (V c) _ (arrIn_ne 1 (by show 1 < 10; omega)).1 (arrIn_ne 1 (by show 1 < 10; omega)).2).symm
        · exact ((pdats V 0 c).arrAt_in 2 rfl _).trans (afterRegion_ne c (V c) _ (arrIn_ne 2 (by show 2 < 10; omega)).1 (arrIn_ne 2 (by show 2 < 10; omega)).2).symm
        · exact ((pdats V 0 c).arrAt_in 3 rfl _).trans (afterRegion_ne c (V c) _ (arrIn_ne 3 (by show 3 < 10; omega)).1 (arrIn_ne 3 (by show 3 < 10; omega)).2).symm
        · exact ((pdats V 0 c).arrAt_in 4 rfl _).trans (afterRegion_ne c (V c) _ (arrIn_ne 4 (by show 4 < 10; omega)).1 (arrIn_ne 4 (by show 4 < 10; omega)).2).symm
        · exact ((pdats V 0 c).arrAt_in 5 rfl _).trans (afterRegion_ne c (V c) _ (arrIn_ne 5 (by show 5 < 10; omega)).1 (arrIn_ne 5 (by show 5 < 10; omega)).2).symm
        · exact ((pdats V 0 c).arrAt_in 6 rfl _).trans (afterRegion_ne c (V c) _ (arrIn_ne 6 (by show 6 < 10; omega)).1 (arrIn_ne 6 (by show 6 < 10; omega)).2).symm
        · exact ((pdats V 0 c).arrAt_in 7 rfl _).trans (afterRegion_ne c (V c) _ (arrIn_ne 7 (by show 7 < 10; omega)).1 (arrIn_ne 7 (by show 7 < 10; omega)).2).symm
        · exact ((pdats V 0 c).arrAt_in 8 rfl _).trans (afterRegion_ne c (V c) _ (arrIn_ne 8 (by show 8 < 10; omega)).1 (arrIn_ne 8 (by show 8 < 10; omega)).2).symm
        · exact ((pdats V 0 c).arrAt_in 9 rfl _).trans (afterRegion_ne c (V c) _ (arrIn_ne 9 (by show 9 < 10; omega)).1 (arrIn_ne 9 (by show 9 < 10; omega)).2).symm
        · exact (afterRegion_P c (V c)).symm
        · exact (afterRegion_V c (V c)).symm)
      (fun b hb => afterRegion_ne c (V c) b
        (fun h => hb (h ▸ Finset.mem_image.mpr ⟨10, Finset.mem_univ _, rfl⟩))
        (fun h => hb (h ▸ Finset.mem_image.mpr ⟨11, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · show 0 ≤ 8 * 1; omega
    iexact HO

/-- Two entailments chained. -/
theorem chain_entails {A B C : sProp 𝕄} (h : A ⊢ B) (h' : B ⊢ C) : A ⊢ C := h.trans h'

/-- The call of the pipeline, in the program the SparseCore calls are laid over. -/
abbrev coreCall : Prog (TpuEff nD τ sig (Elt F) (Pipeline.Sig Λ₀ (Fin 1) fun p => (pcfgs (F := F) p).Adm) .tc) PUnit :=
  .op (.customCall (Pipeline.entry 0) ()) .ret

/-- The return after the call meets the post there. -/
theorem ret_region (d : Dev nD) (Φ : PUnit → sProp (MT nD τ sig (HIx 2) (Elt F) ℕ UU ℕ)) :
    Φ ⟨⟩ ⊢ wp frame (wpE (Pipeline.defs (pcfgs (F := F)) defs₀) (𝒱₀.lift) (d.tc : Thread nD τ) none) Set.univ (.ret ⟨⟩) Φ := by
  show Φ ⟨⟩ ⊢ iprop(|={Set.univ}[frame]=> Φ ⟨⟩)
  exact fupd_intro

/-- The lifted call of the region is the call of its entry. -/
theorem lift_coreCall : SparseCore.liftProg (Q := 2) (coreCall (F := F))
    = Prog.lift (.customCall (SparseCore.inner (Pipeline.entry 0)) ()) := rfl

/-- The region's call in the TensorCore's program: from its boundary, the unscoped buffers, what it owes and the staging
    windows' ghosts, to the boundary and the unscoped buffers after the region. -/
theorem region_step (V : (c : Dev nD) → Cont F c) (d : Dev nD) (Φ : PUnit → sProp (MT nD τ sig (HIx 2) (Elt F) ℕ UU ℕ)) :
    iprop((iprop(boundary (T d) ∗ unscopedBufs d (afterRegion d (V d)) ∗ owesMid d) -∗ Φ ⟨⟩)
        ∗ boundary (T d) ∗ (unscopedBufs d (V d) ∗ owesMid d) ∗ levAts (sc (F := F)).L (sc (F := F)).lev
        ∗ Pipeline.cellsGhost (Pipeline.pin (pcfgs (F := F)) adm) (EP (F := F)) 0 d
        ∗ Pipeline.toksInit (Pipeline.pin (pcfgs (F := F)) adm) (EP (F := F)) 0 d)
      ⊢ wp frame (wpE ((sc (F := F)).defs (Pipeline.defs pcfgs defs₀)) (𝒱₀.lift) (T d) none) Set.univ
          (Prog.lift (.customCall (SparseCore.inner (Pipeline.entry 0)) ())) Φ := by
  have hl := (sc (F := F)).wp_liftProg (Name := ℕ) (U := UU) (Pipeline.defs pcfgs defs₀) (𝒱₀.lift) (T d) Set.univ none (coreCall (F := F)) Φ
  rw [lift_coreCall] at hl
  have hr := Pipeline.RegionSeg.wp (pcfgs (F := F)) adm (pdats V) none cellOf_inj (EP (F := F)) defs₀ 𝒱₀
    (sc (F := F)).L (sc (F := F)).lev (region V) d none (fun _ h => nomatch h) .ret Φ
  rw [show (region V).pre d = iprop(unscopedBufs d (V d) ∗ owesMid d) from rfl,
    show (region V).post d = iprop(unscopedBufs d (afterRegion d (V d)) ∗ owesMid d) from rfl] at hr
  have hrl := hr.trans hl
  refine chain_entails ?_ hrl
  iintro ⟨Hk, Hb, Hp, Hl, Hg, Ht⟩
  isplitl [Hk]
  · iintro H
    ihave H := Hk $$ H
    iapply (ret_region d Φ); iexact H
  isplitl [Hb]; · iexact Hb
  isplitl [Hp]; · iexact Hp
  isplitl [Hl]; · iexact Hl
  isplitl [Hg]; · iexact Hg
  iexact Ht

end Cert.Proof

end
-- ==== Proof.Memory.lean ====
/-
  What the TensorCore's program leaves in its buffers, step by step, from the memory it starts at: the reshaped goals, the
  first call's three results, the four reshaped biases, the region's two results, the second call's two results.
-/
module

public import proofs.«01_k».proof.Proof.Deal
public import proofs.«01_k».proof.Proof.RegionStep

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Counting

variable {F : FTy → Type} [FloatOps F]

local notation "𝕄" => MT nD τ sig (HIx 2) (Elt F) ℕ UU ℕ

/-- A buffer of the TensorCore's program as the device names it. -/
abbrev dr (b : Ref sig .tc) : DevRef τ sig := (Proc.tc : Proc τ).devRef b

/-- The reshape of the goals. -/
abbrev op0 : HloOp τ sig (Elt F) := StableHlo.reshape main_arg1 main_v0 (rfl : (.i32 : EltTy) = .i32) shapeCasts_S4096x1_S4096
/-- The reshapes of the four arrays of biases. -/
abbrev op2 : HloOp τ sig (Elt F) := StableHlo.reshape main_arg3 main_v2 (rfl : (.f32 : EltTy) = .f32) shapeCasts_S16x128_S16x1x128
abbrev op3 : HloOp τ sig (Elt F) := StableHlo.reshape main_arg5 main_v3 (rfl : (.f32 : EltTy) = .f32) shapeCasts_S16x128_S16x1x128
abbrev op4 : HloOp τ sig (Elt F) := StableHlo.reshape main_arg7 main_v4 (rfl : (.f32 : EltTy) = .f32) shapeCasts_S16x128_S16x1x128
abbrev op5 : HloOp τ sig (Elt F) := StableHlo.reshape main_arg9 main_v5 (rfl : (.f32 : EltTy) = .f32) shapeCasts_S16x128_S16x1x128

variable (m : (ℓ : Loc nD τ sig) → Buf (Elt F) ℓ) (d : Dev nD)

/-- The memory at the start. -/
def mem0 : Valuation τ sig (Elt F) := fun b => m (d, b)
/-- With the goals reshaped. -/
def mem1 : Valuation τ sig (Elt F) := (op0 (F := F)).result (mem0 m d)

/-- The goals, as the first call reads them. -/
def goals : S4096.Idx → BitVec 32 := mem1 m d (dr main_v0)
/-- The feature rows, as the first call reads them. -/
def feats : S4096x128.Idx → Elt F .f32 := mem1 m d (dr main_arg0)

/-- After the first call. -/
def mem2 : Valuation τ sig (Elt F) :=
  Function.update (Function.update (Function.update (mem1 m d)
    (dr main_v1_0) (sortedOf (goals m d) (feats m d) : (dr main_v1_0).ty.Contents (Elt F)))
    (dr main_v1_1) (posOf (goals m d) : (dr main_v1_1).ty.Contents (Elt F)))
    (dr main_v1_2) (startW (goals m d) : (dr main_v1_2).ty.Contents (Elt F))

/-- With the first array of biases reshaped. -/
def mem3 : Valuation τ sig (Elt F) := (op2 (F := F)).result (mem2 m d)
/-- With the second. -/
def mem4 : Valuation τ sig (Elt F) := (op3 (F := F)).result (mem3 m d)
/-- With the third. -/
def mem5 : Valuation τ sig (Elt F) := (op4 (F := F)).result (mem4 m d)
/-- With the fourth. -/
def mem6 : Valuation τ sig (Elt F) := (op5 (F := F)).result (mem5 m d)

/-- What the region finds. -/
def found (d : Dev nD) : Cont F d := fun b => mem6 m d (dr b)

/-- The region's results, in sorted order. -/
def sortP : S4096x128.Idx → Elt F .f32 := outP d (found m d)
/-- The second result of the region, the rows still sorted. -/
def sortV : S4096x128.Idx → Elt F .f32 := outV d (found m d)

/-- After the second call. -/
def mem8 : Cont F d :=
  Function.update (Function.update (afterRegion d (found m d))
    main_v7_0 (backOf (posOf (goals m d)) (sortP m d) : Buf (Elt F) ((d : Thread nD τ).loc main_v7_0)))
    main_v7_1 (backOf (posOf (goals m d)) (sortV m d) : Buf (Elt F) ((d : Thread nD τ).loc main_v7_1))

/-! ## What each step leaves alone -/

/-- Different buffers are different on the device. -/
theorem dr_ne {a b : Ref sig .tc} (h : a ≠ b) : dr a ≠ dr b := fun e => h (Proc.devRef_injective _ e)

/-- The reshape of the goals changes only its result. -/
theorem mem1_ne {b : Ref sig .tc} (h : b ≠ main_v0) : mem1 m d (dr b) = mem0 m d (dr b) :=
  (op0 (F := F)).result_of_not_mem _ fun e => dr_ne h (Finset.mem_singleton.mp e)

/-- The dispatch changes only its results. -/
theorem mem2_ne {b : Ref sig .tc} (h0 : b ≠ main_v1_0) (h1 : b ≠ main_v1_1) (h2 : b ≠ main_v1_2) : mem2 m d (dr b) = mem1 m d (dr b) := by
  unfold mem2
  rw [Function.update_of_ne (dr_ne h2), Function.update_of_ne (dr_ne h1), Function.update_of_ne (dr_ne h0)]

/-- The reshapes of the biases change only their results. -/
theorem mem6_ne {b : Ref sig .tc} (h2 : b ≠ main_v2) (h3 : b ≠ main_v3) (h4 : b ≠ main_v4) (h5 : b ≠ main_v5) : mem6 m d (dr b) = mem2 m d (dr b) :=
  ((op5 (F := F)).result_of_not_mem _ fun e => dr_ne h5 (Finset.mem_singleton.mp e)).trans
    (((op4 (F := F)).result_of_not_mem _ fun e => dr_ne h4 (Finset.mem_singleton.mp e)).trans
      (((op3 (F := F)).result_of_not_mem _ fun e => dr_ne h3 (Finset.mem_singleton.mp e)).trans
        ((op2 (F := F)).result_of_not_mem _ fun e => dr_ne h2 (Finset.mem_singleton.mp e))))

/-- The way back changes only its results. -/
theorem mem8_ne {b : Ref sig .tc} (h0 : b ≠ main_v7_0) (h1 : b ≠ main_v7_1) : mem8 m d b = afterRegion d (found m d) b := by
  unfold mem8
  rw [Function.update_of_ne h1, Function.update_of_ne h0]

/-- After the dispatch the first array holds the features sorted by goal. -/
theorem mem2_sorted : mem2 m d (dr main_v1_0) = sortedOf (goals m d) (feats m d) := by
  unfold mem2
  rw [Function.update_of_ne (dr_ne (by decide)), Function.update_of_ne (dr_ne (by decide)), Function.update_self]
/-- The second holds the positions. -/
theorem mem2_pos : mem2 m d (dr main_v1_1) = posOf (goals m d) := by
  unfold mem2
  rw [Function.update_of_ne (dr_ne (by decide)), Function.update_self]
/-- The third holds the segments' starts. -/
theorem mem2_starts : mem2 m d (dr main_v1_2) = startW (goals m d) := by
  unfold mem2
  rw [Function.update_self]

/-- The first result is the region's first array taken back to the tokens' order. -/
theorem mem8_P : mem8 m d main_v7_0 = backOf (posOf (goals m d)) (sortP m d) := by
  unfold mem8
  rw [Function.update_of_ne (by decide), Function.update_self]
/-- The second result is the region's second array taken back to the tokens' order. -/
theorem mem8_V : mem8 m d main_v7_1 = backOf (posOf (goals m d)) (sortV m d) := by
  unfold mem8
  rw [Function.update_self]

/-- The region leaves the positions. -/
theorem after_pos : afterRegion d (found m d) main_v1_1 = posOf (goals m d) := by
  rw [afterRegion_ne _ _ _ (by decide) (by decide)]
  exact (mem6_ne m d (by decide) (by decide) (by decide) (by decide)).trans (mem2_pos m d)

/-- No argument is ever written. -/
theorem mem8_arg {b : Ref sig .tc} (h : b ∈ ([main_arg0, main_arg1, main_arg2, main_arg3, main_arg4, main_arg5, main_arg6, main_arg7, main_arg8, main_arg9] : List (Ref sig .tc))) :
    mem8 m d b = m (d, dr b) := by
  have hn : ∀ r ∈ ([main_v0, main_v1_0, main_v1_1, main_v1_2, main_v2, main_v3, main_v4, main_v5, main_v6_0, main_v6_1, main_v7_0, main_v7_1] : List (Ref sig .tc)), b ≠ r := by
    revert b; decide
  rw [mem8_ne m d (hn _ (by simp)) (hn _ (by simp)), afterRegion_ne _ _ _ (hn _ (by simp)) (hn _ (by simp))]
  exact (mem6_ne m d (hn _ (by simp)) (hn _ (by simp)) (hn _ (by simp)) (hn _ (by simp))).trans
    ((mem2_ne m d (hn _ (by simp)) (hn _ (by simp)) (hn _ (by simp))).trans (mem1_ne m d (hn _ (by simp))))

end Cert.Proof

end
-- ==== Proof.Payload.lean ====
/-
  The kernel's launch as the launch theorem sees it, and what each call hands the tasks and takes back.
-/
module

public import proofs.«01_k».proof.Proof.Memory

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Counting

variable {F : FTy → Type}

local notation "𝕄" => MT nD τ sig (HIx 2) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱 : Variants := 𝒱₀.lift
abbrev v₀ : 𝒱.V := Sum.inl none

/-- Both launches use two SparseCores. -/
theorem nCore_two (q : Fin 2) : (K (F := F)).nCore q = 2 := by fin_cases q <;> rfl
/-- Both launches use sixteen tiles of each. -/
theorem nSub_sixteen (q : Fin 2) : (K (F := F)).nSub q = 16 := by fin_cases q <;> rfl

/-- The launches' semaphores are as the handshakes ask. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

variable [FloatOps F]

instance taskIn_storable (d : Dev nD) (L : grid0.Coords) (q qf : PosShare TreeShare) (G : S4096.Idx → BitVec 32) (f fs : S4096x128.Idx → Elt F .f32)
    (fp : S4096.Idx → BitVec 32) (fg : IVec S16 32) : BI.Storable (upEmb : UEmb _ 𝕄) (taskIn (F := F) d L q qf G f fs fp fg) := by
  unfold taskIn SegOut
  split <;> infer_instance

instance scatIn_storable (d : Dev nD) (L : grid0.Coords) (q1 q2 : PosShare TreeShare) (p : S4096.Idx → BitVec 32) (y1 y2 o1 o2 : S4096x128.Idx → Elt F .f32) :
    BI.Storable (upEmb : UEmb _ 𝕄) (scatIn (F := F) d L q1 q2 p y1 y2 o1 o2) := by
  unfold scatIn; infer_instance

variable (m : (ℓ : Loc nD τ sig) → Buf (Elt F) ℓ) (ρ : Dev nD → PrngReg)

/-! ## What the handshakes carry -/

/-- What the task on subcore `i` of core `c` is handed for the first call. -/
def go0 (d : Dev nD) (c : Fin 2) (i : Fin 16) : sProp 𝕄 :=
  taskIn (F := F) d (coords c i) (shareOf c i) fullShare (goals m d) (feats m d)
    (mem1 m d (dr main_v1_0)) (mem1 m d (dr main_v1_1)) (mem1 m d (dr main_v1_2))
/-- What it hands back. -/
def td0 (d : Dev nD) (c : Fin 2) (i : Fin 16) : sProp 𝕄 :=
  taskIn (F := F) d (coords c i) (shareOf c i) fullShare (goals m d) (feats m d)
    (sortedOf (goals m d) (feats m d)) (posOf (goals m d)) (startW (goals m d))
/-- What it is handed for the second call. -/
def go1 (d : Dev nD) (c : Fin 2) (i : Fin 16) : sProp 𝕄 :=
  scatIn (F := F) d (coords c i) (shareOf c i) (shareOf c i) (posOf (goals m d)) (sortP m d) (sortV m d)
    (afterRegion d (found m d) main_v7_0) (afterRegion d (found m d) main_v7_1)
/-- What it hands back. -/
def td1 (d : Dev nD) (c : Fin 2) (i : Fin 16) : sProp 𝕄 :=
  scatIn (F := F) d (coords c i) (shareOf c i) (shareOf c i) (posOf (goals m d)) (sortP m d) (sortV m d)
    (backOf (posOf (goals m d)) (sortP m d)) (backOf (posOf (goals m d)) (sortV m d))

instance go0_storable (d : Dev nD) (c : Fin 2) (i : Fin 16) : BI.Storable (upEmb : UEmb _ 𝕄) (go0 m d c i) := by unfold go0; infer_instance
instance td0_storable (d : Dev nD) (c : Fin 2) (i : Fin 16) : BI.Storable (upEmb : UEmb _ 𝕄) (td0 m d c i) := by unfold td0; infer_instance
instance go1_storable (d : Dev nD) (c : Fin 2) (i : Fin 16) : BI.Storable (upEmb : UEmb _ 𝕄) (go1 m d c i) := by unfold go1; infer_instance
instance td1_storable (d : Dev nD) (c : Fin 2) (i : Fin 16) : BI.Storable (upEmb : UEmb _ 𝕄) (td1 m d c i) := by unfold td1; infer_instance

/-- Each call hands a core what its tasks are handed, and takes back what they hand back. -/
def P : (K (F := F)).Pay (nD := nD) (Val := Elt F) (Name := ℕ) (U := UU) where
  st := fun q d c => match q with
    | 0 => bigSep Finset.univ fun i : Fin 16 => go0 m d c i
    | 1 => bigSep Finset.univ fun i : Fin 16 => go1 m d c i
  dn := fun q d c => match q with
    | 0 => bigSep Finset.univ fun i : Fin 16 => td0 m d c i
    | 1 => bigSep Finset.univ fun i : Fin 16 => td1 m d c i
  go := fun q d c i => match q with
    | 0 => go0 m d c i
    | 1 => go1 m d c i
  td := fun q d c i => match q with
    | 0 => td0 m d c i
    | 1 => td1 m d c i
  x := fun _ _ => iprop(emp)

instance P_storable : (P (F := F) m).IsStorable where
  st q d c := match q with
    | 0 => (inferInstance : BI.Storable (upEmb : UEmb _ 𝕄) (bigSep Finset.univ fun i : Fin 16 => go0 m d c i))
    | 1 => (inferInstance : BI.Storable (upEmb : UEmb _ 𝕄) (bigSep Finset.univ fun i : Fin 16 => go1 m d c i))
  dn q d c := match q with
    | 0 => (inferInstance : BI.Storable (upEmb : UEmb _ 𝕄) (bigSep Finset.univ fun i : Fin 16 => td0 m d c i))
    | 1 => (inferInstance : BI.Storable (upEmb : UEmb _ 𝕄) (bigSep Finset.univ fun i : Fin 16 => td1 m d c i))
  go q d c i := match q with
    | 0 => (inferInstance : BI.Storable (upEmb : UEmb _ 𝕄) (go0 m d c i))
    | 1 => (inferInstance : BI.Storable (upEmb : UEmb _ 𝕄) (go1 m d c i))
  td q d c i := match q with
    | 0 => (inferInstance : BI.Storable (upEmb : UEmb _ 𝕄) (td0 m d c i))
    | 1 => (inferInstance : BI.Storable (upEmb : UEmb _ 𝕄) (td1 m d c i))

end Cert.Proof

end
-- ==== Proof.Obligations.lean ====
/-
  The tasks' obligations: each call's task runs on what its subcore is handed.
-/
module

public import proofs.«01_k».proof.Proof.Payload

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Counting

variable {F : FTy → Type}

local notation "𝕄" => MT nD τ sig (HIx 2) (Elt F) ℕ UU ℕ

variable [FloatOps F] (m : (ℓ : Loc nD τ sig) → Buf (Elt F) ℓ) (ρ : Dev nD → PrngReg)

/-! ## The tasks' obligations -/

/-- The first launch's program on a tile. -/
theorem defs₀_dispatch (c : Fin τ.nSC) (s : Fin τ.nSub) :
    defs₀ (F := F) (.scVector c s) 0 ()
      = SparseCore.onTile hcore0 hsub0 (fun c s => dispProg F (coords c s)) ⟨⟩ c s := rfl

/-- The second launch's program on a tile. -/
theorem defs₀_scat (c : Fin τ.nSC) (s : Fin τ.nSub) :
    defs₀ (F := F) (.scVector c s) 2 ()
      = SparseCore.onTile hcore2 hsub2 (fun c s => scatProg F (coords c s)) ⟨⟩ c s := rfl

/-- A task's waits, in the launch theorem's words. -/
theorem obl_post {thr : Thread nD τ} {A B C : sProp 𝕄} {O : CellTallies nD τ sig (HIx 2)} {W : Waits sig (HIx 2)} {Z : Option (Fin 2) → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ Z p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's task on what its subcore is handed, for goals in range. -/
theorem task0_run (hG : ∀ d, GoalsOk (goals m d)) (d : Dev nD) (c : Fin 2) (i : Fin 16) {O : CellTallies nD τ sig (HIx 2)} {W : Waits sig (HIx 2)}
    (hO : ∀ g, O g none = 0) :
    iprop(levAts (sc (F := F)).L (sc (F := F)).lev ∗ emp ∗ go0 m d c i ∗ scopedBufs (V d (cV (coords c i)) (jV (coords c i)))
        ∗ scopedSems0 (V d (cV (coords c i)) (jV (coords c i))) ∗ owes (V d (cV (coords c i)) (jV (coords c i))) O W)
      ⊢ tileWp d (coords c i) (dispProg F (coords c i)) fun _ => iprop(td0 m d c i ∗ scopedBufs (V d (cV (coords c i)) (jV (coords c i)))
        ∗ scopedSems0 (V d (cV (coords c i)) (jV (coords c i)))
        ∗ ∃ W', ⌜∀ p ∈ W', p ∈ W ∨ p.2 = none⌝ ∗ owes (V d (cV (coords c i)) (jV (coords c i))) O W') :=
  by unfold go0 td0; exact task_wrap facts hO bufs0 (bufs0_own (coords c i)) sems0 sems0_scoped (dispatch_any (hG d))

/-- The second call's task on what its subcore is handed. -/
theorem task1_run (d : Dev nD) (c : Fin 2) (i : Fin 16) {O : CellTallies nD τ sig (HIx 2)} {W : Waits sig (HIx 2)} (hO : ∀ g, O g none = 0) :
    iprop(levAts (sc (F := F)).L (sc (F := F)).lev ∗ emp ∗ go1 m d c i ∗ scopedBufs (V d (cV (coords c i)) (jV (coords c i)))
        ∗ scopedSems0 (V d (cV (coords c i)) (jV (coords c i))) ∗ owes (V d (cV (coords c i)) (jV (coords c i))) O W)
      ⊢ tileWp d (coords c i) (scatProg F (coords c i)) fun _ => iprop(td1 m d c i ∗ scopedBufs (V d (cV (coords c i)) (jV (coords c i)))
        ∗ scopedSems0 (V d (cV (coords c i)) (jV (coords c i)))
        ∗ ∃ W', ⌜∀ p ∈ W', p ∈ W ∨ p.2 = none⌝ ∗ owes (V d (cV (coords c i)) (jV (coords c i))) O W') := by
  have hp : ∀ x, (posOf (goals m d) x).toNat < 4096 := fun x => by
    show (BitVec.ofNat 32 (pos (goalOf (goals m d)) 4096 (x 0).val)).toNat < 4096
    rw [pos_toNat (x 0).isLt]; exact pos_lt _ (x 0).isLt
  exact task_wrap facts hO bufs1 (bufs1_own (coords c i)) sems1 sems1_scoped (scat_any hp)

attribute [local irreducible] go0 td0 go1 td1 dispProg scatProg

set_option maxRecDepth 16384 in
/-- The first call's tasks run, for goals in range. -/
theorem tileObl0 (hG : ∀ d, GoalsOk (goals m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine via ?_ (Pipeline.wp_liftProg (D (F := F)) (Pipeline.defs_kernel pcfgs defs₀) 𝒱₀ _ Set.univ none _ _)
  rw [defs₀_dispatch]; simp only [SparseCore.onTile, hci, and_self, ↓reduceDIte]
  have h := task0_run m hG d ⟨((K (F := F)).core 0 c).val, hci.1⟩ ⟨((K (F := F)).sub 0 i).val, hci.2⟩ (O := O) (W := W) hO
  have h' := via h (wp_mono frame _ _ fun _ => obl_post (Z := fun o => SparseCore.Cfg.Blocks.blk (Q := 2) 0 o))
  exact h'

set_option maxRecDepth 16384 in
/-- The second call's tasks run. -/
theorem tileObl1 : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine via ?_ (Pipeline.wp_liftProg (D (F := F)) (Pipeline.defs_kernel pcfgs defs₀) 𝒱₀ _ Set.univ none _ _)
  rw [defs₀_scat]; simp only [SparseCore.onTile, hci, and_self, ↓reduceDIte]
  have h := task1_run m d ⟨((K (F := F)).core 1 c).val, hci.1⟩ ⟨((K (F := F)).sub 1 i).val, hci.2⟩ (O := O) (W := W) hO
  have h' := via h (wp_mono frame _ _ fun _ => obl_post (Z := fun o => SparseCore.Cfg.Blocks.blk (Q := 2) 1 o))
  exact h'

/-- A core's operands are its tasks'. -/
theorem vecSplit0 : (K (F := F)).VecSplit' (P m) 0 := by
  intro d c
  show (bigSep Finset.univ fun i : Fin 16 => go0 m d c i) ⊢ |={Set.univ}=> iprop((bigSep Finset.univ fun i : Fin 16 => go0 m d c i)
    ∗ ((bigSep Finset.univ fun i : Fin 16 => td0 m d c i) -∗ (bigSep Finset.univ fun i : Fin 16 => td0 m d c i)))
  iintro H; imodintro
  isplitl [H]; · iexact H
  iintro H; iexact H

/-- A core's operands are its tasks'. -/
theorem vecSplit1 : (K (F := F)).VecSplit' (P m) 1 := by
  intro d c
  show (bigSep Finset.univ fun i : Fin 16 => go1 m d c i) ⊢ |={Set.univ}=> iprop((bigSep Finset.univ fun i : Fin 16 => go1 m d c i)
    ∗ ((bigSep Finset.univ fun i : Fin 16 => td1 m d c i) -∗ (bigSep Finset.univ fun i : Fin 16 => td1 m d c i)))
  iintro H; imodintro
  isplitl [H]; · iexact H
  iintro H; iexact H

end Cert.Proof

end
-- ==== Proof.Launch.lean ====
/-
  The kernel's run: the launch element, the TensorCore's program between the calls, and the memory at the end.
-/
module

public import proofs.«01_k».proof.Proof.Obligations

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Counting

variable {F : FTy → Type}

local notation "𝕄" => MT nD τ sig (HIx 2) (Elt F) ℕ UU ℕ

variable [FloatOps F] (m : (ℓ : Loc nD τ sig) → Buf (Elt F) ℓ) (ρ : Dev nD → PrngReg)

/-! ## The launch element of the ghost state -/

/-- The staging windows' ghosts for the region. -/
abbrev regionGhost (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

/-- The ghost state at the launch: the handshakes' cells and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The launch element is the handshakes' part and every device's windows' ghosts. -/
theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 2 => (P m).x q thr) := by
  unfold u₀
  iintro Hu
  ihave H := (ownU_parts (F := F) _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · ihave H := (Entails.of_eq (show (bigSep Finset.univ fun c : Dev nD => bigSep Finset.univ fun p : Fin 1 =>
          Pipeline.cellsGhost (Pipeline.pin (pcfgs (F := F)) adm) (EP (F := F)) p c)
        = bigSep Finset.univ (Pipeline.cellsGhost (Pipeline.pin (pcfgs (F := F)) adm) (EP (F := F)) 0) from
        bigSep_congr fun _ _ => bigSep_univ_of_subsingleton (0 : Fin 1))) $$ Hg
      iexact H
    · ihave H := (Entails.of_eq (show (bigSep Finset.univ fun c : Dev nD => bigSep Finset.univ fun p : Fin 1 =>
          Pipeline.toksInit (Pipeline.pin (pcfgs (F := F)) adm) (EP (F := F)) p c)
        = bigSep Finset.univ (Pipeline.toksInit (Pipeline.pin (pcfgs (F := F)) adm) (EP (F := F)) 0) from
        bigSep_congr fun _ _ => bigSep_univ_of_subsingleton (0 : Fin 1))) $$ Ht
      iexact H
  rw [show (bigSep Finset.univ fun thr : Thread nD τ => bigSep Finset.univ fun q : Fin 2 => (P (F := F) m).x q thr) = bigSep Finset.univ fun _ => iprop(emp) from
    bigSep_congr fun _ _ => bigSep_emp_of _, bigSep_emp_of]
  iempintro

/-! ## The TensorCore's buffers, some of them taken out -/

/-- The TensorCore's unscoped buffers. -/
abbrev unsc : Finset (Ref sig .tc) := Finset.univ.filter fun b => ¬ b.isScoped

/-- The unscoped buffers at `W` are those of `s` and the rest; at a `W'` that differs on `s` alone, the rest is the same. -/
theorem unscoped_swap (d : Dev nD) (s : Finset (Ref sig .tc)) (hs : s ⊆ unsc) (W W' : Cont F d) (h : ∀ b, b ∉ s → W' b = W b) :
    (unscopedBufs d W : sProp 𝕄) = iprop((bigSep s fun b => (d : Thread nD τ).loc b ↦{fullShare} W b)
        ∗ bigSep (unsc \ s) fun b => (d : Thread nD τ).loc b ↦{fullShare} W b)
      ∧ (unscopedBufs d W' : sProp 𝕄) = iprop((bigSep s fun b => (d : Thread nD τ).loc b ↦{fullShare} W' b)
        ∗ bigSep (unsc \ s) fun b => (d : Thread nD τ).loc b ↦{fullShare} W b) := by
  refine ⟨SparseCore.bigSep_sdiff_split' hs, ?_⟩
  unfold unscopedBufs
  rw [SparseCore.bigSep_sdiff_split' hs]
  congr 1
  exact bigSep_congr fun b hb => by rw [h b (Finset.mem_sdiff.mp hb).2]

/-- The first call's operands among the TensorCore's buffers. -/
abbrev refs0 : Finset (Ref sig .tc) := {main_v0, main_arg0, main_v1_0, main_v1_1, main_v1_2}
/-- The second call's. -/
abbrev refs1 : Finset (Ref sig .tc) := {main_v1_1, main_v6_0, main_v6_1, main_v7_0, main_v7_1}

/-- The buffers the dispatch uses, one by one. -/
theorem refs0_eq (d : Dev nD) (W : Cont F d) : (bigSep refs0 fun b => (d : Thread nD τ).loc b ↦{fullShare} W b : sProp 𝕄)
    = iprop(((T d : Thread nD τ).loc main_v0 ↦{fullShare} W main_v0) ∗ ((T d : Thread nD τ).loc main_arg0 ↦{fullShare} W main_arg0)
        ∗ ((T d : Thread nD τ).loc main_v1_0 ↦{fullShare} W main_v1_0) ∗ ((T d : Thread nD τ).loc main_v1_1 ↦{fullShare} W main_v1_1)
        ∗ ((T d : Thread nD τ).loc main_v1_2 ↦{fullShare} W main_v1_2)) := by
  rw [SparseCore.bigSep_insert' (by decide), SparseCore.bigSep_insert' (by decide), SparseCore.bigSep_insert' (by decide), SparseCore.bigSep_insert' (by decide),
    bigSep_singleton]

/-- The buffers the way back uses, one by one. -/
theorem refs1_eq (d : Dev nD) (W : Cont F d) : (bigSep refs1 fun b => (d : Thread nD τ).loc b ↦{fullShare} W b : sProp 𝕄)
    = iprop(((T d : Thread nD τ).loc main_v1_1 ↦{fullShare} W main_v1_1) ∗ ((T d : Thread nD τ).loc main_v6_0 ↦{fullShare} W main_v6_0)
        ∗ ((T d : Thread nD τ).loc main_v6_1 ↦{fullShare} W main_v6_1) ∗ ((T d : Thread nD τ).loc main_v7_0 ↦{fullShare} W main_v7_0)
        ∗ ((T d : Thread nD τ).loc main_v7_1 ↦{fullShare} W main_v7_1)) := by
  rw [SparseCore.bigSep_insert' (by decide), SparseCore.bigSep_insert' (by decide), SparseCore.bigSep_insert' (by decide), SparseCore.bigSep_insert' (by decide),
    bigSep_singleton]

/-- Before the first call: what it hands its cores, and the rest. -/
theorem before0 (d : Dev nD) : (unscopedBufs d (fun b => mem1 m d (dr b)) : sProp 𝕄)
    = iprop((bigSep Finset.univ fun c : Fin 2 => bigSep Finset.univ fun i : Fin 16 => go0 m d c i)
        ∗ bigSep (unsc \ refs0) fun b => (d : Thread nD τ).loc b ↦{fullShare} mem1 m d (dr b)) := by
  rw [(unscoped_swap d refs0 (by decide) (fun b => mem1 m d (dr b)) (fun b => mem1 m d (dr b)) fun _ _ => rfl).1, refs0_eq]
  unfold go0
  rw [← deal_taskIn]
  rfl

/-- After it: what it takes back, and the rest. -/
theorem after0 (d : Dev nD) : (unscopedBufs d (fun b => mem2 m d (dr b)) : sProp 𝕄)
    = iprop((bigSep Finset.univ fun c : Fin 2 => bigSep Finset.univ fun i : Fin 16 => td0 m d c i)
        ∗ bigSep (unsc \ refs0) fun b => (d : Thread nD τ).loc b ↦{fullShare} mem1 m d (dr b)) := by
  rw [(unscoped_swap d refs0 (by decide) (fun b => mem1 m d (dr b)) (fun b => mem2 m d (dr b)) fun b hb => mem2_ne m d
      (fun e => hb (e ▸ by decide)) (fun e => hb (e ▸ by decide)) (fun e => hb (e ▸ by decide))).2, refs0_eq]
  unfold td0
  rw [← deal_taskIn, mem2_sorted, mem2_pos, mem2_starts, mem2_ne m d (b := main_v0) (by decide) (by decide) (by decide),
    mem2_ne m d (b := main_arg0) (by decide) (by decide) (by decide)]
  rfl

/-- Before the second call: what it hands its cores, and the rest. -/
theorem before1 (d : Dev nD) : (unscopedBufs d (afterRegion d (found m d)) : sProp 𝕄)
    = iprop((bigSep Finset.univ fun c : Fin 2 => bigSep Finset.univ fun i : Fin 16 => go1 m d c i)
        ∗ bigSep (unsc \ refs1) fun b => (d : Thread nD τ).loc b ↦{fullShare} afterRegion d (found m d) b) := by
  rw [(unscoped_swap d refs1 (by decide) (afterRegion d (found m d)) (afterRegion d (found m d)) fun _ _ => rfl).1, refs1_eq]
  unfold go1
  rw [← deal_scatIn, after_pos, afterRegion_P, afterRegion_V]
  rfl

/-- After it: what it takes back, and the rest. -/
theorem after1 (d : Dev nD) : (unscopedBufs d (mem8 m d) : sProp 𝕄)
    = iprop((bigSep Finset.univ fun c : Fin 2 => bigSep Finset.univ fun i : Fin 16 => td1 m d c i)
        ∗ bigSep (unsc \ refs1) fun b => (d : Thread nD τ).loc b ↦{fullShare} afterRegion d (found m d) b) := by
  rw [(unscoped_swap d refs1 (by decide) (afterRegion d (found m d)) (mem8 m d) fun b hb => mem8_ne m d
      (fun e => hb (e ▸ by decide)) (fun e => hb (e ▸ by decide))).2, refs1_eq]
  unfold td1
  rw [← deal_scatIn, mem8_P, mem8_V, mem8_ne m d (b := main_v1_1) (by decide) (by decide), mem8_ne m d (b := main_v6_0) (by decide) (by decide),
    mem8_ne m d (b := main_v6_1) (by decide) (by decide), after_pos, afterRegion_P, afterRegion_V]
  rfl

/-! ## The operations of the TensorCore's program -/

/-- The unscoped buffers as the operations name them. -/
abbrev ucRefs : Finset (DevRef τ sig) := (StableHlo.tcRefs τ sig).filter fun b => ¬ b.isScoped

/-- The buffers that outlive the calls, held one way and the other. -/
theorem unscoped_held (d : Dev nD) (W : Valuation τ sig (Elt F)) :
    (unscopedBufs d (fun b => W (dr b)) : sProp 𝕄) = StableHlo.held (T d : Thread nD τ) ucRefs W := by
  unfold unscopedBufs StableHlo.held ucRefs StableHlo.tcRefs
  rw [Finset.filter_map, BI.bigSep_map]; rfl

/-- An operation on the unscoped buffers. -/
theorem op_step (d : Dev nD) {hp : (T d : Thread nD τ).2.kind.runsHlo = true} {op : HloOp τ sig (Elt F)} (hS : op.bufs ⊆ ucRefs) (hf : op.fresh = ∅)
    {W : Valuation τ sig (Elt F)} {Φ : PUnit → sProp 𝕄} :
    iprop(boundary (T d : Thread nD τ) ∗ unscopedBufs d (fun b => W (dr b))
        ∗ ((boundary (T d : Thread nD τ) ∗ unscopedBufs d (fun b => op.result W (dr b))) -∗ Φ ⟨⟩))
      ⊢ wp frame (wpE ((K (F := F)).defs (D (F := F))) 𝒱 (T d : Thread nD τ) none) Set.univ (hlo hp op (fun _ => .ret ⟨⟩)) Φ := by
  rw [unscoped_held, unscoped_held]
  iintro ⟨Hb, Hu, Hk⟩
  iapply (StableHlo.wp_hlo_within 𝒱 (T d : Thread nD τ) none Set.univ hS (hf := hf)) $$ [Hb Hu]
  · isplitl [Hb]; · iexact Hb
    iexact Hu
  iintro H
  ihave H := Hk $$ H
  rw [show (wp frame (wpE ((K (F := F)).defs (D (F := F))) 𝒱 (T d : Thread nD τ) none) Set.univ (.ret ⟨⟩) Φ : sProp 𝕄) = iprop(|={Set.univ}=> Φ ⟨⟩) from rfl]
  imodintro
  iexact H

end Cert.Proof

end
-- ==== Proof.Run.lean ====
/-
  The kernel's run: the TensorCore's program from its start to its end, the memory read off at the end.
-/
module

public import proofs.«01_k».proof.Proof.Launch

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Counting

variable {F : FTy → Type}

local notation "𝕄" => MT nD τ sig (HIx 2) (Elt F) ℕ UU ℕ

variable [FloatOps F] (m : (ℓ : Loc nD τ sig) → Buf (Elt F) ℓ) (ρ : Dev nD → PrngReg)

/-- The operands of this reshape are unscoped buffers of the TensorCore's. -/
theorem op0_in : (op0 (F := F)).bufs ⊆ ucRefs :=
  (by decide : ({dr main_arg1, dr main_v0} : Finset (DevRef τ sig)) ⊆ ucRefs)

/-- The operands of this reshape are unscoped buffers of the TensorCore's. -/
theorem op2_in : (op2 (F := F)).bufs ⊆ ucRefs :=
  (by decide : ({dr main_arg3, dr main_v2} : Finset (DevRef τ sig)) ⊆ ucRefs)

/-- The operands of this reshape are unscoped buffers of the TensorCore's. -/
theorem op3_in : (op3 (F := F)).bufs ⊆ ucRefs :=
  (by decide : ({dr main_arg5, dr main_v3} : Finset (DevRef τ sig)) ⊆ ucRefs)

/-- The operands of this reshape are unscoped buffers of the TensorCore's. -/
theorem op4_in : (op4 (F := F)).bufs ⊆ ucRefs :=
  (by decide : ({dr main_arg7, dr main_v4} : Finset (DevRef τ sig)) ⊆ ucRefs)

/-- The operands of this reshape are unscoped buffers of the TensorCore's. -/
theorem op5_in : (op5 (F := F)).bufs ⊆ ucRefs :=
  (by decide : ({dr main_arg9, dr main_v5} : Finset (DevRef τ sig)) ⊆ ucRefs)

/-- Between the calls: what the TensorCore owes, and its state back from that. -/
theorem owes_focus (d : Dev nD) : ((K (F := F)).tcSt EH d 1 : sProp 𝕄) ⊢ iprop(owesMid (F := F) d ∗ (owesMid (F := F) d -∗ (K (F := F)).tcSt EH d 1)) := by
  unfold SparseCore.Cfg.tcSt
  iintro ⟨H, Hr⟩
  isplitl [H]; · iexact H
  iintro H
  isplitl [H]; · iexact H
  iexact Hr

/-- The TensorCore's program: the goals reshaped, the first call, the biases reshaped, the region, the second call. -/
theorem hmain (κ : GSem nD τ sig → ℕ) (d : Dev nD) :
    iprop((K (F := F)).ctx EH (P m) κ ∗ (K (F := F)).tcSt EH d 0 ∗ (K (F := F)).tcRes m ρ d ∗ regionGhost (F := F) d)
      ⊢ wp frame (wpE ((K (F := F)).defs (D (F := F))) 𝒱 (T d : Thread nD τ) none) Set.univ (main d)
          fun _ => iprop((K (F := F)).tcSt EH d 2 ∗ unscopedBufs d (mem8 m d) ∗ (K (F := F)).tcEnd d) := by
  unfold SparseCore.Cfg.tcRes SparseCore.Cfg.tcEnd
  simp only [main, wp_bind, wp_pure]
  iintro ⟨#Hctx, Hst, ⟨Hb, Hu, Hts, -⟩, Hcg, Htk⟩
  -- the reshape into the flat goals
  iapply (op_step (F := F) d (op := op0) (W := mem0 m d) (op0_in (F := F)) rfl)
  isplitl [Hb]; · iexact Hb
  isplitl [Hu]; · iexact Hu
  iintro ⟨Hb, Hu⟩
  ihave Hu := (Entails.of_eq (show (unscopedBufs d (fun b => (op0 (F := F)).result (mem0 m d) (dr b)) : sProp 𝕄) = unscopedBufs d (fun b => mem1 m d (dr b)) from rfl)) $$ Hu
  -- the first call
  ihave Hu := (Entails.of_eq (before0 m d)) $$ Hu
  icases Hu with ⟨Hgo, Hrest⟩
  iapply ((K (F := F)).wp_run (D (F := F)) 𝒱 (EH := EH) (P := P m) κ d 0) $$ [Hst Hgo Hrest Hb Hts Hcg Htk]
  isplitr; · iexact Hctx
  isplitl [Hst]; · iexact Hst
  isplitl [Hgo]; · iexact Hgo
  iintro ⟨Hst, Htd⟩
  ihave Hu := (show iprop((bigSep Finset.univ fun c : Fin ((K (F := F)).nCore 0) => (P m).dn 0 d c)
      ∗ bigSep (unsc \ refs0) fun b => (d : Thread nD τ).loc b ↦{fullShare} mem1 m d (dr b)) ⊢ unscopedBufs d (fun b => mem2 m d (dr b)) from
      Entails.of_eq (after0 m d).symm) $$ [Htd Hrest]
  · isplitl [Htd]; · iexact Htd
    iexact Hrest
  -- the reshape into the first biases
  iapply (op_step (F := F) d (op := op2) (W := mem2 m d) (op2_in (F := F)) rfl)
  isplitl [Hb]; · iexact Hb
  isplitl [Hu]; · iexact Hu
  iintro ⟨Hb, Hu⟩
  ihave Hu := (Entails.of_eq (show (unscopedBufs d (fun b => (op2 (F := F)).result (mem2 m d) (dr b)) : sProp 𝕄) = unscopedBufs d (fun b => mem3 m d (dr b)) from rfl)) $$ Hu
  -- the reshape into the second biases
  iapply (op_step (F := F) d (op := op3) (W := mem3 m d) (op3_in (F := F)) rfl)
  isplitl [Hb]; · iexact Hb
  isplitl [Hu]; · iexact Hu
  iintro ⟨Hb, Hu⟩
  ihave Hu := (Entails.of_eq (show (unscopedBufs d (fun b => (op3 (F := F)).result (mem3 m d) (dr b)) : sProp 𝕄) = unscopedBufs d (fun b => mem4 m d (dr b)) from rfl)) $$ Hu
  -- the reshape into the third biases
  iapply (op_step (F := F) d (op := op4) (W := mem4 m d) (op4_in (F := F)) rfl)
  isplitl [Hb]; · iexact Hb
  isplitl [Hu]; · iexact Hu
  iintro ⟨Hb, Hu⟩
  ihave Hu := (Entails.of_eq (show (unscopedBufs d (fun b => (op4 (F := F)).result (mem4 m d) (dr b)) : sProp 𝕄) = unscopedBufs d (fun b => mem5 m d (dr b)) from rfl)) $$ Hu
  -- the reshape into the fourth biases
  iapply (op_step (F := F) d (op := op5) (W := mem5 m d) (op5_in (F := F)) rfl)
  isplitl [Hb]; · iexact Hb
  isplitl [Hu]; · iexact Hu
  iintro ⟨Hb, Hu⟩
  ihave Hu := (Entails.of_eq (show (unscopedBufs d (fun b => (op5 (F := F)).result (mem5 m d) (dr b)) : sProp 𝕄) = unscopedBufs d (fun b => mem6 m d (dr b)) from rfl)) $$ Hu
  -- the region
  ihave Hl := (SparseCore.Cfg.ctx_levAts (K := K (F := F)) (EH := EH) (P := P m) κ) $$ Hctx
  ihave Hst := (show (K (F := F)).tcSt EH d ((0 : Fin 2).val + 1) ⊢ iprop(owesMid (F := F) d ∗ (owesMid (F := F) d -∗ (K (F := F)).tcSt EH d 1)) from owes_focus (F := F) d) $$ Hst
  icases Hst with ⟨Ho, Hmid⟩
  iapply (region_step (F := F) (found m) d)
  isplitr [Hb Hu Ho Hl Hcg Htk]
  swap
  · isplitl [Hb]; · iexact Hb
    isplitl [Hu Ho]
    · isplitl [Hu]; · iexact Hu
      iexact Ho
    isplitl [Hl]; · iexact Hl
    isplitl [Hcg]; · iexact Hcg
    iexact Htk
  iintro ⟨Hb, Hu, Ho⟩
  ihave Hst := Hmid $$ Ho
  -- the second call
  ihave Hu := (Entails.of_eq (before1 m d)) $$ Hu
  icases Hu with ⟨Hgo, Hrest⟩
  iapply ((K (F := F)).wp_run (D (F := F)) 𝒱 (EH := EH) (P := P m) κ d 1) $$ [Hst Hgo Hrest Hb Hts]
  isplitr; · iexact Hctx
  isplitl [Hst]; · iexact Hst
  isplitl [Hgo]; · iexact Hgo
  iintro ⟨Hst, Htd⟩
  ihave Hu := (show iprop((bigSep Finset.univ fun c : Fin ((K (F := F)).nCore 1) => (P m).dn 1 d c)
      ∗ bigSep (unsc \ refs1) fun b => (d : Thread nD τ).loc b ↦{fullShare} afterRegion d (found m d) b) ⊢ unscopedBufs d (mem8 m d) from
      Entails.of_eq (after1 m d).symm) $$ [Htd Hrest]
  · isplitl [Htd]; · iexact Htd
    iexact Hrest
  imodintro
  isplitl [Hst]; · iexact Hst
  isplitl [Hu]; · iexact Hu
  isplitl [Hb]; · iexact Hb
  iexact Hts

/-- What the memory holds at the end. -/
def endsAt (d : Dev nD) (s' : Phys nD τ sig (Elt F)) : Prop := ∀ b ∈ unsc, s'.mem.mem ((d : Thread nD τ).loc b) = mem8 m d b

/-- The buffers held at the end are the memory's. -/
theorem hfin (d : Dev nD) (s' : Phys nD τ sig (Elt F)) : iprop(unscopedBufs d (mem8 m d) ∗ SI s') ⊢ (⌜endsAt m d s'⌝ : sProp 𝕄) := by
  unfold endsAt
  refine via ?_ (Laws.pure_forall (PROP := sProp 𝕄)).2
  refine forall_intro fun b => ?_
  refine via ?_ (Laws.pure_forall (PROP := sProp 𝕄)).2
  refine forall_intro fun hb => ?_
  unfold unscopedBufs
  rw [SparseCore.bigSep_erase' hb]
  iintro ⟨⟨Hb, -⟩, HSI⟩
  ihave H := (SI_pointsTo_agree (st := s') (ℓ := (d : Thread nD τ).loc b) (I := Finset.univ) (q := fullShare) (f := mem8 m d b)) $$ [HSI Hb]
  · isplitl [HSI] <;> iassumption
  icases H with %h
  ipureintro; exact funext fun i => h i (Finset.mem_univ i)

/-- What the run ends with: every buffer of the TensorCore's at the program's value, every counter back at zero. -/
def RunEnds : PUnit × MemSt nD τ sig (Elt F) → Prop :=
  fun r => (∀ (d : Dev nD), ∀ b ∈ unsc, r.2.mem ((d : Thread nD τ).loc b) = mem8 m d b) ∧ r.2.sem = fun _ => 0

/-- The kernel runs, from a memory whose goals are in range. -/
theorem run_main [∀ e, Nonempty (Elt F e)] (hG : ∀ d, GoalsOk (goals m d)) :
    θ_run (Cert.KernelIdeal.defs (F := F)) (Cert.KernelIdeal.threads (F := F)) ⟨m, fun _ => 0, ρ⟩ (RunEnds m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hG | 1 => tileObl1 m)
    (fun q _ => match q with | 0 => SparseCore.Cfg.VecSplit.of_plain (vecSplit0 m) | 1 => SparseCore.Cfg.VecSplit.of_plain (vecSplit1 m))
    m ρ main (fun d => regionGhost (F := F) d) (fun d => unscopedBufs d (mem8 m d)) (u₀ (F := F)) (sep_elim_left.trans (hu₀ m)) (hmain m ρ)
    (endsAt m) (hfin m) (RunEnds m) (fun _ h hz => ⟨h, hz⟩)

end Cert.Proof

end
-- ==== Proof.Frames.lean ====
/-
  The precondition on the goals, and the frames: each program runs and leaves its arguments unchanged.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_goals_in_range
public import Idealize.ShloMosaic.Lib.ReduceAll
public import Idealize.ShloMosaic.Lib.WordCmp

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Counting

variable {F : FTy → Type}

local notation "𝕄" => MT nD τ sig (HIx 2) (Elt F) ℕ UU ℕ

variable [FloatOps F] (m : (ℓ : Loc nD τ sig) → Buf (Elt F) ℓ)

/-- The goals of a device as the host passed them. -/
abbrev goalArg (d : Dev nD) : S4096x1.Idx → BitVec 32 := m ((d : Thread nD τ).loc main_arg1)

/-- The flat goals are the goals, reshaped. -/
theorem goals_eq (d : Dev nD) : goals m d = shapeCast S4096 (goalArg m d) shapeCasts_S4096x1_S4096 := by
  refine (StableHlo.reshape_result main_arg1 main_v0 (rfl : (.i32 : EltTy) = .i32) shapeCasts_S4096x1_S4096
    (by decide) (by decide) (mem0 m d)).trans ?_
  rfl

/-- A word that is at least 0 and less than 16 as a signed word is less than 16 as a number. -/
theorem small_of_cmp (v : BitVec 32) (e : IntOp.andi (IntOp.cmpi .sge v 0#32) (IntOp.cmpi .slt v 16#32) = 1#1) : v.toNat < 16 := by
  have ofBool_eq_one (p : Bool) : (BitVec.ofBool p = 1#1) ↔ p = true := by cases p <;> decide
  have andi_ofBool (p q : Bool) : IntOp.andi (BitVec.ofBool p) (BitVec.ofBool q) = BitVec.ofBool (p && q) := by
    cases p <;> cases q <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Goals that pass the host's test are in range. -/
theorem goals_ok (d : Dev nD) (x0 : FVec F S4096x128 .f32) (x2 : FVec F S16x128x128 .f32) (x3 : FVec F S16x128 .f32)
    (x4 : FVec F S16x128x128 .f32) (x5 : FVec F S16x128 .f32) (x6 : FVec F S16x128x128 .f32) (x7 : FVec F S16x128 .f32)
    (x8 : FVec F S16x128x128 .f32) (x9 : FVec F S16x128 .f32)
    (h : Cert.Pre_goals_in_range.fn (F := F) x0 (goalArg m d) x2 x3 x4 x5 x6 x7 x8 x9 = fun _ => 1#1) : GoalsOk (goals m d) := by
  have all : ∀ i : S4096x1.Idx, (goalArg m d i).toNat < 16 := by
    intro i
    have e := congrFun h (fun a => a.elim0)
    simp only [Cert.Pre_goals_in_range.fn] at e
    have e' := Host.reduce_andi_all _ _ _ _ _ e i
    exact small_of_cmp _ e'
  intro x
  rw [goals_eq]
  exact all _

/-- What a frame asks of the kernel's run. -/
theorem run_frame [∀ e, Nonempty (Elt F e)] (ρ : Dev nD → PrngReg) (hG : ∀ d, GoalsOk (goals m d)) :
    θ_run (Cert.KernelIdeal.defs (F := F)) (Cert.KernelIdeal.threads (F := F)) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9))
      ∧ r.2.sem = fun _ => 0) := by
  have arg : ∀ {r : PUnit × MemSt nD τ sig (Elt F)} (h : RunEnds m r) (c : Dev nD) {b : Ref sig .tc} (hb : b ∈ unsc)
      (ha : b ∈ [main_arg0, main_arg1, main_arg2, main_arg3, main_arg4, main_arg5, main_arg6, main_arg7, main_arg8, main_arg9]),
      r.2.mem ((c : Thread nD τ).loc b) = m ((c : Thread nD τ).loc b) :=
    fun h c _ hb ha => (h.1 c _ hb).trans (mem8_arg m c ha)
  refine (θ_run (Cert.KernelIdeal.defs (F := F)) _ _).mono (fun r h => ⟨fun c => ?_, h.2⟩) (run_main m ρ hG)
  exact ⟨arg h c (by decide) (by decide), arg h c (by decide) (by decide), arg h c (by decide) (by decide), arg h c (by decide) (by decide), arg h c (by decide) (by decide), arg h c (by decide) (by decide), arg h c (by decide) (by decide), arg h c (by decide) (by decide), arg h c (by decide) (by decide), arg h c (by decide) (by decide)⟩

end Cert.Proof

namespace Cert.Proof

open Idealize.ShloMosaic

/-- The kernel over exact floats runs and leaves its arguments unchanged. -/
theorem frame_kernelIdeal : Cert.quiescent_KernelIdeal := fun m ρ hpre =>
  run_frame (F := Ideal) m ρ fun d => goals_ok (F := Ideal) m d _ _ _ _ _ _ _ _ _ (hpre d)

/-- So does the reference over exact floats; it has no counters. -/
theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.Proof

end
-- ==== Proof.Same.lean ====
/-
  The kernel as compiled and the kernel read over exact floats are one text: their bodies, body tables and programs
  are equal, piece by piece.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The three bodies. -/
theorem cc0_same : Cert.Kernel.cc0__dispatch_body (F := F) = Cert.KernelIdeal.cc0__dispatch_body (F := F) := rfl
/-- The expert region's body is the same. -/
theorem cc1_same : Cert.Kernel.cc1__tc_body (F := F) = Cert.KernelIdeal.cc1__tc_body (F := F) := rfl
/-- The way back's body is the same. -/
theorem cc2_same : Cert.Kernel.cc2__scat_body (F := F) = Cert.KernelIdeal.cc2__scat_body (F := F) := rfl

set_option maxHeartbeats 2000000 in
/-- The bodies' table. -/
theorem defs₀_same : Cert.Kernel.defs₀ (F := F) = Cert.KernelIdeal.defs₀ (F := F) := by
  funext p l a
  rcases p with _ | c | ⟨c, s⟩
  · match l with
    | 0 => rfl
    | 1 =>
      unfold Cert.Kernel.defs₀ Cert.KernelIdeal.defs₀
      rw [cc1_same]
      rfl
    | 2 => rfl
  · match l with
    | 0 => rfl
    | 1 => rfl
    | 2 => rfl
  · match l with
    | 0 =>
      unfold Cert.Kernel.defs₀ Cert.KernelIdeal.defs₀
      rw [cc0_same]
      rfl
    | 1 => rfl
    | 2 =>
      unfold Cert.Kernel.defs₀ Cert.KernelIdeal.defs₀
      rw [cc2_same]
      rfl

set_option maxHeartbeats 2000000 in
/-- The table with the region and the dispatches. -/
theorem defs_same : Cert.Kernel.defs (F := F) = Cert.KernelIdeal.defs (F := F) :=
  congrArg (fun D => (Cert.KernelIdeal.sc (F := F)).defs (Pipeline.defs Cert.KernelIdeal.pcfgs D)) (defs₀_same (F := F))

/-- Two programs in sequence, equal part by part. -/
theorem bind_same.{u} {E : Type → Type u} {α β : Type} {x x' : Prog E α} {f f' : α → Prog E β} (hx : x = x') (hf : ∀ a, f a = f' a) :
    (x >>= f) = (x' >>= f') := by rw [hx, funext hf]

set_option maxHeartbeats 2000000 in
/-- The TensorCore's program. -/
theorem main_same (d : Dev Cert.KernelIdeal.nD) : Cert.Kernel.main (F := F) d = Cert.KernelIdeal.main (F := F) d := by
  unfold Cert.Kernel.main Cert.KernelIdeal.main
  refine bind_same rfl fun _ => ?_
  refine bind_same rfl fun _ => ?_
  refine bind_same rfl fun _ => ?_
  refine bind_same rfl fun _ => ?_
  refine bind_same rfl fun _ => ?_
  refine bind_same rfl fun _ => ?_
  refine bind_same rfl fun _ => ?_
  refine bind_same rfl fun _ => ?_
  rfl

set_option maxHeartbeats 2000000 in
/-- Every thread's program. -/
theorem threads_same : Cert.Kernel.threads (F := F) = Cert.KernelIdeal.threads (F := F) :=
  congrArg (fun M => (Cert.KernelIdeal.sc (F := F)).threads M) (funext (main_same (F := F)))

end Cert.Proof

end
-- ==== Proof.FrameKernel.lean ====
/-
  The compiled kernel's frame, from the run over any floats.
-/
module

public import proofs.«01_k».proof.Proof.Frames
public import proofs.«01_k».proof.Proof.Same

@[expose] public section

noncomputable section

namespace Cert.Proof

open Idealize.ShloMosaic

set_option maxHeartbeats 1000000 in
/-- The kernel as compiled runs and leaves its arguments unchanged. -/
theorem frame_kernel : Cert.quiescent_Kernel := by
  intro m ρ hpre
  have h := run_frame (F := Bits) m ρ fun d => goals_ok (F := Bits) m d _ _ _ _ _ _ _ _ _ (hpre d)
  rw [defs_same, threads_same]
  exact h

end Cert.Proof

end
-- ==== Proof.TripValue.lean ====
/-
  What one trip of the expert region's loop does to a row of a result block, over exact floats: where the row lies in
  the goal's segment it becomes the goal's network of the operand's row, elsewhere it stays.
-/
module

public import proofs.«01_k».proof.Proof.Experts
public import Idealize.ShloMosaic.Lib.Pointwise
public import Idealize.ShloMosaic.Lib.WordCmp

@[expose] public section

noncomputable section

namespace Cert.Proof

open Cert.KernelIdeal Cert.KernelIdeal.Gen
open Idealize.ShloMosaic

/-! ## The network -/

/-- One layer of a network: the row times the matrix, the bias added, negatives cut off. -/
def layer (W : Fin 128 → Fin 128 → EReal) (b x : Fin 128 → EReal) (k : Fin 128) : EReal :=
  max (∑ j, x j * W j k + b k) 0

/-- A network: two layers. -/
def net (W1 : Fin 128 → Fin 128 → EReal) (b1 : Fin 128 → EReal) (W2 : Fin 128 → Fin 128 → EReal) (b2 x : Fin 128 → EReal) : Fin 128 → EReal :=
  layer W2 b2 (layer W1 b1 x)

/-- Goal `g`'s network out of sixteen, the biases kept with a unit axis. -/
def netOf (W1 : Vec Ideal S16x128x128 .f32) (b1 : Vec Ideal S16x1x128 .f32) (W2 : Vec Ideal S16x128x128 .f32) (b2 : Vec Ideal S16x1x128 .f32)
    (g : Fin 16) (x : Fin 128 → EReal) : Fin 128 → EReal :=
  net (fun j k => W1 (ix3 g j k)) (fun k => b1 (ix3 g 0 k)) (fun j k => W2 (ix3 g j k)) (fun k => b2 (ix3 g 0 k)) x

/-! ## The two stored values at an index -/

section Stored

variable (x : FVec Ideal S256x128 .f32) (rows : IVec S256x1 32) (lo hi : BitVec 32) (w1 : Vec Ideal S1x128x128 .f32)
  (b1 : Vec Ideal S1x1x128 .f32) (w2 : Vec Ideal S1x128x128 .f32) (b2 : Vec Ideal S1x1x128 .f32) (old : Vec Ideal S256x128 .f32)
  (r : Fin 256) (k : Fin 128)

/-- The first result's stored value. -/
theorem stored_P : k1_pay8 x rows lo hi w1 b1 w2 b2 old (ix2 r k)
    = Scalar.select (IntOp.andi (IntOp.cmpi .sge (rows (ix2 r 0)) lo) (IntOp.cmpi .slt (rows (ix2 r 0)) hi))
        (net (fun j k => w1 (ix3 0 j k)) (fun k => b1 (ix3 0 0 k)) (fun j k => w2 (ix3 0 j k)) (fun k => b2 (ix3 0 0 k)) (fun j => x (ix2 r j)) k)
        (old (ix2 r k)) := by
  pointwise [k1_pay8, k1_pay7, k1_pay6]
  rfl

/-- The second result's stored value. -/
theorem stored_V : k1_pay5 (k1_pay6 (F := Ideal) rows lo hi) (k1_pay7 x) (k1_pay9 w1) b1 w2 b2 old (ix2 r k)
    = Scalar.select (IntOp.andi (IntOp.cmpi .sge (rows (ix2 r 0)) lo) (IntOp.cmpi .slt (rows (ix2 r 0)) hi))
        (net (fun j k => w1 (ix3 0 j k)) (fun k => b1 (ix3 0 0 k)) (fun j k => w2 (ix3 0 j k)) (fun k => b2 (ix3 0 0 k)) (fun j => x (ix2 r j)) k)
        (old (ix2 r k)) := by
  pointwise [k1_pay5, k1_pay7, k1_pay6, k1_pay9]
  rfl

end Stored

/-- The row numbers of a block. -/
theorem rowNumber (i : grid1.Coords) (r : Fin 256) : (k1_pay4 i (ix2 r 0)).toNat = 256 * (i 0).val + r.val := by
  have hi : (i 0).val < 16 := (i 0).isLt
  have hr := r.isLt
  pointwise [k1_pay4]
  show (BitVec.ofNat 32 (i 0).val * 256#32 + BitVec.ofNat 32 r.val).toNat = _
  simp only [BitVec.toNat_add, BitVec.toNat_mul, BitVec.toNat_ofNat]
  omega

/-- The operand's block as the body reads it is the block. -/
theorem operandRow (x : FVec Ideal S256x128 .f32) : k1_pay1 x = x := by
  funext j
  pointwise [k1_pay1]

/-! ## A goal's weights, biases and segment -/

/-- The trips are the sixteen goals. -/
def goalAt (t : Fin k1_t1_loop.trips) : Fin 16 := ⟨t.val, lt_of_lt_of_le t.isLt (by decide)⟩

/-- Trip `t` reads its goal's start at `t`. -/
theorem off1_eq (t : Fin k1_t1_loop.trips) : k1_off1 t 0 = t.val := by revert t; decide
/-- It reads the next goal's start at `t + 1`, but for the last. -/
theorem off2_eq (t : Fin k1_t1_loop.trips) : t.val ≠ 15 → k1_off2 t 0 = t.val + 1 := by revert t; decide
/-- Its matrices start at goal `t`. -/
theorem off3_eq (t : Fin k1_t1_loop.trips) : k1_off3 t 0 = t.val ∧ k1_off3 t 1 = 0 ∧ k1_off3 t 2 = 0 := by revert t; decide
/-- So do its biases. -/
theorem off4_eq (t : Fin k1_t1_loop.trips) : k1_off4 t 0 = t.val ∧ k1_off4 t 1 = 0 ∧ k1_off4 t 2 = 0 := by revert t; decide
/-- The test of the last goal. -/
theorem last_eq (t : Fin k1_t1_loop.trips) : Scalar.cmpi .eq (Scf.iv 0#32 1#32 t) 15#32 = if t.val = 15 then 1#1 else 0#1 := by
  revert t; decide

/-- A goal's matrix, at an index. -/
theorem mat_part (W : Vec Ideal S16x128x128 .f32) (t : Fin k1_t1_loop.trips) (j k : Fin 128) : part W (matAt t) (ix3 0 j k) = W (ix3 (goalAt t) j k) := by
  obtain ⟨h0, h1, h2⟩ := off3_eq t
  refine congrArg W (funext fun a => Fin.ext ?_)
  fin_cases a
  · show k1_off3 t 0 + 1 * 0 = t.val; omega
  · show k1_off3 t 1 + 1 * j.val = j.val; omega
  · show k1_off3 t 2 + 1 * k.val = k.val; omega

/-- A goal's bias, at an index. -/
theorem row_part (b : Vec Ideal S16x1x128 .f32) (t : Fin k1_t1_loop.trips) (k : Fin 128) : part b (rowAt t) (ix3 0 0 k) = b (ix3 (goalAt t) 0 k) := by
  obtain ⟨h0, h1, h2⟩ := off4_eq t
  refine congrArg b (funext fun a => Fin.ext ?_)
  fin_cases a
  · show k1_off4 t 0 + 1 * 0 = t.val; omega
  · show k1_off4 t 1 + 1 * 0 = 0; omega
  · show k1_off4 t 2 + 1 * k.val = k.val; omega

/-- The network of a goal's staged weights is the goal's network. -/
theorem net_part (W1 : Vec Ideal S16x128x128 .f32) (b1 : Vec Ideal S16x1x128 .f32) (W2 : Vec Ideal S16x128x128 .f32) (b2 : Vec Ideal S16x1x128 .f32)
    (t : Fin k1_t1_loop.trips) (x : Fin 128 → EReal) (k : Fin 128) :
    net (fun j k => part W1 (matAt t) (ix3 0 j k)) (fun k => part b1 (rowAt t) (ix3 0 0 k)) (fun j k => part W2 (matAt t) (ix3 0 j k))
        (fun k => part b2 (rowAt t) (ix3 0 0 k)) x k = netOf W1 b1 W2 b2 (goalAt t) x k := by
  have e1 : (fun j k => part W1 (matAt t) (ix3 0 j k)) = fun j k => W1 (ix3 (goalAt t) j k) := funext₂ (mat_part W1 t)
  have e2 : (fun k => part b1 (rowAt t) (ix3 0 0 k)) = fun k => b1 (ix3 (goalAt t) 0 k) := funext (row_part b1 t)
  have e3 : (fun j k => part W2 (matAt t) (ix3 0 j k)) = fun j k => W2 (ix3 (goalAt t) j k) := funext₂ (mat_part W2 t)
  have e4 : (fun k => part b2 (rowAt t) (ix3 0 0 k)) = fun k => b2 (ix3 (goalAt t) 0 k) := funext (row_part b2 t)
  rw [e1, e2, e3, e4]; rfl

/-- A goal's first row. -/
theorem loW_eq (seg : S16.Idx → BitVec 32) (t : Fin k1_t1_loop.trips) : loW seg t = seg (ix1 (goalAt t)) := by
  have h := off1_eq t
  refine congrArg seg (funext fun a => Fin.ext ?_)
  fin_cases a
  show k1_off1 t 0 + 1 * 0 = t.val; omega

/-- The end of a goal's rows: the next goal's first, or the number of rows. -/
theorem hiW_eq (seg : S16.Idx → BitVec 32) (t : Fin k1_t1_loop.trips) :
    hiW seg t = if h : t.val + 1 < 16 then seg (ix1 ⟨t.val + 1, h⟩) else 4096#32 := by
  have ht : t.val < 16 := (goalAt t).isLt
  unfold hiW
  rw [last_eq]
  by_cases e : t.val = 15
  · rw [if_pos e, dif_neg (by omega)]; rfl
  · rw [if_neg e, dif_pos (by omega)]
    have h := off2_eq t e
    refine Eq.trans (b := seg _) rfl (congrArg seg (funext fun a => Fin.ext ?_))
    fin_cases a
    show k1_off2 t 0 + 1 * 0 = t.val + 1; omega

/-! ## The trip at a row -/

/-- The test of a row against a goal's segment. -/
theorem inSegment {row lo hi : BitVec 32} (hr : row.toNat < 4096) (hl : lo.toNat ≤ 4096) (hh : hi.toNat ≤ 4096) :
    (IntOp.andi (IntOp.cmpi .sge row lo) (IntOp.cmpi .slt row hi)) = BitVec.ofBool (decide (lo.toNat ≤ row.toNat ∧ row.toNat < hi.toNat)) := by
  rw [WordCmp.cmpi_sge_of_lt (by omega) (by omega), WordCmp.cmpi_slt_of_lt (by omega) (by omega), WordCmp.andi_ofBool, Bool.decide_and]

/-- Where the body skips a goal, the goal has no row in the block. -/
theorem skipped {i : grid1.Coords} {seg : S16.Idx → BitVec 32} {t : Fin k1_t1_loop.trips} (hl : (loW seg t).toNat ≤ 4096) (hh : (hiW seg t).toNat ≤ 4096)
    (hm : ¬ meets i seg t = 1#1) (r : Fin 256) : ¬ ((loW seg t).toNat ≤ 256 * (i 0).val + r.val ∧ 256 * (i 0).val + r.val < (hiW seg t).toNat) := by
  intro h
  have hi : (i 0).val < 16 := (i 0).isLt
  have hr := r.isLt
  have hb : (baseW i).toNat = 256 * (i 0).val := by
    show (BitVec.ofNat 32 (i 0).val * 256#32).toNat = _
    simp only [BitVec.toNat_mul, BitVec.toNat_ofNat]; omega
  have hb' : (Scalar.addi (baseW i) 256#32).toNat = 256 * (i 0).val + 256 := by
    show (baseW i + 256#32).toNat = _
    simp only [BitVec.toNat_add, hb, BitVec.toNat_ofNat]; omega
  apply hm
  unfold meets
  have e1 : Scalar.cmpi .slt (loW seg t) (Scalar.addi (baseW i) 256#32) = 1#1 := by
    show IntOp.cmpi .slt _ _ = _
    rw [WordCmp.cmpi_slt_of_lt (by omega) (by omega), decide_eq_true (by omega)]; rfl
  have e2 : Scalar.cmpi .sgt (hiW seg t) (baseW i) = 1#1 := by
    show IntOp.cmpi .sgt _ _ = _
    rw [WordCmp.cmpi_sgt_of_lt (by omega) (by omega), decide_eq_true (by omega)]; rfl
  rw [e1, e2]; rfl

variable (i : grid1.Coords) (s : Staged Ideal) (t : Fin k1_t1_loop.trips) (old : Vec Ideal S256x128 .f32) (r : Fin 256) (k : Fin 128)

/-- A trip on a row of the first result's block. -/
theorem tripP_at (hl : (loW s.seg t).toNat ≤ 4096) (hh : (hiW s.seg t).toNat ≤ 4096) :
    tripP i s t old (ix2 r k)
      = if (loW s.seg t).toNat ≤ 256 * (i 0).val + r.val ∧ 256 * (i 0).val + r.val < (hiW s.seg t).toNat then
          netOf s.pw1 s.pb1 s.pw2 s.pb2 (goalAt t) (fun j => s.x (ix2 r j)) k
        else old (ix2 r k) := by
  have hi : (i 0).val < 16 := (i 0).isLt
  have hr := r.isLt
  unfold tripP
  by_cases hm : meets i s.seg t = 1#1
  · rw [if_pos hm, stored_P, inSegment (by rw [rowNumber]; omega) hl hh, rowNumber, operandRow]
    split_ifs with hc
    · rw [decide_eq_true hc]
      exact net_part s.pw1 s.pb1 s.pw2 s.pb2 t _ k
    · rw [decide_eq_false hc]; rfl
  · rw [if_neg hm, if_neg (skipped hl hh hm r)]

/-- A trip on a row of the second result's block. -/
theorem tripV_at (hl : (loW s.seg t).toNat ≤ 4096) (hh : (hiW s.seg t).toNat ≤ 4096) :
    tripV i s t old (ix2 r k)
      = if (loW s.seg t).toNat ≤ 256 * (i 0).val + r.val ∧ 256 * (i 0).val + r.val < (hiW s.seg t).toNat then
          netOf s.vw1 s.vb1 s.vw2 s.vb2 (goalAt t) (fun j => s.x (ix2 r j)) k
        else old (ix2 r k) := by
  have hi : (i 0).val < 16 := (i 0).isLt
  have hr := r.isLt
  unfold tripV
  by_cases hm : meets i s.seg t = 1#1
  · rw [if_pos hm, stored_V, inSegment (by rw [rowNumber]; omega) hl hh, rowNumber, operandRow]
    split_ifs with hc
    · rw [decide_eq_true hc]
      exact net_part s.vw1 s.vb1 s.vw2 s.vb2 t _ k
    · rw [decide_eq_false hc]; rfl
  · rw [if_neg hm, if_neg (skipped hl hh hm r)]

end Cert.Proof

end
-- ==== Proof.BlockValue.lean ====
/-
  What the expert region writes, over exact floats: a row of a result block is the network of the row's own goal, on the
  operand's row.
-/
module

public import proofs.«01_k».proof.Proof.TripValue
public import proofs.«01_k».proof.Proof.RegionStep
public import proofs.«01_k».proof.Proof.Rows
public import Idealize.ShloMosaic.Lib.Pipeline.ValueKit

@[expose] public section

noncomputable section

namespace Cert.Proof

open Cert.KernelIdeal Cert.KernelIdeal.Gen
open Idealize.ShloMosaic
open Cert.Proof.Counting

/-! ## A block after some of the goals -/

section Blocks

variable {G : S4096.Idx → BitVec 32}

/-- The segments' ends are the counted starts. -/
theorem starts_small (v : S16.Idx) : (startW G v).toNat = start (goalOf G) 4096 (v 0).val := by
  have h := start_le (goalOf G) 4096 (v 0).val
  show (BitVec.ofNat 32 _).toNat = _
  rw [BitVec.toNat_ofNat]
  exact Nat.mod_eq_of_lt (by omega)

/-- A goal's first row is its counted start. -/
theorem lo_start (t : Fin k1_t1_loop.trips) : (loW (startW G) t).toNat = start (goalOf G) 4096 t.val := by
  rw [loW_eq, starts_small]; rfl

/-- The end of its rows is the next goal's counted start. -/
theorem hi_start (hG : GoalsOk G) (t : Fin k1_t1_loop.trips) : (hiW (startW G) t).toNat = start (goalOf G) 4096 (t.val + 1) := by
  have ht : t.val < 16 := (goalAt t).isLt
  rw [hiW_eq]
  split_ifs with h
  · rw [starts_small]; rfl
  · rw [show t.val + 1 = 16 by omega, start_all (goalOf G) fun n _ => hG.lt n]; rfl

/-- The goal of the `p`-th sorted row. -/
def goalRow (G : S4096.Idx → BitVec 32) (hG : GoalsOk G) (p : ℕ) : Fin 16 := ⟨goalOf G (tok (goalOf G) 4096 p), hG.lt _⟩

variable (hG : GoalsOk G) (i : grid1.Coords) (s : Staged Ideal) (hs : s.seg = startW G) (r : Fin 256) (k : Fin 128)

include hs

/-- After `n` goals a row of the first result's block holds its own goal's network if that goal has been met, zero otherwise. -/
theorem blockP_at (n : ℕ) (hn : n ≤ 16) : blockP i s n (ix2 r k)
    = if (goalRow G hG (256 * (i 0).val + r.val)).val < n then
        netOf s.pw1 s.pb1 s.pw2 s.pb2 (goalRow G hG (256 * (i 0).val + r.val)) (fun j => s.x (ix2 r j)) k
      else 0 := by
  have hp : 256 * (i 0).val + r.val < 4096 := by
    have hi : (i 0).val < 16 := (i 0).isLt
    have hr := r.isLt
    omega
  induction n with
  | zero =>
    rw [if_neg (Nat.not_lt_zero _)]
    show k1_pay2 (F := Ideal) (ix2 r k) = 0
    pointwise [k1_pay2]
  | succ n ih =>
    have hn' : n < k1_t1_loop.trips := lt_of_lt_of_le (Nat.lt_of_succ_le hn) (by decide)
    have e := blockP_succ i s ⟨n, hn'⟩
    have hl := lo_start (G := G) ⟨n, hn'⟩
    have hh := hi_start hG ⟨n, hn'⟩
    rw [← hs] at hl hh
    have l1 := start_le (goalOf G) 4096 n
    have l2 := start_le (goalOf G) 4096 (n + 1)
    refine (congrFun e _).trans ?_
    rw [tripP_at _ _ _ _ _ _ (hl ▸ l1) (hh ▸ l2), ih (by omega), hl, hh]
    have hi := goal_tok_iff (goalOf G) (v := n) hp
    by_cases hg : goalOf G (tok (goalOf G) 4096 (256 * (i 0).val + r.val)) = n
    · have eg : goalRow G hG (256 * (i 0).val + r.val) = goalAt ⟨n, hn'⟩ := Fin.ext hg
      rw [if_pos (hi.mp hg), eg]
      exact (if_pos (Nat.lt_succ_self n)).symm
    · rw [if_neg fun h => hg (hi.mpr h)]
      exact if_congr (by
        show goalOf G (tok (goalOf G) 4096 (256 * (i 0).val + r.val)) < n ↔ goalOf G (tok (goalOf G) 4096 (256 * (i 0).val + r.val)) < n + 1
        omega) rfl rfl

/-- After `n` goals a row of the second result's block holds its own goal's network if that goal has been met, zero otherwise. -/
theorem blockV_at (n : ℕ) (hn : n ≤ 16) : blockV i s n (ix2 r k)
    = if (goalRow G hG (256 * (i 0).val + r.val)).val < n then
        netOf s.vw1 s.vb1 s.vw2 s.vb2 (goalRow G hG (256 * (i 0).val + r.val)) (fun j => s.x (ix2 r j)) k
      else 0 := by
  have hp : 256 * (i 0).val + r.val < 4096 := by
    have hi : (i 0).val < 16 := (i 0).isLt
    have hr := r.isLt
    omega
  induction n with
  | zero =>
    rw [if_neg (Nat.not_lt_zero _)]
    show k1_pay3 (F := Ideal) (ix2 r k) = 0
    pointwise [k1_pay3]
  | succ n ih =>
    have hn' : n < k1_t1_loop.trips := lt_of_lt_of_le (Nat.lt_of_succ_le hn) (by decide)
    have e := blockV_succ i s ⟨n, hn'⟩
    have hl := lo_start (G := G) ⟨n, hn'⟩
    have hh := hi_start hG ⟨n, hn'⟩
    rw [← hs] at hl hh
    have l1 := start_le (goalOf G) 4096 n
    have l2 := start_le (goalOf G) 4096 (n + 1)
    refine (congrFun e _).trans ?_
    rw [tripV_at _ _ _ _ _ _ (hl ▸ l1) (hh ▸ l2), ih (by omega), hl, hh]
    have hi := goal_tok_iff (goalOf G) (v := n) hp
    by_cases hg : goalOf G (tok (goalOf G) 4096 (256 * (i 0).val + r.val)) = n
    · have eg : goalRow G hG (256 * (i 0).val + r.val) = goalAt ⟨n, hn'⟩ := Fin.ext hg
      rw [if_pos (hi.mp hg), eg]
      exact (if_pos (Nat.lt_succ_self n)).symm
    · rw [if_neg fun h => hg (hi.mpr h)]
      exact if_congr (by
        show goalOf G (tok (goalOf G) 4096 (256 * (i 0).val + r.val)) < n ↔ goalOf G (tok (goalOf G) 4096 (256 * (i 0).val + r.val)) < n + 1
        omega) rfl rfl

end Blocks

/-! ## What a point reads -/

section Reads

variable (c : Dev nD) (V : Cont Ideal c) (t : Fin cfg1.N)

/-- The grid's point `t` has coordinate `t`. -/
theorem point (t : Fin cfg1.N) : (grid1.coords t 0).val = t.val := by revert t; decide +kernel

/-! Which block each window stages: the weights and the starts whole, the operand and the results by rows. -/

/-- The block that a point stages of window 0. -/
theorem index_0 (t : Fin cfg1.N) : win1_0.index t = ![0] := by revert t; decide +kernel
/-- The block that a point stages of window 1. -/
theorem index_1 (t : Fin cfg1.N) : win1_1.index t = ![t.val, 0] := by revert t; decide +kernel
/-- The block that a point stages of window 10. -/
theorem index_10 (t : Fin cfg1.N) : win1_10.index t = ![t.val, 0] := by revert t; decide +kernel
/-- The block that a point stages of window 11. -/
theorem index_11 (t : Fin cfg1.N) : win1_11.index t = ![t.val, 0] := by revert t; decide +kernel
/-- The block that a point stages of window 2. -/
theorem index_2 (t : Fin cfg1.N) : win1_2.index t = ![0, 0, 0] := by revert t; decide +kernel
/-- The block that a point stages of window 3. -/
theorem index_3 (t : Fin cfg1.N) : win1_3.index t = ![0, 0, 0] := by revert t; decide +kernel
/-- The block that a point stages of window 4. -/
theorem index_4 (t : Fin cfg1.N) : win1_4.index t = ![0, 0, 0] := by revert t; decide +kernel
/-- The block that a point stages of window 5. -/
theorem index_5 (t : Fin cfg1.N) : win1_5.index t = ![0, 0, 0] := by revert t; decide +kernel
/-- The block that a point stages of window 6. -/
theorem index_6 (t : Fin cfg1.N) : win1_6.index t = ![0, 0, 0] := by revert t; decide +kernel
/-- The block that a point stages of window 7. -/
theorem index_7 (t : Fin cfg1.N) : win1_7.index t = ![0, 0, 0] := by revert t; decide +kernel
/-- The block that a point stages of window 8. -/
theorem index_8 (t : Fin cfg1.N) : win1_8.index t = ![0, 0, 0] := by revert t; decide +kernel
/-- The block that a point stages of window 9. -/
theorem index_9 (t : Fin cfg1.N) : win1_9.index t = ![0, 0, 0] := by revert t; decide +kernel

/-- A whole window's block starts at zero on every axis. -/
theorem whole_axis (a : Fin 3) (n m : ℕ) : (![0, 0, 0] : Fin 3 → ℕ) a * n + m = m := by
  have h : (![0, 0, 0] : Fin 3 → ℕ) a = 0 := by fin_cases a <;> rfl
  rw [h, Nat.zero_mul, Nat.zero_add]

/-- Every point stages the segments' starts whole. -/
theorem seg_read : (stagedAt c V t).seg = V main_v1_2 := by
  funext y
  show V main_v1_2 (((cfg1.win 0).blk t).view.emb y) = _
  refine congrArg (V main_v1_2) (funext fun a => Fin.ext ?_)
  blk_simp [index_0]
  fin_cases a
  exact Nat.zero_mul _ |>.symm ▸ Nat.zero_add _

/-- A point stages its own rows of the operand. -/
theorem x_read (r : Fin 256) (k : Fin 128) (h : 256 * t.val + r.val < 4096) : (stagedAt c V t).x (ix2 r k) = V main_v1_0 (ix2 ⟨256 * t.val + r.val, h⟩ k) := by
  show V main_v1_0 (((cfg1.win 1).blk t).view.emb (ix2 r k)) = _
  refine congrArg (V main_v1_0) (funext fun a => Fin.ext ?_)
  blk_simp [index_1]
  fin_cases a
  · show t.val * 256 + r.val = 256 * t.val + r.val; omega
  · show 0 * 128 + k.val = k.val; omega

/-! Every point stages the weights and the biases whole. -/

/-- A point stages this array whole. -/
theorem pw1_read : (stagedAt c V t).pw1 = V main_arg2 := by
  funext y
  show V main_arg2 (((cfg1.win 2).blk t).view.emb y) = _
  refine congrArg (V main_arg2) (funext fun a => Fin.ext ?_)
  blk_simp [index_2]
  exact whole_axis a _ _

/-- A point stages this array whole. -/
theorem pb1_read : (stagedAt c V t).pb1 = V main_v2 := by
  funext y
  show V main_v2 (((cfg1.win 3).blk t).view.emb y) = _
  refine congrArg (V main_v2) (funext fun a => Fin.ext ?_)
  blk_simp [index_3]
  exact whole_axis a _ _

/-- A point stages this array whole. -/
theorem pw2_read : (stagedAt c V t).pw2 = V main_arg4 := by
  funext y
  show V main_arg4 (((cfg1.win 4).blk t).view.emb y) = _
  refine congrArg (V main_arg4) (funext fun a => Fin.ext ?_)
  blk_simp [index_4]
  exact whole_axis a _ _

/-- A point stages this array whole. -/
theorem pb2_read : (stagedAt c V t).pb2 = V main_v3 := by
  funext y
  show V main_v3 (((cfg1.win 5).blk t).view.emb y) = _
  refine congrArg (V main_v3) (funext fun a => Fin.ext ?_)
  blk_simp [index_5]
  exact whole_axis a _ _

/-- A point stages this array whole. -/
theorem vw1_read : (stagedAt c V t).vw1 = V main_arg6 := by
  funext y
  show V main_arg6 (((cfg1.win 6).blk t).view.emb y) = _
  refine congrArg (V main_arg6) (funext fun a => Fin.ext ?_)
  blk_simp [index_6]
  exact whole_axis a _ _

/-- A point stages this array whole. -/
theorem vb1_read : (stagedAt c V t).vb1 = V main_v4 := by
  funext y
  show V main_v4 (((cfg1.win 7).blk t).view.emb y) = _
  refine congrArg (V main_v4) (funext fun a => Fin.ext ?_)
  blk_simp [index_7]
  exact whole_axis a _ _

/-- A point stages this array whole. -/
theorem vw2_read : (stagedAt c V t).vw2 = V main_arg8 := by
  funext y
  show V main_arg8 (((cfg1.win 8).blk t).view.emb y) = _
  refine congrArg (V main_arg8) (funext fun a => Fin.ext ?_)
  blk_simp [index_8]
  exact whole_axis a _ _

/-- A point stages this array whole. -/
theorem vb2_read : (stagedAt c V t).vb2 = V main_v5 := by
  funext y
  show V main_v5 (((cfg1.win 9).blk t).view.emb y) = _
  refine congrArg (V main_v5) (funext fun a => Fin.ext ?_)
  blk_simp [index_9]
  exact whole_axis a _ _

end Reads

/-! ## The two arrays -/

section Arrays

variable {G : S4096.Idx → BitVec 32} (hG : GoalsOk G) (c : Dev nD) (V : Cont Ideal c) (hseg : V main_v1_2 = startW G)

/-- The first result's array, the rows still sorted: each row the network of its own goal. -/
def netP : S4096x128.Idx → EReal := fun x =>
  netOf (V main_arg2) (V main_v2) (V main_arg4) (V main_v3) (goalRow G hG (x 0).val) (fun j => V main_v1_0 (ix2 (x 0) j)) (x 1)

include hseg in
/-- The first result's array after the region. -/
theorem outP_eq : outP c V = netP hG c V := by
  unfold outP
  refine (dat c V).arrAt_eq_of_covers 10 (netP hG c V) (by decide +kernel) fun t hf y => ?_
  show blockP (grid1.coords t) (stagedAt c V t) k1_t1_loop.trips y = netP hG c V (((cfg1.win 10).blk t).view.emb y)
  have ht : t.val < 16 := t.isLt
  have hr : (y 0).val < 256 := (y 0).isLt
  have e : ((cfg1.win 10).blk t).view.emb y = (ix2 ⟨256 * t.val + (y 0).val, by omega⟩ (y 1) : S4096x128.Idx) := by
    refine funext fun a => Fin.ext ?_
    blk_simp [index_10]
    fin_cases a
    · show t.val * 256 + (y 0).val = 256 * t.val + (y 0).val; omega
    · show 0 * 128 + (y 1).val = (y 1).val; omega
  have ey : y = ix2 (y 0) (y 1) := by
    refine funext fun a => ?_
    fin_cases a <;> rfl
  rw [e]
  refine (congrArg _ ey).trans ?_
  have h := blockP_at hG (grid1.coords t) (stagedAt c V t) ((seg_read c V t).trans hseg) (y 0) (y 1) 16 le_rfl
  rw [if_pos (goalRow G hG _).isLt, pw1_read, pb1_read, pw2_read, pb2_read, point] at h
  refine Eq.trans (show _ = blockP (grid1.coords t) (stagedAt c V t) 16 (ix2 (y 0) (y 1)) from rfl) (h.trans ?_)
  show _ = netOf _ _ _ _ _ (fun j => V main_v1_0 (ix2 ⟨256 * t.val + (y 0).val, by omega⟩ j)) (y 1)
  rw [show (fun j => (stagedAt c V t).x (ix2 (y 0) j)) = fun j => V main_v1_0 (ix2 ⟨256 * t.val + (y 0).val, by omega⟩ j) from
    funext fun j => x_read c V t (y 0) j (by omega)]
  rfl

/-- The second result's array, the rows still sorted: each row the network of its own goal. -/
def netV : S4096x128.Idx → EReal := fun x =>
  netOf (V main_arg6) (V main_v4) (V main_arg8) (V main_v5) (goalRow G hG (x 0).val) (fun j => V main_v1_0 (ix2 (x 0) j)) (x 1)

include hseg in
/-- The second result's array after the region. -/
theorem outV_eq : outV c V = netV hG c V := by
  unfold outV
  refine (dat c V).arrAt_eq_of_covers 11 (netV hG c V) (by decide +kernel) fun t hf y => ?_
  show blockV (grid1.coords t) (stagedAt c V t) k1_t1_loop.trips y = netV hG c V (((cfg1.win 11).blk t).view.emb y)
  have ht : t.val < 16 := t.isLt
  have hr : (y 0).val < 256 := (y 0).isLt
  have e : ((cfg1.win 11).blk t).view.emb y = (ix2 ⟨256 * t.val + (y 0).val, by omega⟩ (y 1) : S4096x128.Idx) := by
    refine funext fun a => Fin.ext ?_
    blk_simp [index_11]
    fin_cases a
    · show t.val * 256 + (y 0).val = 256 * t.val + (y 0).val; omega
    · show 0 * 128 + (y 1).val = (y 1).val; omega
  have ey : y = ix2 (y 0) (y 1) := by
    refine funext fun a => ?_
    fin_cases a <;> rfl
  rw [e]
  refine (congrArg _ ey).trans ?_
  have h := blockV_at hG (grid1.coords t) (stagedAt c V t) ((seg_read c V t).trans hseg) (y 0) (y 1) 16 le_rfl
  rw [if_pos (goalRow G hG _).isLt, vw1_read, vb1_read, vw2_read, vb2_read, point] at h
  refine Eq.trans (show _ = blockV (grid1.coords t) (stagedAt c V t) 16 (ix2 (y 0) (y 1)) from rfl) (h.trans ?_)
  show _ = netOf _ _ _ _ _ (fun j => V main_v1_0 (ix2 ⟨256 * t.val + (y 0).val, by omega⟩ j)) (y 1)
  rw [show (fun j => (stagedAt c V t).x (ix2 (y 0) j)) = fun j => V main_v1_0 (ix2 ⟨256 * t.val + (y 0).val, by omega⟩ j) from
    funext fun j => x_read c V t (y 0) j (by omega)]
  rfl

end Arrays

end Cert.Proof

end
-- ==== Proof.RefValue.lean ====
/-
  What the reference computes, over exact floats: for every row the networks of all sixteen goals, each kept where it is the
  row's own goal, summed.
-/
module

public import proofs.«01_k».proof.Proof.TripValue
public import proofs.«01_k».proof.Proof.Gen.ReferenceIdeal.Run

@[expose] public section

noncomputable section

namespace Cert.Proof

open Idealize.ShloMosaic

/-- What a row of a result should hold: out of the sixteen networks, the row's own goal's. -/
def answer (X : Cert.KernelIdeal.S4096x128.Idx → EReal) (Gl : Cert.KernelIdeal.S4096x1.Idx → BitVec 32) (W1 : Cert.KernelIdeal.S16x128x128.Idx → EReal)
    (b1 : Cert.KernelIdeal.S16x128.Idx → EReal) (W2 : Cert.KernelIdeal.S16x128x128.Idx → EReal) (b2 : Cert.KernelIdeal.S16x128.Idx → EReal) :
    Cert.KernelIdeal.S4096x128.Idx → EReal := fun x =>
  ∑ g : Fin 16, if Gl (ix2 (x 0) 0) = BitVec.ofNat 32 g.val then
    net (fun j k => W1 (ix3 g j k)) (fun k => b1 (ix2 g k)) (fun j k => W2 (ix3 g j k)) (fun k => b2 (ix2 g k)) (fun j => X (ix2 (x 0) j)) (x 1)
  else 0

open Cert.ReferenceIdeal Cert.ReferenceIdeal.Gen

/-- The reference's result as its operations give it. -/
def refOut (X : FVec Ideal S4096x128 .f32) (Gl : IVec S4096x1 32) (W1 : FVec Ideal S16x128x128 .f32) (b1 : FVec Ideal S16x128 .f32)
    (W2 : FVec Ideal S16x128x128 .f32) (b2 : FVec Ideal S16x128 .f32) : FVec Ideal S4096x128 .f32 :=
  Host.reduceAdd (select (broadcastInDim S16x4096x128 ![0, 1, 2] bcast_S16x4096x1_S16x4096x128_0_1_2 (cmpi .eq (broadcastInDim S16x4096x1 ![0, 1, 2] bcast_S1x4096x1_S16x4096x1_0_1_2 (broadcastInDim S1x4096x1 ![1] bcast_S4096_S1x4096x1_1 (shapeCast _ Gl shapeCasts_S4096x1_S4096))) (broadcastInDim S16x4096x1 ![0, 1, 2] bcast_S16x1x1_S16x4096x1_0_1_2 (broadcastInDim S16x1x1 ![0] bcast_S16_S16x1x1_0 (iotaInDim S16 32 0)))))
    (maximumf
    (addf (Host.dotGeneral dot_S16x4096x128_S16x128x128_S16x4096x128_2_1_1_2_0_0 none
    (maximumf
    (addf (transpose S16x4096x128 [0, 2, 1] (Host.dotGeneral dot_S16x128x128_S4096x128_S16x128x4096_1_1_02_0_n_n none W1 X) transposes_S16x128x4096_S16x4096x128_0_2_1) (broadcastInDim S16x4096x128 ![0, 1, 2] bcast_S16x1x128_S16x4096x128_0_1_2 (broadcastInDim S16x1x128 ![0, 2] bcast_S16x128_S16x1x128_0_2 b1))) (broadcastInDim S16x4096x128 ![] bcast_S_S16x4096x128 (constant S_ .f32 0x00000000#32))) W2) (broadcastInDim S16x4096x128 ![0, 1, 2] bcast_S16x1x128_S16x4096x128_0_1_2 (broadcastInDim S16x1x128 ![0, 2] bcast_S16x128_S16x1x128_0_2 b2))) (broadcastInDim S16x4096x128 ![] bcast_S_S16x4096x128 (constant S_ .f32 0x00000000#32))) (broadcastInDim S16x4096x128 ![] bcast_S_S16x4096x128 (id (constant S_ .f32 0x00000000#32)))) (constant S_ .f32 0x00000000#32) reducesTo_S16x4096x128_S4096x128_d0 h_S_

/-- The reference's result is the answer. -/
theorem ref_at (X : FVec Ideal S4096x128 .f32) (Gl : IVec S4096x1 32) (W1 : FVec Ideal S16x128x128 .f32) (b1 : FVec Ideal S16x128 .f32)
    (W2 : FVec Ideal S16x128x128 .f32) (b2 : FVec Ideal S16x128 .f32) (n : Fin 4096) (k : Fin 128) :
    refOut X Gl W1 b1 W2 b2 (ix2 n k) = answer X Gl W1 b1 W2 b2 (ix2 n k) := by
  unfold refOut
  pointwise
  have zero : (constant (F := Ideal) S_ .f32 0x00000000#32 ix0 : EReal) = 0 := by pointwise
  simp only [id, zero, WordCmp.cmpi_eq_eq]
  unfold answer net layer
  refine Finset.sum_congr rfl fun g _ => ?_
  simp only [mul_comm (W1 _) (X _)]
  by_cases h : Gl (ix2 n 0) = BitVec.ofNat 32 g.val
  · rw [decide_eq_true h]
    exact (if_pos h).symm
  · rw [decide_eq_false h]
    exact (if_neg h).symm

end Cert.Proof

end
-- ==== Proof.KernelValue.lean ====
/-
  What the kernel's results hold, over exact floats: a token's row is its own goal's network of its own features. The
  sort, the sorted networks and the way back cancel.
-/
module

public import proofs.«01_k».proof.Proof.BlockValue
public import proofs.«01_k».proof.Proof.RefValue
public import proofs.«01_k».proof.Proof.Frames

@[expose] public section

noncomputable section

namespace Cert.Proof

open Cert.KernelIdeal Cert.KernelIdeal.Gen
open Idealize.ShloMosaic
open Cert.Proof.Counting

variable (m : (ℓ : Loc nD τ sig) → Buf (Elt Ideal) ℓ) (d : Dev nD)

/-! ## What the region finds -/

/-- The region finds the segments' starts. -/
theorem found_starts : found m d main_v1_2 = startW (goals m d) :=
  (mem6_ne m d (by decide) (by decide) (by decide) (by decide)).trans (mem2_starts m d)

/-- The region finds the features sorted by goal. -/
theorem found_sorted : found m d main_v1_0 = sortedOf (goals m d) (feats m d) :=
  (mem6_ne m d (by decide) (by decide) (by decide) (by decide)).trans (mem2_sorted m d)

/-- An argument the region finds as it was. -/
theorem found_arg {b : Ref sig .tc} (h : b ∈ ([main_arg2, main_arg3, main_arg4, main_arg5, main_arg6, main_arg7, main_arg8, main_arg9] : List (Ref sig .tc))) :
    found m d b = m ((d.tc : Thread nD τ).loc b) := by
  have hn : ∀ r ∈ ([main_v0, main_v1_0, main_v1_1, main_v1_2, main_v2, main_v3, main_v4, main_v5] : List (Ref sig .tc)), b ≠ r := by
    revert b; decide
  exact (mem6_ne m d (hn _ (by simp)) (hn _ (by simp)) (hn _ (by simp)) (hn _ (by simp))).trans
    ((mem2_ne m d (hn _ (by simp)) (hn _ (by simp)) (hn _ (by simp))).trans (mem1_ne m d (hn _ (by simp))))

/-- The features are the first argument. -/
theorem feats_eq : feats m d = m ((d.tc : Thread nD τ).loc main_arg0) := mem1_ne m d (by decide)

/-- A bias with a unit axis put in, at an index. -/
theorem bias_at (b : Vec Ideal S16x128 .f32) (g : Fin 16) (k : Fin 128) : shapeCast S16x1x128 b shapeCasts_S16x128_S16x1x128 (ix3 g 0 k) = b (ix2 g k) := by
  pointwise

/-- A goal's network whose biases have a unit axis put in. -/
theorem net_bias (W1 : Vec Ideal S16x128x128 .f32) (b1 : Vec Ideal S16x128 .f32) (W2 : Vec Ideal S16x128x128 .f32) (b2 : Vec Ideal S16x128 .f32)
    (g : Fin 16) (x : Fin 128 → EReal) (k : Fin 128) :
    netOf W1 (shapeCast S16x1x128 b1 shapeCasts_S16x128_S16x1x128) W2 (shapeCast S16x1x128 b2 shapeCasts_S16x128_S16x1x128) g x k
      = net (fun j k => W1 (ix3 g j k)) (fun k => b1 (ix2 g k)) (fun j k => W2 (ix3 g j k)) (fun k => b2 (ix2 g k)) x k := by
  unfold netOf
  rw [funext (bias_at b1 g), funext (bias_at b2 g)]

/-! The four arrays of biases, with a unit axis put in. -/

/-- The region finds this array of biases with a unit axis put in. -/
theorem found_v2 : found m d main_v2 = shapeCast S16x1x128 (m ((d.tc : Thread nD τ).loc main_arg3) : Vec Ideal S16x128 .f32) shapeCasts_S16x128_S16x1x128 := by
  refine ((op5 (F := Ideal)).result_of_not_mem _ fun e => dr_ne (by decide : main_v2 ≠ main_v5) (Finset.mem_singleton.mp e)).trans ?_
  refine ((op4 (F := Ideal)).result_of_not_mem _ fun e => dr_ne (by decide : main_v2 ≠ main_v4) (Finset.mem_singleton.mp e)).trans ?_
  refine ((op3 (F := Ideal)).result_of_not_mem _ fun e => dr_ne (by decide : main_v2 ≠ main_v3) (Finset.mem_singleton.mp e)).trans ?_
  refine (StableHlo.reshape_result main_arg3 main_v2 (rfl : (.f32 : EltTy) = .f32) shapeCasts_S16x128_S16x1x128 (by decide) (by decide) (mem2 m d)).trans ?_
  refine Eq.trans (b := shapeCast S16x1x128 (mem2 m d (dr main_arg3) : Vec Ideal S16x128 .f32) shapeCasts_S16x128_S16x1x128) rfl ?_
  have e : mem2 m d (dr main_arg3) = m ((d.tc : Thread nD τ).loc main_arg3) := by
    exact (mem2_ne m d (by decide) (by decide) (by decide)).trans (mem1_ne m d (by decide))
  rw [e]

/-- The region finds this array of biases with a unit axis put in. -/
theorem found_v3 : found m d main_v3 = shapeCast S16x1x128 (m ((d.tc : Thread nD τ).loc main_arg5) : Vec Ideal S16x128 .f32) shapeCasts_S16x128_S16x1x128 := by
  refine ((op5 (F := Ideal)).result_of_not_mem _ fun e => dr_ne (by decide : main_v3 ≠ main_v5) (Finset.mem_singleton.mp e)).trans ?_
  refine ((op4 (F := Ideal)).result_of_not_mem _ fun e => dr_ne (by decide : main_v3 ≠ main_v4) (Finset.mem_singleton.mp e)).trans ?_
  refine (StableHlo.reshape_result main_arg5 main_v3 (rfl : (.f32 : EltTy) = .f32) shapeCasts_S16x128_S16x1x128 (by decide) (by decide) (mem3 m d)).trans ?_
  refine Eq.trans (b := shapeCast S16x1x128 (mem3 m d (dr main_arg5) : Vec Ideal S16x128 .f32) shapeCasts_S16x128_S16x1x128) rfl ?_
  have e : mem3 m d (dr main_arg5) = m ((d.tc : Thread nD τ).loc main_arg5) := by
    refine ((op2 (F := Ideal)).result_of_not_mem _ fun e => dr_ne (by decide : main_arg5 ≠ main_v2) (Finset.mem_singleton.mp e)).trans ?_
    exact (mem2_ne m d (by decide) (by decide) (by decide)).trans (mem1_ne m d (by decide))
  rw [e]

/-- The region finds this array of biases with a unit axis put in. -/
theorem found_v4 : found m d main_v4 = shapeCast S16x1x128 (m ((d.tc : Thread nD τ).loc main_arg7) : Vec Ideal S16x128 .f32) shapeCasts_S16x128_S16x1x128 := by
  refine ((op5 (F := Ideal)).result_of_not_mem _ fun e => dr_ne (by decide : main_v4 ≠ main_v5) (Finset.mem_singleton.mp e)).trans ?_
  refine (StableHlo.reshape_result main_arg7 main_v4 (rfl : (.f32 : EltTy) = .f32) shapeCasts_S16x128_S16x1x128 (by decide) (by decide) (mem4 m d)).trans ?_
  refine Eq.trans (b := shapeCast S16x1x128 (mem4 m d (dr main_arg7) : Vec Ideal S16x128 .f32) shapeCasts_S16x128_S16x1x128) rfl ?_
  have e : mem4 m d (dr main_arg7) = m ((d.tc : Thread nD τ).loc main_arg7) := by
    refine ((op3 (F := Ideal)).result_of_not_mem _ fun e => dr_ne (by decide : main_arg7 ≠ main_v3) (Finset.mem_singleton.mp e)).trans ?_
    refine ((op2 (F := Ideal)).result_of_not_mem _ fun e => dr_ne (by decide : main_arg7 ≠ main_v2) (Finset.mem_singleton.mp e)).trans ?_
    exact (mem2_ne m d (by decide) (by decide) (by decide)).trans (mem1_ne m d (by decide))
  rw [e]

/-- The region finds this array of biases with a unit axis put in. -/
theorem found_v5 : found m d main_v5 = shapeCast S16x1x128 (m ((d.tc : Thread nD τ).loc main_arg9) : Vec Ideal S16x128 .f32) shapeCasts_S16x128_S16x1x128 := by
  refine (StableHlo.reshape_result main_arg9 main_v5 (rfl : (.f32 : EltTy) = .f32) shapeCasts_S16x128_S16x1x128 (by decide) (by decide) (mem5 m d)).trans ?_
  refine Eq.trans (b := shapeCast S16x1x128 (mem5 m d (dr main_arg9) : Vec Ideal S16x128 .f32) shapeCasts_S16x128_S16x1x128) rfl ?_
  have e : mem5 m d (dr main_arg9) = m ((d.tc : Thread nD τ).loc main_arg9) := by
    refine ((op4 (F := Ideal)).result_of_not_mem _ fun e => dr_ne (by decide : main_arg9 ≠ main_v4) (Finset.mem_singleton.mp e)).trans ?_
    refine ((op3 (F := Ideal)).result_of_not_mem _ fun e => dr_ne (by decide : main_arg9 ≠ main_v3) (Finset.mem_singleton.mp e)).trans ?_
    refine ((op2 (F := Ideal)).result_of_not_mem _ fun e => dr_ne (by decide : main_arg9 ≠ main_v2) (Finset.mem_singleton.mp e)).trans ?_
    exact (mem2_ne m d (by decide) (by decide) (by decide)).trans (mem1_ne m d (by decide))
  rw [e]

/-! ## A token's row -/

section Row

variable (hG : GoalsOk (goals m d))

/-- The sorted row at a token's position is the token's. -/
theorem sorted_at (n : Fin 4096) (j : Fin 128) :
    found m d main_v1_0 (ix2 ⟨pos (goalOf (goals m d)) 4096 n.val, pos_lt _ n.isLt⟩ j) = (m ((d.tc : Thread nD τ).loc main_arg0) : S4096x128.Idx → EReal) (ix2 n j) := by
  rw [found_sorted, feats_eq]
  refine congrArg (m ((d.tc : Thread nD τ).loc main_arg0) : S4096x128.Idx → EReal) (ix_ext ?_ rfl)
  show (withRow (tok (goalOf (goals m d)) 4096 (pos (goalOf (goals m d)) 4096 n.val)) _ 0).val = n.val
  rw [tok_pos _ n.isLt, withRow_zero n.isLt]

/-- So is its goal. -/
theorem goal_at (n : Fin 4096) : goalRow (goals m d) hG (pos (goalOf (goals m d)) 4096 n.val) = ⟨goalOf (goals m d) n.val, hG.lt _⟩ :=
  Fin.ext (congrArg (goalOf (goals m d)) (tok_pos _ n.isLt))

/-- A token's goal is the word the second argument holds for it. -/
theorem goal_word (n : Fin 4096) : goalArg m d (ix2 n 0) = BitVec.ofNat 32 (goalOf (goals m d) n.val) := by
  have e : goals m d (tokIx n.val) = goalArg m d (ix2 n 0) := by
    have ht : tokIx n.val = ix1 n := by
      funext a; fin_cases a; exact Fin.ext (Nat.mod_eq_of_lt n.isLt)
    rw [goals_eq, ht]
    pointwise
  unfold goalOf
  rw [e, BitVec.ofNat_toNat, BitVec.setWidth_eq]

/-- Of sixteen summands picked by a goal's word, the goal's remains. -/
theorem pick (g : Fin 16) (f : Fin 16 → EReal) : (∑ h : Fin 16, if BitVec.ofNat 32 g.val = BitVec.ofNat 32 h.val then f h else 0) = f g := by
  rw [Finset.sum_eq_single g]
  · rw [if_pos rfl]
  · intro h _ hne
    refine if_neg fun e => hne ?_
    have e' := congrArg BitVec.toNat e
    have h1 := g.isLt
    have h2 := h.isLt
    rw [BitVec.toNat_ofNat, BitVec.toNat_ofNat] at e'
    exact Fin.ext (by omega)
  · intro h; exact absurd (Finset.mem_univ _) h

/-- Where the way back reads a token's row. -/
theorem back_row (x : S4096x128.Idx) :
    withRow (posOf (goals m d) (tokIx (x 0).val)).toNat x = ix2 ⟨pos (goalOf (goals m d)) 4096 (x 0).val, pos_lt _ (x 0).isLt⟩ (x 1) := by
  have hx : (x 0).val < 4096 := (x 0).isLt
  have ht : (tokIx (x 0).val 0).val = (x 0).val := Nat.mod_eq_of_lt hx
  refine ix_ext ?_ rfl
  show (withRow (BitVec.ofNat 32 (pos (goalOf (goals m d)) 4096 (tokIx (x 0).val 0).val)).toNat x 0).val = pos (goalOf (goals m d)) 4096 (x 0).val
  rw [ht, pos_toNat hx, withRow_zero (pos_lt _ hx)]

include hG in
/-- The first result is the answer. -/
theorem resultP : mem8 m d main_v7_0
    = answer (m ((d.tc : Thread nD τ).loc main_arg0)) (goalArg m d) (m ((d.tc : Thread nD τ).loc main_arg2)) (m ((d.tc : Thread nD τ).loc main_arg3))
        (m ((d.tc : Thread nD τ).loc main_arg4)) (m ((d.tc : Thread nD τ).loc main_arg5)) := by
  rw [mem8_P]
  funext x
  show sortP m d (withRow (posOf (goals m d) (tokIx (x 0).val)).toNat x) = _
  rw [back_row]
  unfold sortP
  rw [outP_eq hG d (found m d) (found_starts m d)]
  have hr : (fun j => found m d main_v1_0 (ix2 ⟨pos (goalOf (goals m d)) 4096 (x 0).val, pos_lt _ (x 0).isLt⟩ j))
      = fun j => (m ((d.tc : Thread nD τ).loc main_arg0) : S4096x128.Idx → EReal) (ix2 (x 0) j) := funext fun j => sorted_at m d (x 0) j
  have hg := goal_at m d hG (x 0)
  refine Eq.trans (b := netOf (found m d main_arg2) (found m d main_v2) (found m d main_arg4) (found m d main_v3)
    (goalRow (goals m d) hG (pos (goalOf (goals m d)) 4096 (x 0).val))
    (fun j => found m d main_v1_0 (ix2 ⟨pos (goalOf (goals m d)) 4096 (x 0).val, pos_lt _ (x 0).isLt⟩ j)) (x 1)) rfl ?_
  rw [hr, hg, found_v2, found_v3, found_arg m d (b := main_arg2) (by decide), found_arg m d (b := main_arg4) (by decide)]
  refine (net_bias _ _ _ _ _ _ _).trans ?_
  unfold answer
  simp only [goal_word m d (x 0)]
  exact (pick ⟨goalOf (goals m d) (x 0).val, hG.lt _⟩ (fun g => net (fun j k => (m ((d.tc : Thread nD τ).loc main_arg2) : S16x128x128.Idx → EReal) (ix3 g j k))
    (fun k => (m ((d.tc : Thread nD τ).loc main_arg3) : S16x128.Idx → EReal) (ix2 g k)) (fun j k => (m ((d.tc : Thread nD τ).loc main_arg4) : S16x128x128.Idx → EReal) (ix3 g j k))
    (fun k => (m ((d.tc : Thread nD τ).loc main_arg5) : S16x128.Idx → EReal) (ix2 g k)) (fun j => (m ((d.tc : Thread nD τ).loc main_arg0) : S4096x128.Idx → EReal) (ix2 (x 0) j)) (x 1))).symm

include hG in
/-- The second result is the answer. -/
theorem resultV : mem8 m d main_v7_1
    = answer (m ((d.tc : Thread nD τ).loc main_arg0)) (goalArg m d) (m ((d.tc : Thread nD τ).loc main_arg6)) (m ((d.tc : Thread nD τ).loc main_arg7))
        (m ((d.tc : Thread nD τ).loc main_arg8)) (m ((d.tc : Thread nD τ).loc main_arg9)) := by
  rw [mem8_V]
  funext x
  show sortV m d (withRow (posOf (goals m d) (tokIx (x 0).val)).toNat x) = _
  rw [back_row]
  unfold sortV
  rw [outV_eq hG d (found m d) (found_starts m d)]
  have hr : (fun j => found m d main_v1_0 (ix2 ⟨pos (goalOf (goals m d)) 4096 (x 0).val, pos_lt _ (x 0).isLt⟩ j))
      = fun j => (m ((d.tc : Thread nD τ).loc main_arg0) : S4096x128.Idx → EReal) (ix2 (x 0) j) := funext fun j => sorted_at m d (x 0) j
  have hg := goal_at m d hG (x 0)
  refine Eq.trans (b := netOf (found m d main_arg6) (found m d main_v4) (found m d main_arg8) (found m d main_v5)
    (goalRow (goals m d) hG (pos (goalOf (goals m d)) 4096 (x 0).val))
    (fun j => found m d main_v1_0 (ix2 ⟨pos (goalOf (goals m d)) 4096 (x 0).val, pos_lt _ (x 0).isLt⟩ j)) (x 1)) rfl ?_
  rw [hr, hg, found_v4, found_v5, found_arg m d (b := main_arg6) (by decide), found_arg m d (b := main_arg8) (by decide)]
  refine (net_bias _ _ _ _ _ _ _).trans ?_
  unfold answer
  simp only [goal_word m d (x 0)]
  exact (pick ⟨goalOf (goals m d) (x 0).val, hG.lt _⟩ (fun g => net (fun j k => (m ((d.tc : Thread nD τ).loc main_arg6) : S16x128x128.Idx → EReal) (ix3 g j k))
    (fun k => (m ((d.tc : Thread nD τ).loc main_arg7) : S16x128.Idx → EReal) (ix2 g k)) (fun j k => (m ((d.tc : Thread nD τ).loc main_arg8) : S16x128x128.Idx → EReal) (ix3 g j k))
    (fun k => (m ((d.tc : Thread nD τ).loc main_arg9) : S16x128.Idx → EReal) (ix2 g k)) (fun j => (m ((d.tc : Thread nD τ).loc main_arg0) : S4096x128.Idx → EReal) (ix2 (x 0) j)) (x 1))).symm

end Row

end Cert.Proof

end
-- ==== Proof.Algebraic.lean ====
/-
  The kernel and the reference compute the same results over exact floats.
-/
module

public import proofs.«01_k».proof.Proof.KernelValue

@[expose] public section

noncomputable section

namespace Cert.Proof

open Idealize.ShloMosaic

/-- What the reference's run leaves in a result is the answer. -/
theorem refOut_eq (X : Cert.KernelIdeal.S4096x128.Idx → EReal) (Gl : Cert.KernelIdeal.S4096x1.Idx → BitVec 32) (W1 : Cert.KernelIdeal.S16x128x128.Idx → EReal)
    (b1 : Cert.KernelIdeal.S16x128.Idx → EReal) (W2 : Cert.KernelIdeal.S16x128x128.Idx → EReal) (b2 : Cert.KernelIdeal.S16x128.Idx → EReal) :
    refOut X Gl W1 b1 W2 b2 = answer X Gl W1 b1 W2 b2 := by
  funext x
  have e : x = ix2 (x 0) (x 1) := by
    funext a; fin_cases a <;> rfl
  rw [e]
  exact ref_at X Gl W1 b1 W2 b2 (x 0) (x 1)

/-- Over exact floats both runs end with every result at the answer, and their arguments unchanged. -/
theorem algebraic : Cert.algebraic_KernelIdeal_ReferenceIdeal := by
  intro m g m' g' hpre hsame
  have hG : ∀ d, GoalsOk (goals m d) := fun d => goals_ok (F := Ideal) m d _ _ _ _ _ _ _ _ _ (hpre d)
  refine ⟨fun c => mem8 m c Cert.KernelIdeal.main_v7_0, fun c => mem8 m c Cert.KernelIdeal.main_v7_1, ?_, ?_⟩
  · have arg : ∀ {r : PUnit × MemSt Cert.KernelIdeal.nD Cert.KernelIdeal.τ Cert.KernelIdeal.sig (Elt Ideal)} (h : RunEnds m r) (c : Dev Cert.KernelIdeal.nD)
        {b : Ref Cert.KernelIdeal.sig .tc} (hb : b ∈ unsc)
        (ha : b ∈ [Cert.KernelIdeal.main_arg0, Cert.KernelIdeal.main_arg1, Cert.KernelIdeal.main_arg2, Cert.KernelIdeal.main_arg3, Cert.KernelIdeal.main_arg4,
          Cert.KernelIdeal.main_arg5, Cert.KernelIdeal.main_arg6, Cert.KernelIdeal.main_arg7, Cert.KernelIdeal.main_arg8, Cert.KernelIdeal.main_arg9]),
        r.2.mem ((c.tc : Thread Cert.KernelIdeal.nD Cert.KernelIdeal.τ).loc b) = m ((c.tc : Thread Cert.KernelIdeal.nD Cert.KernelIdeal.τ).loc b) :=
      fun h c _ hb ha => (h.1 c _ hb).trans (mem8_arg m c ha)
    refine (θ_run (Cert.KernelIdeal.defs (F := Ideal)) _ _).mono (fun r h c => ?_) (run_main m g hG)
    exact ⟨h.1 c _ (by decide), h.1 c _ (by decide), arg h c (by decide) (by decide), arg h c (by decide) (by decide), arg h c (by decide) (by decide),
      arg h c (by decide) (by decide), arg h c (by decide) (by decide), arg h c (by decide) (by decide), arg h c (by decide) (by decide),
      arg h c (by decide) (by decide), arg h c (by decide) (by decide), arg h c (by decide) (by decide)⟩
  · refine (θ_run Cert.ReferenceIdeal.defs _ _).mono (fun r h c => ?_) (Cert.ReferenceIdeal.Value.run (F := Ideal) m' g')
    obtain ⟨h0, h1, hargs⟩ := h c
    obtain ⟨e0, e1, e2, e3, e4, e5, e6, e7, e8, e9⟩ := hsame c
    refine ⟨h0.trans ?_, h1.trans ?_, hargs⟩
    · rw [e0, e1, e2, e3, e4, e5]
      exact (refOut_eq _ _ _ _ _ _).trans (resultP m c (hG c)).symm
    · rw [e0, e1, e6, e7, e8, e9]
      exact (refOut_eq _ _ _ _ _ _).trans (resultV m c (hG c)).symm

end Cert.Proof

end
-- ==== Proof.lean ====
/-
  The proof of the certificate's claim: the three frames, the kernel over exact floats being the kernel's own program, and
  the kernel's results being the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_goals_in_range
public import proofs.«01_k».proof.Proof.FrameKernel
public import proofs.«01_k».proof.Proof.Algebraic

@[expose] public section

noncomputable section

/-- Everything the certificate claims. -/
theorem Cert.Proof.claim : Cert.Claim :=
  ⟨Cert.Kernel.Gen.facts, Cert.KernelIdeal.Gen.facts, Cert.ReferenceIdeal.Gen.facts, Cert.Pre_goals_in_range.Gen.facts,
    Cert.Proof.frame_kernel, Cert.Proof.frame_kernelIdeal, Cert.Proof.frame_reference, trivial, Cert.Proof.algebraic⟩

end
